-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_in_vocab [hPre_finite_in_vocab : Cert.Pre_finite_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_vocab [hPre_finite_in_vocab : Cert.Pre_finite_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_in_vocab [hKernelIdeal : Cert.KernelIdeal.Facts] [hPre_finite_in_vocab : Cert.Pre_finite_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_vocab m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_in_vocab [hReferenceIdeal : Cert.ReferenceIdeal.Facts] [hPre_finite_in_vocab : Cert.Pre_finite_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_e_k" .f32 0xB74CD99A#32 ((-1 / 81900 : ℝ) : EReal)
  ∧ IdealRules.named_const.Statement Cert.KernelIdeal.κ "neg_gain" .f32 0xBF66659A#32 ((-73709 / 81900 : ℝ) : EReal)

def algebraic_KernelIdeal_ReferenceIdeal_pre_finite_in_vocab [hKernelIdeal : Cert.KernelIdeal.Facts] [hReferenceIdeal : Cert.ReferenceIdeal.Facts] [hPre_finite_in_vocab : Cert.Pre_finite_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocab : Cert.Pre_in_vocab.Facts) (hPre_finite_in_vocab : Cert.Pre_finite_in_vocab.Facts),
    quiescent_Kernel (hKernel := hKernel) (hPre_in_vocab := hPre_in_vocab)
    ∧ quiescent_KernelIdeal (hKernelIdeal := hKernelIdeal) (hPre_in_vocab := hPre_in_vocab)
    ∧ quiescent_KernelIdeal_pre_finite_in_vocab (hKernelIdeal := hKernelIdeal) (hPre_finite_in_vocab := hPre_finite_in_vocab)
    ∧ quiescent_ReferenceIdeal (hReferenceIdeal := hReferenceIdeal)
    ∧ quiescent_ReferenceIdeal_pre_finite_in_vocab (hReferenceIdeal := hReferenceIdeal) (hPre_finite_in_vocab := hPre_finite_in_vocab)
    ∧ preserves_Kernel_KernelIdeal
    ∧ algebraic_KernelIdeal_ReferenceIdeal_pre_finite_in_vocab (hKernelIdeal := hKernelIdeal) (hReferenceIdeal := hReferenceIdeal) (hPre_finite_in_vocab := hPre_finite_in_vocab)
-- ==== Pre_finite_in_vocab.lean ====
abbrev S4x1024x8192 : Shape := ⟨3, ![4, 1024, 8192]⟩
abbrev S4x1024 : Shape := ⟨2, ![4, 1024]⟩
abbrev S_ : Shape := ⟨0, ![]⟩

class Facts : Prop where
  bcast_S_S4x1024x8192 : S_.BroadcastsInDim S4x1024x8192 (![] : Fin 0 → Fin S4x1024x8192.rank)
  reducesTo_S4x1024x8192_S_d0_1_2 : S4x1024x8192.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S4x1024x8192 .f32) (main_arg1 : IVec S4x1024 32) : IVec S_ 1 :=
  let main_v0 : FVec F S4x1024x8192 .f32 := Host.absf main_arg0
  let main_cst : FVec F S_ .f32 := constant S_ .f32 0x7F800000#32
  let main_v1 : FVec F S4x1024x8192 .f32 := broadcastInDim S4x1024x8192 ![] bcast_S_S4x1024x8192 main_cst
  let main_v2 : IVec S4x1024x8192 1 := cmpf .olt main_v0 main_v1
  let main_c : IVec S_ 1 := constantI S_ 1 1#1
  let main_v3 : IVec S_ 1 := (fun x v => Host.reduce IntOp.andi x v reducesTo_S4x1024x8192_S_d0_1_2 h_S_) main_v2 main_c
  let main_c_0 : IVec S_ 32 := constantI S_ 32 0#32
  let main_v4 : IVec S4x1024 32 := broadcastInDim S4x1024 ![] bcast_S_S4x1024 main_c_0
  let main_v5 : IVec S4x1024 1 := cmpi .sge main_arg1 main_v4
  let main_c_1 : IVec S_ 32 := constantI S_ 32 8192#32
  let main_v6 : IVec S4x1024 32 := broadcastInDim S4x1024 ![] bcast_S_S4x1024 main_c_1
  let main_v7 : IVec S4x1024 1 := cmpi .slt main_arg1 main_v6
  let main_v8 : IVec S4x1024 1 := andi main_v5 main_v7
  let main_c_2 : IVec S_ 1 := constantI S_ 1 1#1
  let main_v9 : IVec S_ 1 := (fun x v => Host.reduce IntOp.andi x v reducesTo_S4x1024_S_d0_1 h_S_) main_v8 main_c_2
  let main_v10 : IVec S_ 1 := andi main_v3 main_v9
  main_v10
-- ==== Pre_in_vocab.lean ====
abbrev S4x1024x8192 : Shape := ⟨3, ![4, 1024, 8192]⟩
abbrev S4x1024 : Shape := ⟨2, ![4, 1024]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel

variable [Facts]

def fn {F : FTy → Type} [FloatOps F] (main_arg0 : FVec F S4x1024x8192 .f32) (main_arg1 : IVec S4x1024 32) : IVec S_ 1 :=
  let main_c : IVec S_ 32 := constantI S_ 32 0#32
  let main_v0 : IVec S4x1024 32 := broadcastInDim S4x1024 ![] bcast_S_S4x1024 main_c
  let main_v1 : IVec S4x1024 1 := cmpi .sge main_arg1 main_v0
  let main_c_0 : IVec S_ 32 := constantI S_ 32 8192#32
  let main_v2 : IVec S4x1024 32 := broadcastInDim S4x1024 ![] bcast_S_S4x1024 main_c_0
  let main_v3 : IVec S4x1024 1 := cmpi .slt main_arg1 main_v2
  let main_v4 : IVec S4x1024 1 := andi main_v1 main_v3
  let main_c_1 : IVec S_ 1 := constantI S_ 1 1#1
  let main_v5 : IVec S_ 1 := (fun x v => Host.reduce IntOp.andi x v reducesTo_S4x1024_S_d0_1 h_S_) main_v4 main_c_1
  main_v5
-- ==== Kernel.lean ====
abbrev S4x1024x8192 : Shape := ⟨3, ![4, 1024, 8192]⟩
abbrev S4x1024 : Shape := ⟨2, ![4, 1024]⟩
abbrev S4096x8192 : Shape := ⟨2, ![4096, 8192]⟩
abbrev S4096 : Shape := ⟨1, ![4096]⟩
abbrev S32x1x128 : Shape := ⟨3, ![32, 1, 128]⟩
abbrev S4096x128 : Shape := ⟨2, ![4096, 128]⟩
abbrev S128 : Shape := ⟨1, ![128]⟩
abbrev S2x32x8x128 : Shape := ⟨4, ![2, 32, 8, 128]⟩
abbrev S128x128 : Shape := ⟨2, ![128, 128]⟩
abbrev S_ : Shape := ⟨0, ![]⟩
abbrev S16 : Shape := ⟨1, ![16]⟩
abbrev S1 : Shape := ⟨1, ![1]⟩
abbrev S1x1x8x128 : Shape := ⟨4, ![1, 1, 8, 128]⟩
abbrev S8x128 : Shape := ⟨2, ![8, 128]⟩
abbrev S1x1x1x16 : Shape := ⟨4, ![1, 1, 1, 16]⟩
abbrev S1x16 : Shape := ⟨2, ![1, 16]⟩
abbrev S1x1 : Shape := ⟨2, ![1, 1]⟩
abbrev S8x128x8192 : Shape := ⟨3, ![8, 128, 8192]⟩
abbrev S8 : Shape := ⟨1, ![8]⟩
abbrev S1x128x8192 : Shape := ⟨3, ![1, 128, 8192]⟩
abbrev S128x8192 : Shape := ⟨2, ![128, 8192]⟩
abbrev S1x1x128 : Shape := ⟨3, ![1, 1, 128]⟩
abbrev S1x128 : Shape := ⟨2, ![1, 128]⟩
abbrev S32x128x128 : Shape := ⟨3, ![32, 128, 128]⟩
abbrev S32x128 : Shape := ⟨2, ![32, 128]⟩
abbrev S32x128x1 : Shape := ⟨3, ![32, 128, 1]⟩
abbrev S1x32x128 : Shape := ⟨3, ![1, 32, 128]⟩
abbrev S1x1x1 : Shape := ⟨3, ![1, 1, 1]⟩

abbrev nBuf : Table → Nat
  | .hbm => 12
  | .local .tc .vmem => 7
  | .local .scVector .vmem => 3
  | _ => 0

abbrev bufTy : (tb : Table) → Fin (nBuf tb) → BufTy
  | .hbm, ⟨0, _⟩ => ⟨S4x1024x8192, .f32⟩
  | .hbm, ⟨1, _⟩ => ⟨S4x1024, .i32⟩
  | .hbm, ⟨2, _⟩ => ⟨S4096x8192, .f32⟩
  | .hbm, ⟨3, _⟩ => ⟨S4096, .i32⟩
  | .hbm, ⟨4, _⟩ => ⟨S32x1x128, .i32⟩
  | .hbm, ⟨5, _⟩ => ⟨S4096x128, .f32⟩
  | .hbm, ⟨6, _⟩ => ⟨S1x1, .f32⟩
  | .hbm, ⟨7, _⟩ => ⟨S_, .f32⟩
  | .hbm, ⟨8, _⟩ => ⟨S32x128x128, .f32⟩
  | .hbm, ⟨9, _⟩ => ⟨S1x1, .f32⟩
  | .hbm, ⟨10, _⟩ => ⟨S1x1, .f32⟩
  | .hbm, ⟨11, _⟩ => ⟨S_, .f32⟩
  | .local .tc .vmem, ⟨0, _⟩ => ⟨S32x1x128, .i32⟩
  | .local .tc .vmem, ⟨1, _⟩ => ⟨S1x1, .f32⟩
  | .local .tc .vmem, ⟨2, _⟩ => ⟨S8x128x8192, .f32⟩
  | .local .tc .vmem, ⟨3, _⟩ => ⟨S32x1x128, .i32⟩
  | .local .tc .vmem, ⟨4, _⟩ => ⟨S32x128x128, .f32⟩
  | .local .tc .vmem, ⟨5, _⟩ => ⟨S1x1, .f32⟩
  | .local .tc .vmem, ⟨6, _⟩ => ⟨S1x1, .f32⟩
  | .local .scVector .vmem, ⟨0, _⟩ => ⟨S128, .i32⟩
  | .local .scVector .vmem, ⟨1, _⟩ => ⟨S2x32x8x128, .f32⟩
  | .local .scVector .vmem, ⟨2, _⟩ => ⟨S128x128, .f32⟩
  | _, _ => ⟨S4x1024x8192, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v0_scv : Ref sig .scVector := ⟨.hbm, 2, rfl⟩
abbrev main_v1_scv : Ref sig .scVector := ⟨.hbm, 3, rfl⟩
abbrev main_v3_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_scratch0 : Ref sig .tc := ⟨.vmem, 2, rfl⟩
abbrev cc2_stg0_0 : Ref sig .tc := ⟨.vmem, 3, rfl⟩
abbrev cc2_stg1_0 : Ref sig .tc := ⟨.vmem, 4, rfl⟩
abbrev cc2_stg2_0 : Ref sig .tc := ⟨.vmem, 5, rfl⟩
abbrev cc2_stg3_0 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem1_0 : DmaSem sig := 5
abbrev cc2_sem0_0 : DmaSem sig := 14
abbrev cc2_sem1_0 : DmaSem sig := 15
abbrev cc2_sem2_0 : DmaSem sig := 16
abbrev cc2_sem3_0 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_mult1 (v11 : BitVec 32) : BitVec 32 :=
  v11

def k0_off2 (i : grid0.Coords) (v11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let v9 : BitVec 32 := Scalar.addi v2 c0_i32
  let v12 : BitVec 32 := v11
  ![v9.toNat, v12.toNat]
def k0_mult2 (v21 : BitVec 32) : BitVec 32 :=
  v21

def k0_off3 (i : grid0.Coords) (v21 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_7 : BitVec 32 := 0#32
  let v19 : BitVec 32 := Scalar.addi v2 c0_i32_7
  let v22 : BitVec 32 := v21
  ![v19.toNat, v22.toNat]
def k0_mult3 (v31 : BitVec 32) : BitVec 32 :=
  v31

def k0_off4 (i : grid0.Coords) (v31 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_13 : BitVec 32 := 0#32
  let v29 : BitVec 32 := Scalar.addi v2 c0_i32_13
  let v32 : BitVec 32 := v31
  ![v29.toNat, v32.toNat]
def k0_mult4 (v41 : BitVec 32) : BitVec 32 :=
  v41

def k0_off5 (i : grid0.Coords) (v41 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_20 : BitVec 32 := 0#32
  let v39 : BitVec 32 := Scalar.addi v2 c0_i32_20
  let v42 : BitVec 32 := v41
  ![v39.toNat, v42.toNat]
def k0_mult5 (v51 : BitVec 32) : BitVec 32 :=
  v51

def k0_off6 (i : grid0.Coords) (v51 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_26 : BitVec 32 := 0#32
  let v49 : BitVec 32 := Scalar.addi v2 c0_i32_26
  let v52 : BitVec 32 := v51
  ![v49.toNat, v52.toNat]
def k0_mult6 (v61 : BitVec 32) : BitVec 32 :=
  v61

def k0_off7 (i : grid0.Coords) (v61 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_32 : BitVec 32 := 0#32
  let v59 : BitVec 32 := Scalar.addi v2 c0_i32_32
  let v62 : BitVec 32 := v61
  ![v59.toNat, v62.toNat]
def k0_mult7 (v71 : BitVec 32) : BitVec 32 :=
  v71

def k0_off8 (i : grid0.Coords) (v71 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_38 : BitVec 32 := 0#32
  let v69 : BitVec 32 := Scalar.addi v2 c0_i32_38
  let v72 : BitVec 32 := v71
  ![v69.toNat, v72.toNat]
def k0_mult8 (v81 : BitVec 32) : BitVec 32 :=
  v81

def k0_off9 (i : grid0.Coords) (v81 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_44 : BitVec 32 := 0#32
  let v79 : BitVec 32 := Scalar.addi v2 c0_i32_44
  let v82 : BitVec 32 := v81
  ![v79.toNat, v82.toNat]
def k0_mult9 (v91 : BitVec 32) : BitVec 32 :=
  v91

def k0_off10 (i : grid0.Coords) (v91 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32 : BitVec 32 := 8#32
  let v89 : BitVec 32 := Scalar.addi v2 c8_i32
  let v92 : BitVec 32 := v91
  ![v89.toNat, v92.toNat]
def k0_mult10 (v101 : BitVec 32) : BitVec 32 :=
  v101

def k0_off11 (i : grid0.Coords) (v101 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_57 : BitVec 32 := 8#32
  let v99 : BitVec 32 := Scalar.addi v2 c8_i32_57
  let v102 : BitVec 32 := v101
  ![v99.toNat, v102.toNat]
def k0_mult11 (v111 : BitVec 32) : BitVec 32 :=
  v111

def k0_off12 (i : grid0.Coords) (v111 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_63 : BitVec 32 := 8#32
  let v109 : BitVec 32 := Scalar.addi v2 c8_i32_63
  let v112 : BitVec 32 := v111
  ![v109.toNat, v112.toNat]
def k0_mult12 (v121 : BitVec 32) : BitVec 32 :=
  v121

def k0_off13 (i : grid0.Coords) (v121 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_69 : BitVec 32 := 8#32
  let v119 : BitVec 32 := Scalar.addi v2 c8_i32_69
  let v122 : BitVec 32 := v121
  ![v119.toNat, v122.toNat]
def k0_mult13 (v131 : BitVec 32) : BitVec 32 :=
  v131

def k0_off14 (i : grid0.Coords) (v131 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_75 : BitVec 32 := 8#32
  let v129 : BitVec 32 := Scalar.addi v2 c8_i32_75
  let v132 : BitVec 32 := v131
  ![v129.toNat, v132.toNat]
def k0_mult14 (v141 : BitVec 32) : BitVec 32 :=
  v141

def k0_off15 (i : grid0.Coords) (v141 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_81 : BitVec 32 := 8#32
  let v139 : BitVec 32 := Scalar.addi v2 c8_i32_81
  let v142 : BitVec 32 := v141
  ![v139.toNat, v142.toNat]
def k0_mult15 (v151 : BitVec 32) : BitVec 32 :=
  v151

def k0_off16 (i : grid0.Coords) (v151 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_87 : BitVec 32 := 8#32
  let v149 : BitVec 32 := Scalar.addi v2 c8_i32_87
  let v152 : BitVec 32 := v151
  ![v149.toNat, v152.toNat]
def k0_mult16 (v161 : BitVec 32) : BitVec 32 :=
  v161

def k0_off17 (i : grid0.Coords) (v161 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_93 : BitVec 32 := 8#32
  let v159 : BitVec 32 := Scalar.addi v2 c8_i32_93
  let v162 : BitVec 32 := v161
  ![v159.toNat, v162.toNat]
def k0_mult17 (v177 : BitVec 32) : BitVec 32 :=
  v177

def k0_off18 (i : grid0.Coords) (v177 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32 : BitVec 32 := 16#32
  let v175 : BitVec 32 := Scalar.addi v2 c16_i32
  let v178 : BitVec 32 := v177
  ![v175.toNat, v178.toNat]
def k0_mult18 (v187 : BitVec 32) : BitVec 32 :=
  v187

def k0_off19 (i : grid0.Coords) (v187 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_107 : BitVec 32 := 16#32
  let v185 : BitVec 32 := Scalar.addi v2 c16_i32_107
  let v188 : BitVec 32 := v187
  ![v185.toNat, v188.toNat]
def k0_mult19 (v197 : BitVec 32) : BitVec 32 :=
  v197

def k0_off20 (i : grid0.Coords) (v197 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_113 : BitVec 32 := 16#32
  let v195 : BitVec 32 := Scalar.addi v2 c16_i32_113
  let v198 : BitVec 32 := v197
  ![v195.toNat, v198.toNat]
def k0_mult20 (v207 : BitVec 32) : BitVec 32 :=
  v207

def k0_off21 (i : grid0.Coords) (v207 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_119 : BitVec 32 := 16#32
  let v205 : BitVec 32 := Scalar.addi v2 c16_i32_119
  let v208 : BitVec 32 := v207
  ![v205.toNat, v208.toNat]
def k0_mult21 (v217 : BitVec 32) : BitVec 32 :=
  v217

def k0_off22 (i : grid0.Coords) (v217 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_125 : BitVec 32 := 16#32
  let v215 : BitVec 32 := Scalar.addi v2 c16_i32_125
  let v218 : BitVec 32 := v217
  ![v215.toNat, v218.toNat]
def k0_mult22 (v227 : BitVec 32) : BitVec 32 :=
  v227

def k0_off23 (i : grid0.Coords) (v227 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_131 : BitVec 32 := 16#32
  let v225 : BitVec 32 := Scalar.addi v2 c16_i32_131
  let v228 : BitVec 32 := v227
  ![v225.toNat, v228.toNat]
def k0_mult23 (v237 : BitVec 32) : BitVec 32 :=
  v237

def k0_off24 (i : grid0.Coords) (v237 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_137 : BitVec 32 := 16#32
  let v235 : BitVec 32 := Scalar.addi v2 c16_i32_137
  let v238 : BitVec 32 := v237
  ![v235.toNat, v238.toNat]
def k0_mult24 (v247 : BitVec 32) : BitVec 32 :=
  v247

def k0_off25 (i : grid0.Coords) (v247 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_143 : BitVec 32 := 16#32
  let v245 : BitVec 32 := Scalar.addi v2 c16_i32_143
  let v248 : BitVec 32 := v247
  ![v245.toNat, v248.toNat]
def k0_mult25 (v257 : BitVec 32) : BitVec 32 :=
  v257

def k0_off26 (i : grid0.Coords) (v257 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32 : BitVec 32 := 24#32
  let v255 : BitVec 32 := Scalar.addi v2 c24_i32
  let v258 : BitVec 32 := v257
  ![v255.toNat, v258.toNat]
def k0_mult26 (v267 : BitVec 32) : BitVec 32 :=
  v267

def k0_off27 (i : grid0.Coords) (v267 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_155 : BitVec 32 := 24#32
  let v265 : BitVec 32 := Scalar.addi v2 c24_i32_155
  let v268 : BitVec 32 := v267
  ![v265.toNat, v268.toNat]
def k0_mult27 (v277 : BitVec 32) : BitVec 32 :=
  v277

def k0_off28 (i : grid0.Coords) (v277 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_161 : BitVec 32 := 24#32
  let v275 : BitVec 32 := Scalar.addi v2 c24_i32_161
  let v278 : BitVec 32 := v277
  ![v275.toNat, v278.toNat]
def k0_mult28 (v287 : BitVec 32) : BitVec 32 :=
  v287

def k0_off29 (i : grid0.Coords) (v287 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_167 : BitVec 32 := 24#32
  let v285 : BitVec 32 := Scalar.addi v2 c24_i32_167
  let v288 : BitVec 32 := v287
  ![v285.toNat, v288.toNat]
def k0_mult29 (v297 : BitVec 32) : BitVec 32 :=
  v297

def k0_off30 (i : grid0.Coords) (v297 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_173 : BitVec 32 := 24#32
  let v295 : BitVec 32 := Scalar.addi v2 c24_i32_173
  let v298 : BitVec 32 := v297
  ![v295.toNat, v298.toNat]
def k0_mult30 (v307 : BitVec 32) : BitVec 32 :=
  v307

def k0_off31 (i : grid0.Coords) (v307 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_179 : BitVec 32 := 24#32
  let v305 : BitVec 32 := Scalar.addi v2 c24_i32_179
  let v308 : BitVec 32 := v307
  ![v305.toNat, v308.toNat]
def k0_mult31 (v317 : BitVec 32) : BitVec 32 :=
  v317

def k0_off32 (i : grid0.Coords) (v317 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_185 : BitVec 32 := 24#32
  let v315 : BitVec 32 := Scalar.addi v2 c24_i32_185
  let v318 : BitVec 32 := v317
  ![v315.toNat, v318.toNat]
def k0_mult32 (v327 : BitVec 32) : BitVec 32 :=
  v327

def k0_off33 (i : grid0.Coords) (v327 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_191 : BitVec 32 := 24#32
  let v325 : BitVec 32 := Scalar.addi v2 c24_i32_191
  let v328 : BitVec 32 := v327
  ![v325.toNat, v328.toNat]
def k0_mult33 (v343 : BitVec 32) : BitVec 32 :=
  v343

def k0_off34 (i : grid0.Coords) (v343 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v341 : BitVec 32 := Scalar.addi v2 c32_i32
  let v344 : BitVec 32 := v343
  ![v341.toNat, v344.toNat]
def k0_mult34 (v353 : BitVec 32) : BitVec 32 :=
  v353

def k0_off35 (i : grid0.Coords) (v353 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_205 : BitVec 32 := 32#32
  let v351 : BitVec 32 := Scalar.addi v2 c32_i32_205
  let v354 : BitVec 32 := v353
  ![v351.toNat, v354.toNat]
def k0_mult35 (v363 : BitVec 32) : BitVec 32 :=
  v363

def k0_off36 (i : grid0.Coords) (v363 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_212 : BitVec 32 := 32#32
  let v361 : BitVec 32 := Scalar.addi v2 c32_i32_212
  let v364 : BitVec 32 := v363
  ![v361.toNat, v364.toNat]
def k0_mult36 (v373 : BitVec 32) : BitVec 32 :=
  v373

def k0_off37 (i : grid0.Coords) (v373 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_219 : BitVec 32 := 32#32
  let v371 : BitVec 32 := Scalar.addi v2 c32_i32_219
  let v374 : BitVec 32 := v373
  ![v371.toNat, v374.toNat]
def k0_mult37 (v383 : BitVec 32) : BitVec 32 :=
  v383

def k0_off38 (i : grid0.Coords) (v383 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_226 : BitVec 32 := 32#32
  let v381 : BitVec 32 := Scalar.addi v2 c32_i32_226
  let v384 : BitVec 32 := v383
  ![v381.toNat, v384.toNat]
def k0_mult38 (v393 : BitVec 32) : BitVec 32 :=
  v393

def k0_off39 (i : grid0.Coords) (v393 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_233 : BitVec 32 := 32#32
  let v391 : BitVec 32 := Scalar.addi v2 c32_i32_233
  let v394 : BitVec 32 := v393
  ![v391.toNat, v394.toNat]
def k0_mult39 (v403 : BitVec 32) : BitVec 32 :=
  v403

def k0_off40 (i : grid0.Coords) (v403 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_240 : BitVec 32 := 32#32
  let v401 : BitVec 32 := Scalar.addi v2 c32_i32_240
  let v404 : BitVec 32 := v403
  ![v401.toNat, v404.toNat]
def k0_mult40 (v413 : BitVec 32) : BitVec 32 :=
  v413

def k0_off41 (i : grid0.Coords) (v413 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_247 : BitVec 32 := 32#32
  let v411 : BitVec 32 := Scalar.addi v2 c32_i32_247
  let v414 : BitVec 32 := v413
  ![v411.toNat, v414.toNat]
def k0_mult41 (v423 : BitVec 32) : BitVec 32 :=
  v423

def k0_off42 (i : grid0.Coords) (v423 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32 : BitVec 32 := 40#32
  let v421 : BitVec 32 := Scalar.addi v2 c40_i32
  let v424 : BitVec 32 := v423
  ![v421.toNat, v424.toNat]
def k0_mult42 (v433 : BitVec 32) : BitVec 32 :=
  v433

def k0_off43 (i : grid0.Coords) (v433 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_260 : BitVec 32 := 40#32
  let v431 : BitVec 32 := Scalar.addi v2 c40_i32_260
  let v434 : BitVec 32 := v433
  ![v431.toNat, v434.toNat]
def k0_mult43 (v443 : BitVec 32) : BitVec 32 :=
  v443

def k0_off44 (i : grid0.Coords) (v443 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_267 : BitVec 32 := 40#32
  let v441 : BitVec 32 := Scalar.addi v2 c40_i32_267
  let v444 : BitVec 32 := v443
  ![v441.toNat, v444.toNat]
def k0_mult44 (v453 : BitVec 32) : BitVec 32 :=
  v453

def k0_off45 (i : grid0.Coords) (v453 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_274 : BitVec 32 := 40#32
  let v451 : BitVec 32 := Scalar.addi v2 c40_i32_274
  let v454 : BitVec 32 := v453
  ![v451.toNat, v454.toNat]
def k0_mult45 (v463 : BitVec 32) : BitVec 32 :=
  v463

def k0_off46 (i : grid0.Coords) (v463 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_281 : BitVec 32 := 40#32
  let v461 : BitVec 32 := Scalar.addi v2 c40_i32_281
  let v464 : BitVec 32 := v463
  ![v461.toNat, v464.toNat]
def k0_mult46 (v473 : BitVec 32) : BitVec 32 :=
  v473

def k0_off47 (i : grid0.Coords) (v473 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_288 : BitVec 32 := 40#32
  let v471 : BitVec 32 := Scalar.addi v2 c40_i32_288
  let v474 : BitVec 32 := v473
  ![v471.toNat, v474.toNat]
def k0_mult47 (v483 : BitVec 32) : BitVec 32 :=
  v483

def k0_off48 (i : grid0.Coords) (v483 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_295 : BitVec 32 := 40#32
  let v481 : BitVec 32 := Scalar.addi v2 c40_i32_295
  let v484 : BitVec 32 := v483
  ![v481.toNat, v484.toNat]
def k0_mult48 (v493 : BitVec 32) : BitVec 32 :=
  v493

def k0_off49 (i : grid0.Coords) (v493 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_302 : BitVec 32 := 40#32
  let v491 : BitVec 32 := Scalar.addi v2 c40_i32_302
  let v494 : BitVec 32 := v493
  ![v491.toNat, v494.toNat]
def k0_mult49 (v509 : BitVec 32) : BitVec 32 :=
  v509

def k0_off50 (i : grid0.Coords) (v509 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32 : BitVec 32 := 48#32
  let v507 : BitVec 32 := Scalar.addi v2 c48_i32
  let v510 : BitVec 32 := v509
  ![v507.toNat, v510.toNat]
def k0_mult50 (v519 : BitVec 32) : BitVec 32 :=
  v519

def k0_off51 (i : grid0.Coords) (v519 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_317 : BitVec 32 := 48#32
  let v517 : BitVec 32 := Scalar.addi v2 c48_i32_317
  let v520 : BitVec 32 := v519
  ![v517.toNat, v520.toNat]
def k0_mult51 (v529 : BitVec 32) : BitVec 32 :=
  v529

def k0_off52 (i : grid0.Coords) (v529 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_324 : BitVec 32 := 48#32
  let v527 : BitVec 32 := Scalar.addi v2 c48_i32_324
  let v530 : BitVec 32 := v529
  ![v527.toNat, v530.toNat]
def k0_mult52 (v539 : BitVec 32) : BitVec 32 :=
  v539

def k0_off53 (i : grid0.Coords) (v539 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_331 : BitVec 32 := 48#32
  let v537 : BitVec 32 := Scalar.addi v2 c48_i32_331
  let v540 : BitVec 32 := v539
  ![v537.toNat, v540.toNat]
def k0_mult53 (v549 : BitVec 32) : BitVec 32 :=
  v549

def k0_off54 (i : grid0.Coords) (v549 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_338 : BitVec 32 := 48#32
  let v547 : BitVec 32 := Scalar.addi v2 c48_i32_338
  let v550 : BitVec 32 := v549
  ![v547.toNat, v550.toNat]
def k0_mult54 (v559 : BitVec 32) : BitVec 32 :=
  v559

def k0_off55 (i : grid0.Coords) (v559 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_345 : BitVec 32 := 48#32
  let v557 : BitVec 32 := Scalar.addi v2 c48_i32_345
  let v560 : BitVec 32 := v559
  ![v557.toNat, v560.toNat]
def k0_mult55 (v569 : BitVec 32) : BitVec 32 :=
  v569

def k0_off56 (i : grid0.Coords) (v569 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_352 : BitVec 32 := 48#32
  let v567 : BitVec 32 := Scalar.addi v2 c48_i32_352
  let v570 : BitVec 32 := v569
  ![v567.toNat, v570.toNat]
def k0_mult56 (v579 : BitVec 32) : BitVec 32 :=
  v579

def k0_off57 (i : grid0.Coords) (v579 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_359 : BitVec 32 := 48#32
  let v577 : BitVec 32 := Scalar.addi v2 c48_i32_359
  let v580 : BitVec 32 := v579
  ![v577.toNat, v580.toNat]
def k0_mult57 (v589 : BitVec 32) : BitVec 32 :=
  v589

def k0_off58 (i : grid0.Coords) (v589 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32 : BitVec 32 := 56#32
  let v587 : BitVec 32 := Scalar.addi v2 c56_i32
  let v590 : BitVec 32 := v589
  ![v587.toNat, v590.toNat]
def k0_mult58 (v599 : BitVec 32) : BitVec 32 :=
  v599

def k0_off59 (i : grid0.Coords) (v599 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_372 : BitVec 32 := 56#32
  let v597 : BitVec 32 := Scalar.addi v2 c56_i32_372
  let v600 : BitVec 32 := v599
  ![v597.toNat, v600.toNat]
def k0_mult59 (v609 : BitVec 32) : BitVec 32 :=
  v609

def k0_off60 (i : grid0.Coords) (v609 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_379 : BitVec 32 := 56#32
  let v607 : BitVec 32 := Scalar.addi v2 c56_i32_379
  let v610 : BitVec 32 := v609
  ![v607.toNat, v610.toNat]
def k0_mult60 (v619 : BitVec 32) : BitVec 32 :=
  v619

def k0_off61 (i : grid0.Coords) (v619 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_386 : BitVec 32 := 56#32
  let v617 : BitVec 32 := Scalar.addi v2 c56_i32_386
  let v620 : BitVec 32 := v619
  ![v617.toNat, v620.toNat]
def k0_mult61 (v629 : BitVec 32) : BitVec 32 :=
  v629

def k0_off62 (i : grid0.Coords) (v629 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_393 : BitVec 32 := 56#32
  let v627 : BitVec 32 := Scalar.addi v2 c56_i32_393
  let v630 : BitVec 32 := v629
  ![v627.toNat, v630.toNat]
def k0_mult62 (v639 : BitVec 32) : BitVec 32 :=
  v639

def k0_off63 (i : grid0.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_400 : BitVec 32 := 56#32
  let v637 : BitVec 32 := Scalar.addi v2 c56_i32_400
  let v640 : BitVec 32 := v639
  ![v637.toNat, v640.toNat]
def k0_mult63 (v649 : BitVec 32) : BitVec 32 :=
  v649

def k0_off64 (i : grid0.Coords) (v649 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_407 : BitVec 32 := 56#32
  let v647 : BitVec 32 := Scalar.addi v2 c56_i32_407
  let v650 : BitVec 32 := v649
  ![v647.toNat, v650.toNat]
def k0_mult64 (v659 : BitVec 32) : BitVec 32 :=
  v659

def k0_off65 (i : grid0.Coords) (v659 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_414 : BitVec 32 := 56#32
  let v657 : BitVec 32 := Scalar.addi v2 c56_i32_414
  let v660 : BitVec 32 := v659
  ![v657.toNat, v660.toNat]
def k0_off66 (i : grid0.Coords) (v11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let v9 : BitVec 32 := Scalar.addi v2 c0_i32
  let v12 : BitVec 32 := v11
  ![v9.toNat, v12.toNat]

def k0_chk1 (i : grid0.Coords) (v11 : BitVec 32) : Prop :=
  (128 ∣ (k0_mult1 v11).toNat) ∧
  (∀ a, (k0_off2 i v11) a + S8x128.size a ≤ S4096x8192.size a) ∧
  (∀ a, (k0_off66 i v11) a + S8x128.size a ≤ S4096x8192.size a)
theorem k0_mult1_dvd : ∀ (i : grid0.Coords) (v11 : BitVec 32) (k0_hw1 : k0_chk1 i v11), 128 ∣ (k0_mult1 v11).toNat := fun i v11 k0_hw1 => k0_hw1.1
theorem k0_off2_inb : ∀ (i : grid0.Coords) (v11 : BitVec 32) (k0_hw1 : k0_chk1 i v11), ∀ a, (k0_off2 i v11) a + S8x128.size a ≤ S4096x8192.size a := fun i v11 k0_hw1 => k0_hw1.2.1
theorem k0_off66_inb : ∀ (i : grid0.Coords) (v11 : BitVec 32) (k0_hw1 : k0_chk1 i v11), ∀ a, (k0_off66 i v11) a + S8x128.size a ≤ S4096x8192.size a := fun i v11 k0_hw1 => k0_hw1.2.2

def k0_off67 (i : grid0.Coords) (v21 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_7 : BitVec 32 := 0#32
  let v19 : BitVec 32 := Scalar.addi v2 c0_i32_7
  let v22 : BitVec 32 := v21
  ![v19.toNat, v22.toNat]

def k0_chk2 (i : grid0.Coords) (v21 : BitVec 32) : Prop :=
  (128 ∣ (k0_mult2 v21).toNat) ∧
  (∀ a, (k0_off3 i v21) a + S8x128.size a ≤ S4096x8192.size a) ∧
  (∀ a, (k0_off67 i v21) a + S8x128.size a ≤ S4096x8192.size a)
theorem k0_mult2_dvd : ∀ (i : grid0.Coords) (v21 : BitVec 32) (k0_hw2 : k0_chk2 i v21), 128 ∣ (k0_mult2 v21).toNat := fun i v21 k0_hw2 => k0_hw2.1
theorem k0_off3_inb : ∀ (i : grid0.Coords) (v21 : BitVec 32) (k0_hw2 : k0_chk2 i v21), ∀ a, (k0_off3 i v21) a + S8x128.size a ≤ S4096x8192.size a := fun i v21 k0_hw2 => k0_hw2.2.1
theorem k0_off67_inb : ∀ (i : grid0.Coords) (v21 : BitVec 32) (k0_hw2 : k0_chk2 i v21), ∀ a, (k0_off67 i v21) a + S8x128.size a ≤ S4096x8192.size a := fun i v21 k0_hw2 => k0_hw2.2.2

def k0_off68 (i : grid0.Coords) (v31 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_13 : BitVec 32 := 0#32
  let v29 : BitVec 32 := Scalar.addi v2 c0_i32_13
  let v32 : BitVec 32 := v31
  ![v29.toNat, v32.toNat]

def k0_chk3 (i : grid0.Coords) (v31 : BitVec 32) : Prop :=
  (128 ∣ (k0_mult3 v31).toNat) ∧
  (∀ a, (k0_off4 i v31) a + S8x128.size a ≤ S4096x8192.size a) ∧
  (∀ a, (k0_off68 i v31) a + S8x128.size a ≤ S4096x8192.size a)
theorem k0_mult3_dvd : ∀ (i : grid0.Coords) (v31 : BitVec 32) (k0_hw3 : k0_chk3 i v31), 128 ∣ (k0_mult3 v31).toNat := fun i v31 k0_hw3 => k0_hw3.1
theorem k0_off4_inb : ∀ (i : grid0.Coords) (v31 : BitVec 32) (k0_hw3 : k0_chk3 i v31), ∀ a, (k0_off4 i v31) a + S8x128.size a ≤ S4096x8192.size a := fun i v31 k0_hw3 => k0_hw3.2.1
theorem k0_off68_inb : ∀ (i : grid0.Coords) (v31 : BitVec 32) (k0_hw3 : k0_chk3 i v31), ∀ a, (k0_off68 i v31) a + S8x128.size a ≤ S4096x8192.size a := fun i v31 k0_hw3 => k0_hw3.2.2

def k0_off69 (i : grid0.Coords) (v41 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_20 : BitVec 32 := 0#32
  let v39 : BitVec 32 := Scalar.addi v2 c0_i32_20
  let v42 : BitVec 32 := v41
  ![v39.toNat, v42.toNat]

def k0_chk4 (i : grid0.Coords) (v41 : BitVec 32) : Prop :=
  (128 ∣ (k0_mult4 v41).toNat) ∧
  (∀ a, (k0_off5 i v41) a + S8x128.size a ≤ S4096x8192.size a) ∧
  (∀ a, (k0_off69 i v41) a + S8x128.size a ≤ S4096x8192.size a)
theorem k0_mult4_dvd : ∀ (i : grid0.Coords) (v41 : BitVec 32) (k0_hw4 : k0_chk4 i v41), 128 ∣ (k0_mult4 v41).toNat := fun i v41 k0_hw4 => k0_hw4.1
theorem k0_off5_inb : ∀ (i : grid0.Coords) (v41 : BitVec 32) (k0_hw4 : k0_chk4 i v41), ∀ a, (k0_off5 i v41) a + S8x128.size a ≤ S4096x8192.size a := fun i v41 k0_hw4 => k0_hw4.2.1
theorem k0_off69_inb : ∀ (i : grid0.Coords) (v41 : BitVec 32) (k0_hw4 : k0_chk4 i v41), ∀ a, (k0_off69 i v41) a + S8x128.size a ≤ S4096x8192.size a := fun i v41 k0_hw4 => k0_hw4.2.2

def k0_off70 (i : grid0.Coords) (v51 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_26 : BitVec 32 := 0#32
  let v49 : BitVec 32 := Scalar.addi v2 c0_i32_26
  let v52 : BitVec 32 := v51
  ![v49.toNat, v52.toNat]

def k0_chk5 (i : grid0.Coords) (v51 : BitVec 32) : Prop :=
  (128 ∣ (k0_mult5 v51).toNat) ∧
  (∀ a, (k0_off6 i v51) a + S8x128.size a ≤ S4096x8192.size a) ∧
  (∀ a, (k0_off70 i v51) a + S8x128.size a ≤ S4096x8192.size a)
theorem k0_mult5_dvd : ∀ (i : grid0.Coords) (v51 : BitVec 32) (k0_hw5 : k0_chk5 i v51), 128 ∣ (k0_mult5 v51).toNat := fun i v51 k0_hw5 => k0_hw5.1
theorem k0_off6_inb : ∀ (i : grid0.Coords) (v51 : BitVec 32) (k0_hw5 : k0_chk5 i v51), ∀ a, (k0_off6 i v51) a + S8x128.size a ≤ S4096x8192.size a := fun i v51 k0_hw5 => k0_hw5.2.1
theorem k0_off70_inb : ∀ (i : grid0.Coords) (v51 : BitVec 32) (k0_hw5 : k0_chk5 i v51), ∀ a, (k0_off70 i v51) a + S8x128.size a ≤ S4096x8192.size a := fun i v51 k0_hw5 => k0_hw5.2.2

def k0_off71 (i : grid0.Coords) (v61 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_32 : BitVec 32 := 0#32
  let v59 : BitVec 32 := Scalar.addi v2 c0_i32_32
  let v62 : BitVec 32 := v61
  ![v59.toNat, v62.toNat]

def k0_chk6 (i : grid0.Coords) (v61 : BitVec 32) : Prop :=
  (128 ∣ (k0_mult6 v61).toNat) ∧
  (∀ a, (k0_off7 i v61) a + S8x128.size a ≤ S4096x8192.size a) ∧
  (∀ a, (k0_off71 i v61) a + S8x128.size a ≤ S4096x8192.size a)
theorem k0_mult6_dvd : ∀ (i : grid0.Coords) (v61 : BitVec 32) (k0_hw6 : k0_chk6 i v61), 128 ∣ (k0_mult6 v61).toNat := fun i v61 k0_hw6 => k0_hw6.1
theorem k0_off7_inb : ∀ (i : grid0.Coords) (v61 : BitVec 32) (k0_hw6 : k0_chk6 i v61), ∀ a, (k0_off7 i v61) a + S8x128.size a ≤ S4096x8192.size a := fun i v61 k0_hw6 => k0_hw6.2.1
theorem k0_off71_inb : ∀ (i : grid0.Coords) (v61 : BitVec 32) (k0_hw6 : k0_chk6 i v61), ∀ a, (k0_off71 i v61) a + S8x128.size a ≤ S4096x8192.size a := fun i v61 k0_hw6 => k0_hw6.2.2

def k0_off72 (i : grid0.Coords) (v71 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_38 : BitVec 32 := 0#32
  let v69 : BitVec 32 := Scalar.addi v2 c0_i32_38
  let v72 : BitVec 32 := v71
  ![v69.toNat, v72.toNat]

def k0_chk7 (i : grid0.Coords) (v71 : BitVec 32) : Prop :=
  (128 ∣ (k0_mult7 v71).toNat) ∧
  (∀ a, (k0_off8 i v71) a + S8x128.size a ≤ S4096x8192.size a) ∧
  (∀ a, (k0_off72 i v71) a + S8x128.size a ≤ S4096x8192.size a)
theorem k0_mult7_dvd : ∀ (i : grid0.Coords) (v71 : BitVec 32) (k0_hw7 : k0_chk7 i v71), 128 ∣ (k0_mult7 v71).toNat := fun i v71 k0_hw7 => k0_hw7.1
theorem k0_off8_inb : ∀ (i : grid0.Coords) (v71 : BitVec 32) (k0_hw7 : k0_chk7 i v71), ∀ a, (k0_off8 i v71) a + S8x128.size a ≤ S4096x8192.size a := fun i v71 k0_hw7 => k0_hw7.2.1
theorem k0_off72_inb : ∀ (i : grid0.Coords) (v71 : BitVec 32) (k0_hw7 : k0_chk7 i v71), ∀ a, (k0_off72 i v71) a + S8x128.size a ≤ S4096x8192.size a := fun i v71 k0_hw7 => k0_hw7.2.2

def k0_off73 (i : grid0.Coords) (v81 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_44 : BitVec 32 := 0#32
  let v79 : BitVec 32 := Scalar.addi v2 c0_i32_44
  let v82 : BitVec 32 := v81
  ![v79.toNat, v82.toNat]

def k0_chk8 (i : grid0.Coords) (v81 : BitVec 32) : Prop :=
  (128 ∣ (k0_mult8 v81).toNat) ∧
  (∀ a, (k0_off9 i v81) a + S8x128.size a ≤ S4096x8192.size a) ∧
  (∀ a, (k0_off73 i v81) a + S8x128.size a ≤ S4096x8192.size a)
theorem k0_mult8_dvd : ∀ (i : grid0.Coords) (v81 : BitVec 32) (k0_hw8 : k0_chk8 i v81), 128 ∣ (k0_mult8 v81).toNat := fun i v81 k0_hw8 => k0_hw8.1
theorem k0_off9_inb : ∀ (i : grid0.Coords) (v81 : BitVec 32) (k0_hw8 : k0_chk8 i v81), ∀ a, (k0_off9 i v81) a + S8x128.size a ≤ S4096x8192.size a := fun i v81 k0_hw8 => k0_hw8.2.1
theorem k0_off73_inb : ∀ (i : grid0.Coords) (v81 : BitVec 32) (k0_hw8 : k0_chk8 i v81), ∀ a, (k0_off73 i v81) a + S8x128.size a ≤ S4096x8192.size a := fun i v81 k0_hw8 => k0_hw8.2.2

def k0_off74 (i : grid0.Coords) (v91 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32 : BitVec 32 := 8#32
  let v89 : BitVec 32 := Scalar.addi v2 c8_i32
  let v92 : BitVec 32 := v91
  ![v89.toNat, v92.toNat]

def k0_chk9 (i : grid0.Coords) (v91 : BitVec 32) : Prop :=
  (128 ∣ (k0_mult9 v91).toNat) ∧
  (∀ a, (k0_off10 i v91) a + S8x128.size a ≤ S4096x8192.size a) ∧
  (∀ a, (k0_off74 i v91) a + S8x128.size a ≤ S4096x8192.size a)
theorem k0_mult9_dvd : ∀ (i : grid0.Coords) (v91 : BitVec 32) (k0_hw9 : k0_chk9 i v91), 128 ∣ (k0_mult9 v91).toNat := fun i v91 k0_hw9 => k0_hw9.1
theorem k0_off10_inb : ∀ (i : grid0.Coords) (v91 : BitVec 32) (k0_hw9 : k0_chk9 i v91), ∀ a, (k0_off10 i v91) a + S8x128.size a ≤ S4096x8192.size a := fun i v91 k0_hw9 => k0_hw9.2.1
theorem k0_off74_inb : ∀ (i : grid0.Coords) (v91 : BitVec 32) (k0_hw9 : k0_chk9 i v91), ∀ a, (k0_off74 i v91) a + S8x128.size a ≤ S4096x8192.size a := fun i v91 k0_hw9 => k0_hw9.2.2

def k0_off75 (i : grid0.Coords) (v101 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_57 : BitVec 32 := 8#32
  let v99 : BitVec 32 := Scalar.addi v2 c8_i32_57
  let v102 : BitVec 32 := v101
  ![v99.toNat, v102.toNat]

def k0_chk10 (i : grid0.Coords) (v101 : BitVec 32) : Prop :=
  (128 ∣ (k0_mult10 v101).toNat) ∧
  (∀ a, (k0_off11 i v101) a + S8x128.size a ≤ S4096x8192.size a) ∧
  (∀ a, (k0_off75 i v101) a + S8x128.size a ≤ S4096x8192.size a)
theorem k0_mult10_dvd : ∀ (i : grid0.Coords) (v101 : BitVec 32) (k0_hw10 : k0_chk10 i v101), 128 ∣ (k0_mult10 v101).toNat := fun i v101 k0_hw10 => k0_hw10.1
theorem k0_off11_inb : ∀ (i : grid0.Coords) (v101 : BitVec 32) (k0_hw10 : k0_chk10 i v101), ∀ a, (k0_off11 i v101) a + S8x128.size a ≤ S4096x8192.size a := fun i v101 k0_hw10 => k0_hw10.2.1
theorem k0_off75_inb : ∀ (i : grid0.Coords) (v101 : BitVec 32) (k0_hw10 : k0_chk10 i v101), ∀ a, (k0_off75 i v101) a + S8x128.size a ≤ S4096x8192.size a := fun i v101 k0_hw10 => k0_hw10.2.2

def k0_off76 (i : grid0.Coords) (v111 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_63 : BitVec 32 := 8#32
  let v109 : BitVec 32 := Scalar.addi v2 c8_i32_63
  let v112 : BitVec 32 := v111
  ![v109.toNat, v112.toNat]

def k0_chk11 (i : grid0.Coords) (v111 : BitVec 32) : Prop :=
  (128 ∣ (k0_mult11 v111).toNat) ∧
  (∀ a, (k0_off12 i v111) a + S8x128.size a ≤ S4096x8192.size a) ∧
  (∀ a, (k0_off76 i v111) a + S8x128.size a ≤ S4096x8192.size a)
theorem k0_mult11_dvd : ∀ (i : grid0.Coords) (v111 : BitVec 32) (k0_hw11 : k0_chk11 i v111), 128 ∣ (k0_mult11 v111).toNat := fun i v111 k0_hw11 => k0_hw11.1
theorem k0_off12_inb : ∀ (i : grid0.Coords) (v111 : BitVec 32) (k0_hw11 : k0_chk11 i v111), ∀ a, (k0_off12 i v111) a + S8x128.size a ≤ S4096x8192.size a := fun i v111 k0_hw11 => k0_hw11.2.1
theorem k0_off76_inb : ∀ (i : grid0.Coords) (v111 : BitVec 32) (k0_hw11 : k0_chk11 i v111), ∀ a, (k0_off76 i v111) a + S8x128.size a ≤ S4096x8192.size a := fun i v111 k0_hw11 => k0_hw11.2.2

def k0_off77 (i : grid0.Coords) (v121 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_69 : BitVec 32 := 8#32
  let v119 : BitVec 32 := Scalar.addi v2 c8_i32_69
  let v122 : BitVec 32 := v121
  ![v119.toNat, v122.toNat]

def k0_chk12 (i : grid0.Coords) (v121 : BitVec 32) : Prop :=
  (128 ∣ (k0_mult12 v121).toNat) ∧
  (∀ a, (k0_off13 i v121) a + S8x128.size a ≤ S4096x8192.size a) ∧
  (∀ a, (k0_off77 i v121) a + S8x128.size a ≤ S4096x8192.size a)
theorem k0_mult12_dvd : ∀ (i : grid0.Coords) (v121 : BitVec 32) (k0_hw12 : k0_chk12 i v121), 128 ∣ (k0_mult12 v121).toNat := fun i v121 k0_hw12 => k0_hw12.1
theorem k0_off13_inb : ∀ (i : grid0.Coords) (v121 : BitVec 32) (k0_hw12 : k0_chk12 i v121), ∀ a, (k0_off13 i v121) a + S8x128.size a ≤ S4096x8192.size a := fun i v121 k0_hw12 => k0_hw12.2.1
theorem k0_off77_inb : ∀ (i : grid0.Coords) (v121 : BitVec 32) (k0_hw12 : k0_chk12 i v121), ∀ a, (k0_off77 i v121) a + S8x128.size a ≤ S4096x8192.size a := fun i v121 k0_hw12 => k0_hw12.2.2

def k0_off78 (i : grid0.Coords) (v131 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_75 : BitVec 32 := 8#32
  let v129 : BitVec 32 := Scalar.addi v2 c8_i32_75
  let v132 : BitVec 32 := v131
  ![v129.toNat, v132.toNat]

def k0_chk13 (i : grid0.Coords) (v131 : BitVec 32) : Prop :=
  (128 ∣ (k0_mult13 v131).toNat) ∧
  (∀ a, (k0_off14 i v131) a + S8x128.size a ≤ S4096x8192.size a) ∧
  (∀ a, (k0_off78 i v131) a + S8x128.size a ≤ S4096x8192.size a)
theorem k0_mult13_dvd : ∀ (i : grid0.Coords) (v131 : BitVec 32) (k0_hw13 : k0_chk13 i v131), 128 ∣ (k0_mult13 v131).toNat := fun i v131 k0_hw13 => k0_hw13.1
theorem k0_off14_inb : ∀ (i : grid0.Coords) (v131 : BitVec 32) (k0_hw13 : k0_chk13 i v131), ∀ a, (k0_off14 i v131) a + S8x128.size a ≤ S4096x8192.size a := fun i v131 k0_hw13 => k0_hw13.2.1
theorem k0_off78_inb : ∀ (i : grid0.Coords) (v131 : BitVec 32) (k0_hw13 : k0_chk13 i v131), ∀ a, (k0_off78 i v131) a + S8x128.size a ≤ S4096x8192.size a := fun i v131 k0_hw13 => k0_hw13.2.2

def k0_off79 (i : grid0.Coords) (v141 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_81 : BitVec 32 := 8#32
  let v139 : BitVec 32 := Scalar.addi v2 c8_i32_81
  let v142 : BitVec 32 := v141
  ![v139.toNat, v142.toNat]

def k0_chk14 (i : grid0.Coords) (v141 : BitVec 32) : Prop :=
  (128 ∣ (k0_mult14 v141).toNat) ∧
  (∀ a, (k0_off15 i v141) a + S8x128.size a ≤ S4096x8192.size a) ∧
  (∀ a, (k0_off79 i v141) a + S8x128.size a ≤ S4096x8192.size a)
theorem k0_mult14_dvd : ∀ (i : grid0.Coords) (v141 : BitVec 32) (k0_hw14 : k0_chk14 i v141), 128 ∣ (k0_mult14 v141).toNat := fun i v141 k0_hw14 => k0_hw14.1
theorem k0_off15_inb : ∀ (i : grid0.Coords) (v141 : BitVec 32) (k0_hw14 : k0_chk14 i v141), ∀ a, (k0_off15 i v141) a + S8x128.size a ≤ S4096x8192.size a := fun i v141 k0_hw14 => k0_hw14.2.1
theorem k0_off79_inb : ∀ (i : grid0.Coords) (v141 : BitVec 32) (k0_hw14 : k0_chk14 i v141), ∀ a, (k0_off79 i v141) a + S8x128.size a ≤ S4096x8192.size a := fun i v141 k0_hw14 => k0_hw14.2.2

def k0_off80 (i : grid0.Coords) (v151 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_87 : BitVec 32 := 8#32
  let v149 : BitVec 32 := Scalar.addi v2 c8_i32_87
  let v152 : BitVec 32 := v151
  ![v149.toNat, v152.toNat]

def k0_chk15 (i : grid0.Coords) (v151 : BitVec 32) : Prop :=
  (128 ∣ (k0_mult15 v151).toNat) ∧
  (∀ a, (k0_off16 i v151) a + S8x128.size a ≤ S4096x8192.size a) ∧
  (∀ a, (k0_off80 i v151) a + S8x128.size a ≤ S4096x8192.size a)
theorem k0_mult15_dvd : ∀ (i : grid0.Coords) (v151 : BitVec 32) (k0_hw15 : k0_chk15 i v151), 128 ∣ (k0_mult15 v151).toNat := fun i v151 k0_hw15 => k0_hw15.1
theorem k0_off16_inb : ∀ (i : grid0.Coords) (v151 : BitVec 32) (k0_hw15 : k0_chk15 i v151), ∀ a, (k0_off16 i v151) a + S8x128.size a ≤ S4096x8192.size a := fun i v151 k0_hw15 => k0_hw15.2.1
theorem k0_off80_inb : ∀ (i : grid0.Coords) (v151 : BitVec 32) (k0_hw15 : k0_chk15 i v151), ∀ a, (k0_off80 i v151) a + S8x128.size a ≤ S4096x8192.size a := fun i v151 k0_hw15 => k0_hw15.2.2

def k0_off81 (i : grid0.Coords) (v161 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_93 : BitVec 32 := 8#32
  let v159 : BitVec 32 := Scalar.addi v2 c8_i32_93
  let v162 : BitVec 32 := v161
  ![v159.toNat, v162.toNat]

def k0_chk16 (i : grid0.Coords) (v161 : BitVec 32) : Prop :=
  (128 ∣ (k0_mult16 v161).toNat) ∧
  (∀ a, (k0_off17 i v161) a + S8x128.size a ≤ S4096x8192.size a) ∧
  (∀ a, (k0_off81 i v161) a + S8x128.size a ≤ S4096x8192.size a)
theorem k0_mult16_dvd : ∀ (i : grid0.Coords) (v161 : BitVec 32) (k0_hw16 : k0_chk16 i v161), 128 ∣ (k0_mult16 v161).toNat := fun i v161 k0_hw16 => k0_hw16.1
theorem k0_off17_inb : ∀ (i : grid0.Coords) (v161 : BitVec 32) (k0_hw16 : k0_chk16 i v161), ∀ a, (k0_off17 i v161) a + S8x128.size a ≤ S4096x8192.size a := fun i v161 k0_hw16 => k0_hw16.2.1
theorem k0_off81_inb : ∀ (i : grid0.Coords) (v161 : BitVec 32) (k0_hw16 : k0_chk16 i v161), ∀ a, (k0_off81 i v161) a + S8x128.size a ≤ S4096x8192.size a := fun i v161 k0_hw16 => k0_hw16.2.2

def k0_off82 (i : grid0.Coords) (v177 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32 : BitVec 32 := 16#32
  let v175 : BitVec 32 := Scalar.addi v2 c16_i32
  let v178 : BitVec 32 := v177
  ![v175.toNat, v178.toNat]

def k0_chk17 (i : grid0.Coords) (v177 : BitVec 32) : Prop :=
  (128 ∣ (k0_mult17 v177).toNat) ∧
  (∀ a, (k0_off18 i v177) a + S8x128.size a ≤ S4096x8192.size a) ∧
  (∀ a, (k0_off82 i v177) a + S8x128.size a ≤ S4096x8192.size a)
theorem k0_mult17_dvd : ∀ (i : grid0.Coords) (v177 : BitVec 32) (k0_hw17 : k0_chk17 i v177), 128 ∣ (k0_mult17 v177).toNat := fun i v177 k0_hw17 => k0_hw17.1
theorem k0_off18_inb : ∀ (i : grid0.Coords) (v177 : BitVec 32) (k0_hw17 : k0_chk17 i v177), ∀ a, (k0_off18 i v177) a + S8x128.size a ≤ S4096x8192.size a := fun i v177 k0_hw17 => k0_hw17.2.1
theorem k0_off82_inb : ∀ (i : grid0.Coords) (v177 : BitVec 32) (k0_hw17 : k0_chk17 i v177), ∀ a, (k0_off82 i v177) a + S8x128.size a ≤ S4096x8192.size a := fun i v177 k0_hw17 => k0_hw17.2.2

def k0_off83 (i : grid0.Coords) (v187 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_107 : BitVec 32 := 16#32
  let v185 : BitVec 32 := Scalar.addi v2 c16_i32_107
  let v188 : BitVec 32 := v187
  ![v185.toNat, v188.toNat]

def k0_chk18 (i : grid0.Coords) (v187 : BitVec 32) : Prop :=
  (128 ∣ (k0_mult18 v187).toNat) ∧
  (∀ a, (k0_off19 i v187) a + S8x128.size a ≤ S4096x8192.size a) ∧
  (∀ a, (k0_off83 i v187) a + S8x128.size a ≤ S4096x8192.size a)
theorem k0_mult18_dvd : ∀ (i : grid0.Coords) (v187 : BitVec 32) (k0_hw18 : k0_chk18 i v187), 128 ∣ (k0_mult18 v187).toNat := fun i v187 k0_hw18 => k0_hw18.1
theorem k0_off19_inb : ∀ (i : grid0.Coords) (v187 : BitVec 32) (k0_hw18 : k0_chk18 i v187), ∀ a, (k0_off19 i v187) a + S8x128.size a ≤ S4096x8192.size a := fun i v187 k0_hw18 => k0_hw18.2.1
theorem k0_off83_inb : ∀ (i : grid0.Coords) (v187 : BitVec 32) (k0_hw18 : k0_chk18 i v187), ∀ a, (k0_off83 i v187) a + S8x128.size a ≤ S4096x8192.size a := fun i v187 k0_hw18 => k0_hw18.2.2

def k0_off84 (i : grid0.Coords) (v197 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_113 : BitVec 32 := 16#32
  let v195 : BitVec 32 := Scalar.addi v2 c16_i32_113
  let v198 : BitVec 32 := v197
  ![v195.toNat, v198.toNat]

def k0_chk19 (i : grid0.Coords) (v197 : BitVec 32) : Prop :=
  (128 ∣ (k0_mult19 v197).toNat) ∧
  (∀ a, (k0_off20 i v197) a + S8x128.size a ≤ S4096x8192.size a) ∧
  (∀ a, (k0_off84 i v197) a + S8x128.size a ≤ S4096x8192.size a)
theorem k0_mult19_dvd : ∀ (i : grid0.Coords) (v197 : BitVec 32) (k0_hw19 : k0_chk19 i v197), 128 ∣ (k0_mult19 v197).toNat := fun i v197 k0_hw19 => k0_hw19.1
theorem k0_off20_inb : ∀ (i : grid0.Coords) (v197 : BitVec 32) (k0_hw19 : k0_chk19 i v197), ∀ a, (k0_off20 i v197) a + S8x128.size a ≤ S4096x8192.size a := fun i v197 k0_hw19 => k0_hw19.2.1
theorem k0_off84_inb : ∀ (i : grid0.Coords) (v197 : BitVec 32) (k0_hw19 : k0_chk19 i v197), ∀ a, (k0_off84 i v197) a + S8x128.size a ≤ S4096x8192.size a := fun i v197 k0_hw19 => k0_hw19.2.2

def k0_off85 (i : grid0.Coords) (v207 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_119 : BitVec 32 := 16#32
  let v205 : BitVec 32 := Scalar.addi v2 c16_i32_119
  let v208 : BitVec 32 := v207
  ![v205.toNat, v208.toNat]

def k0_chk20 (i : grid0.Coords) (v207 : BitVec 32) : Prop :=
  (128 ∣ (k0_mult20 v207).toNat) ∧
  (∀ a, (k0_off21 i v207) a + S8x128.size a ≤ S4096x8192.size a) ∧
  (∀ a, (k0_off85 i v207) a + S8x128.size a ≤ S4096x8192.size a)
theorem k0_mult20_dvd : ∀ (i : grid0.Coords) (v207 : BitVec 32) (k0_hw20 : k0_chk20 i v207), 128 ∣ (k0_mult20 v207).toNat := fun i v207 k0_hw20 => k0_hw20.1
theorem k0_off21_inb : ∀ (i : grid0.Coords) (v207 : BitVec 32) (k0_hw20 : k0_chk20 i v207), ∀ a, (k0_off21 i v207) a + S8x128.size a ≤ S4096x8192.size a := fun i v207 k0_hw20 => k0_hw20.2.1
theorem k0_off85_inb : ∀ (i : grid0.Coords) (v207 : BitVec 32) (k0_hw20 : k0_chk20 i v207), ∀ a, (k0_off85 i v207) a + S8x128.size a ≤ S4096x8192.size a := fun i v207 k0_hw20 => k0_hw20.2.2

def k0_off86 (i : grid0.Coords) (v217 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_125 : BitVec 32 := 16#32
  let v215 : BitVec 32 := Scalar.addi v2 c16_i32_125
  let v218 : BitVec 32 := v217
  ![v215.toNat, v218.toNat]

def k0_chk21 (i : grid0.Coords) (v217 : BitVec 32) : Prop :=
  (128 ∣ (k0_mult21 v217).toNat) ∧
  (∀ a, (k0_off22 i v217) a + S8x128.size a ≤ S4096x8192.size a) ∧
  (∀ a, (k0_off86 i v217) a + S8x128.size a ≤ S4096x8192.size a)
theorem k0_mult21_dvd : ∀ (i : grid0.Coords) (v217 : BitVec 32) (k0_hw21 : k0_chk21 i v217), 128 ∣ (k0_mult21 v217).toNat := fun i v217 k0_hw21 => k0_hw21.1
theorem k0_off22_inb : ∀ (i : grid0.Coords) (v217 : BitVec 32) (k0_hw21 : k0_chk21 i v217), ∀ a, (k0_off22 i v217) a + S8x128.size a ≤ S4096x8192.size a := fun i v217 k0_hw21 => k0_hw21.2.1
theorem k0_off86_inb : ∀ (i : grid0.Coords) (v217 : BitVec 32) (k0_hw21 : k0_chk21 i v217), ∀ a, (k0_off86 i v217) a + S8x128.size a ≤ S4096x8192.size a := fun i v217 k0_hw21 => k0_hw21.2.2

def k0_off87 (i : grid0.Coords) (v227 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_131 : BitVec 32 := 16#32
  let v225 : BitVec 32 := Scalar.addi v2 c16_i32_131
  let v228 : BitVec 32 := v227
  ![v225.toNat, v228.toNat]

def k0_chk22 (i : grid0.Coords) (v227 : BitVec 32) : Prop :=
  (128 ∣ (k0_mult22 v227).toNat) ∧
  (∀ a, (k0_off23 i v227) a + S8x128.size a ≤ S4096x8192.size a) ∧
  (∀ a, (k0_off87 i v227) a + S8x128.size a ≤ S4096x8192.size a)
theorem k0_mult22_dvd : ∀ (i : grid0.Coords) (v227 : BitVec 32) (k0_hw22 : k0_chk22 i v227), 128 ∣ (k0_mult22 v227).toNat := fun i v227 k0_hw22 => k0_hw22.1
theorem k0_off23_inb : ∀ (i : grid0.Coords) (v227 : BitVec 32) (k0_hw22 : k0_chk22 i v227), ∀ a, (k0_off23 i v227) a + S8x128.size a ≤ S4096x8192.size a := fun i v227 k0_hw22 => k0_hw22.2.1
theorem k0_off87_inb : ∀ (i : grid0.Coords) (v227 : BitVec 32) (k0_hw22 : k0_chk22 i v227), ∀ a, (k0_off87 i v227) a + S8x128.size a ≤ S4096x8192.size a := fun i v227 k0_hw22 => k0_hw22.2.2

def k0_off88 (i : grid0.Coords) (v237 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_137 : BitVec 32 := 16#32
  let v235 : BitVec 32 := Scalar.addi v2 c16_i32_137
  let v238 : BitVec 32 := v237
  ![v235.toNat, v238.toNat]

def k0_chk23 (i : grid0.Coords) (v237 : BitVec 32) : Prop :=
  (128 ∣ (k0_mult23 v237).toNat) ∧
  (∀ a, (k0_off24 i v237) a + S8x128.size a ≤ S4096x8192.size a) ∧
  (∀ a, (k0_off88 i v237) a + S8x128.size a ≤ S4096x8192.size a)
theorem k0_mult23_dvd : ∀ (i : grid0.Coords) (v237 : BitVec 32) (k0_hw23 : k0_chk23 i v237), 128 ∣ (k0_mult23 v237).toNat := fun i v237 k0_hw23 => k0_hw23.1
theorem k0_off24_inb : ∀ (i : grid0.Coords) (v237 : BitVec 32) (k0_hw23 : k0_chk23 i v237), ∀ a, (k0_off24 i v237) a + S8x128.size a ≤ S4096x8192.size a := fun i v237 k0_hw23 => k0_hw23.2.1
theorem k0_off88_inb : ∀ (i : grid0.Coords) (v237 : BitVec 32) (k0_hw23 : k0_chk23 i v237), ∀ a, (k0_off88 i v237) a + S8x128.size a ≤ S4096x8192.size a := fun i v237 k0_hw23 => k0_hw23.2.2

def k0_off89 (i : grid0.Coords) (v247 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_143 : BitVec 32 := 16#32
  let v245 : BitVec 32 := Scalar.addi v2 c16_i32_143
  let v248 : BitVec 32 := v247
  ![v245.toNat, v248.toNat]

def k0_chk24 (i : grid0.Coords) (v247 : BitVec 32) : Prop :=
  (128 ∣ (k0_mult24 v247).toNat) ∧
  (∀ a, (k0_off25 i v247) a + S8x128.size a ≤ S4096x8192.size a) ∧
  (∀ a, (k0_off89 i v247) a + S8x128.size a ≤ S4096x8192.size a)
theorem k0_mult24_dvd : ∀ (i : grid0.Coords) (v247 : BitVec 32) (k0_hw24 : k0_chk24 i v247), 128 ∣ (k0_mult24 v247).toNat := fun i v247 k0_hw24 => k0_hw24.1
theorem k0_off25_inb : ∀ (i : grid0.Coords) (v247 : BitVec 32) (k0_hw24 : k0_chk24 i v247), ∀ a, (k0_off25 i v247) a + S8x128.size a ≤ S4096x8192.size a := fun i v247 k0_hw24 => k0_hw24.2.1
theorem k0_off89_inb : ∀ (i : grid0.Coords) (v247 : BitVec 32) (k0_hw24 : k0_chk24 i v247), ∀ a, (k0_off89 i v247) a + S8x128.size a ≤ S4096x8192.size a := fun i v247 k0_hw24 => k0_hw24.2.2

def k0_off90 (i : grid0.Coords) (v257 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32 : BitVec 32 := 24#32
  let v255 : BitVec 32 := Scalar.addi v2 c24_i32
  let v258 : BitVec 32 := v257
  ![v255.toNat, v258.toNat]

def k0_chk25 (i : grid0.Coords) (v257 : BitVec 32) : Prop :=
  (128 ∣ (k0_mult25 v257).toNat) ∧
  (∀ a, (k0_off26 i v257) a + S8x128.size a ≤ S4096x8192.size a) ∧
  (∀ a, (k0_off90 i v257) a + S8x128.size a ≤ S4096x8192.size a)
theorem k0_mult25_dvd : ∀ (i : grid0.Coords) (v257 : BitVec 32) (k0_hw25 : k0_chk25 i v257), 128 ∣ (k0_mult25 v257).toNat := fun i v257 k0_hw25 => k0_hw25.1
theorem k0_off26_inb : ∀ (i : grid0.Coords) (v257 : BitVec 32) (k0_hw25 : k0_chk25 i v257), ∀ a, (k0_off26 i v257) a + S8x128.size a ≤ S4096x8192.size a := fun i v257 k0_hw25 => k0_hw25.2.1
theorem k0_off90_inb : ∀ (i : grid0.Coords) (v257 : BitVec 32) (k0_hw25 : k0_chk25 i v257), ∀ a, (k0_off90 i v257) a + S8x128.size a ≤ S4096x8192.size a := fun i v257 k0_hw25 => k0_hw25.2.2

def k0_off91 (i : grid0.Coords) (v267 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_155 : BitVec 32 := 24#32
  let v265 : BitVec 32 := Scalar.addi v2 c24_i32_155
  let v268 : BitVec 32 := v267
  ![v265.toNat, v268.toNat]

def k0_chk26 (i : grid0.Coords) (v267 : BitVec 32) : Prop :=
  (128 ∣ (k0_mult26 v267).toNat) ∧
  (∀ a, (k0_off27 i v267) a + S8x128.size a ≤ S4096x8192.size a) ∧
  (∀ a, (k0_off91 i v267) a + S8x128.size a ≤ S4096x8192.size a)
theorem k0_mult26_dvd : ∀ (i : grid0.Coords) (v267 : BitVec 32) (k0_hw26 : k0_chk26 i v267), 128 ∣ (k0_mult26 v267).toNat := fun i v267 k0_hw26 => k0_hw26.1
theorem k0_off27_inb : ∀ (i : grid0.Coords) (v267 : BitVec 32) (k0_hw26 : k0_chk26 i v267), ∀ a, (k0_off27 i v267) a + S8x128.size a ≤ S4096x8192.size a := fun i v267 k0_hw26 => k0_hw26.2.1
theorem k0_off91_inb : ∀ (i : grid0.Coords) (v267 : BitVec 32) (k0_hw26 : k0_chk26 i v267), ∀ a, (k0_off91 i v267) a + S8x128.size a ≤ S4096x8192.size a := fun i v267 k0_hw26 => k0_hw26.2.2

def k0_off92 (i : grid0.Coords) (v277 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_161 : BitVec 32 := 24#32
  let v275 : BitVec 32 := Scalar.addi v2 c24_i32_161
  let v278 : BitVec 32 := v277
  ![v275.toNat, v278.toNat]

def k0_chk27 (i : grid0.Coords) (v277 : BitVec 32) : Prop :=
  (128 ∣ (k0_mult27 v277).toNat) ∧
  (∀ a, (k0_off28 i v277) a + S8x128.size a ≤ S4096x8192.size a) ∧
  (∀ a, (k0_off92 i v277) a + S8x128.size a ≤ S4096x8192.size a)
theorem k0_mult27_dvd : ∀ (i : grid0.Coords) (v277 : BitVec 32) (k0_hw27 : k0_chk27 i v277), 128 ∣ (k0_mult27 v277).toNat := fun i v277 k0_hw27 => k0_hw27.1
theorem k0_off28_inb : ∀ (i : grid0.Coords) (v277 : BitVec 32) (k0_hw27 : k0_chk27 i v277), ∀ a, (k0_off28 i v277) a + S8x128.size a ≤ S4096x8192.size a := fun i v277 k0_hw27 => k0_hw27.2.1
theorem k0_off92_inb : ∀ (i : grid0.Coords) (v277 : BitVec 32) (k0_hw27 : k0_chk27 i v277), ∀ a, (k0_off92 i v277) a + S8x128.size a ≤ S4096x8192.size a := fun i v277 k0_hw27 => k0_hw27.2.2

def k0_off93 (i : grid0.Coords) (v287 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_167 : BitVec 32 := 24#32
  let v285 : BitVec 32 := Scalar.addi v2 c24_i32_167
  let v288 : BitVec 32 := v287
  ![v285.toNat, v288.toNat]

def k0_chk28 (i : grid0.Coords) (v287 : BitVec 32) : Prop :=
  (128 ∣ (k0_mult28 v287).toNat) ∧
  (∀ a, (k0_off29 i v287) a + S8x128.size a ≤ S4096x8192.size a) ∧
  (∀ a, (k0_off93 i v287) a + S8x128.size a ≤ S4096x8192.size a)
theorem k0_mult28_dvd : ∀ (i : grid0.Coords) (v287 : BitVec 32) (k0_hw28 : k0_chk28 i v287), 128 ∣ (k0_mult28 v287).toNat := fun i v287 k0_hw28 => k0_hw28.1
theorem k0_off29_inb : ∀ (i : grid0.Coords) (v287 : BitVec 32) (k0_hw28 : k0_chk28 i v287), ∀ a, (k0_off29 i v287) a + S8x128.size a ≤ S4096x8192.size a := fun i v287 k0_hw28 => k0_hw28.2.1
theorem k0_off93_inb : ∀ (i : grid0.Coords) (v287 : BitVec 32) (k0_hw28 : k0_chk28 i v287), ∀ a, (k0_off93 i v287) a + S8x128.size a ≤ S4096x8192.size a := fun i v287 k0_hw28 => k0_hw28.2.2

def k0_off94 (i : grid0.Coords) (v297 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_173 : BitVec 32 := 24#32
  let v295 : BitVec 32 := Scalar.addi v2 c24_i32_173
  let v298 : BitVec 32 := v297
  ![v295.toNat, v298.toNat]

def k0_chk29 (i : grid0.Coords) (v297 : BitVec 32) : Prop :=
  (128 ∣ (k0_mult29 v297).toNat) ∧
  (∀ a, (k0_off30 i v297) a + S8x128.size a ≤ S4096x8192.size a) ∧
  (∀ a, (k0_off94 i v297) a + S8x128.size a ≤ S4096x8192.size a)
theorem k0_mult29_dvd : ∀ (i : grid0.Coords) (v297 : BitVec 32) (k0_hw29 : k0_chk29 i v297), 128 ∣ (k0_mult29 v297).toNat := fun i v297 k0_hw29 => k0_hw29.1
theorem k0_off30_inb : ∀ (i : grid0.Coords) (v297 : BitVec 32) (k0_hw29 : k0_chk29 i v297), ∀ a, (k0_off30 i v297) a + S8x128.size a ≤ S4096x8192.size a := fun i v297 k0_hw29 => k0_hw29.2.1
theorem k0_off94_inb : ∀ (i : grid0.Coords) (v297 : BitVec 32) (k0_hw29 : k0_chk29 i v297), ∀ a, (k0_off94 i v297) a + S8x128.size a ≤ S4096x8192.size a := fun i v297 k0_hw29 => k0_hw29.2.2

def k0_off95 (i : grid0.Coords) (v307 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_179 : BitVec 32 := 24#32
  let v305 : BitVec 32 := Scalar.addi v2 c24_i32_179
  let v308 : BitVec 32 := v307
  ![v305.toNat, v308.toNat]

def k0_chk30 (i : grid0.Coords) (v307 : BitVec 32) : Prop :=
  (128 ∣ (k0_mult30 v307).toNat) ∧
  (∀ a, (k0_off31 i v307) a + S8x128.size a ≤ S4096x8192.size a) ∧
  (∀ a, (k0_off95 i v307) a + S8x128.size a ≤ S4096x8192.size a)
theorem k0_mult30_dvd : ∀ (i : grid0.Coords) (v307 : BitVec 32) (k0_hw30 : k0_chk30 i v307), 128 ∣ (k0_mult30 v307).toNat := fun i v307 k0_hw30 => k0_hw30.1
theorem k0_off31_inb : ∀ (i : grid0.Coords) (v307 : BitVec 32) (k0_hw30 : k0_chk30 i v307), ∀ a, (k0_off31 i v307) a + S8x128.size a ≤ S4096x8192.size a := fun i v307 k0_hw30 => k0_hw30.2.1
theorem k0_off95_inb : ∀ (i : grid0.Coords) (v307 : BitVec 32) (k0_hw30 : k0_chk30 i v307), ∀ a, (k0_off95 i v307) a + S8x128.size a ≤ S4096x8192.size a := fun i v307 k0_hw30 => k0_hw30.2.2

def k0_off96 (i : grid0.Coords) (v317 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_185 : BitVec 32 := 24#32
  let v315 : BitVec 32 := Scalar.addi v2 c24_i32_185
  let v318 : BitVec 32 := v317
  ![v315.toNat, v318.toNat]

def k0_chk31 (i : grid0.Coords) (v317 : BitVec 32) : Prop :=
  (128 ∣ (k0_mult31 v317).toNat) ∧
  (∀ a, (k0_off32 i v317) a + S8x128.size a ≤ S4096x8192.size a) ∧
  (∀ a, (k0_off96 i v317) a + S8x128.size a ≤ S4096x8192.size a)
theorem k0_mult31_dvd : ∀ (i : grid0.Coords) (v317 : BitVec 32) (k0_hw31 : k0_chk31 i v317), 128 ∣ (k0_mult31 v317).toNat := fun i v317 k0_hw31 => k0_hw31.1
theorem k0_off32_inb : ∀ (i : grid0.Coords) (v317 : BitVec 32) (k0_hw31 : k0_chk31 i v317), ∀ a, (k0_off32 i v317) a + S8x128.size a ≤ S4096x8192.size a := fun i v317 k0_hw31 => k0_hw31.2.1
theorem k0_off96_inb : ∀ (i : grid0.Coords) (v317 : BitVec 32) (k0_hw31 : k0_chk31 i v317), ∀ a, (k0_off96 i v317) a + S8x128.size a ≤ S4096x8192.size a := fun i v317 k0_hw31 => k0_hw31.2.2

def k0_off97 (i : grid0.Coords) (v327 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c24_i32_191 : BitVec 32 := 24#32
  let v325 : BitVec 32 := Scalar.addi v2 c24_i32_191
  let v328 : BitVec 32 := v327
  ![v325.toNat, v328.toNat]

def k0_chk32 (i : grid0.Coords) (v327 : BitVec 32) : Prop :=
  (128 ∣ (k0_mult32 v327).toNat) ∧
  (∀ a, (k0_off33 i v327) a + S8x128.size a ≤ S4096x8192.size a) ∧
  (∀ a, (k0_off97 i v327) a + S8x128.size a ≤ S4096x8192.size a)
theorem k0_mult32_dvd : ∀ (i : grid0.Coords) (v327 : BitVec 32) (k0_hw32 : k0_chk32 i v327), 128 ∣ (k0_mult32 v327).toNat := fun i v327 k0_hw32 => k0_hw32.1
theorem k0_off33_inb : ∀ (i : grid0.Coords) (v327 : BitVec 32) (k0_hw32 : k0_chk32 i v327), ∀ a, (k0_off33 i v327) a + S8x128.size a ≤ S4096x8192.size a := fun i v327 k0_hw32 => k0_hw32.2.1
theorem k0_off97_inb : ∀ (i : grid0.Coords) (v327 : BitVec 32) (k0_hw32 : k0_chk32 i v327), ∀ a, (k0_off97 i v327) a + S8x128.size a ≤ S4096x8192.size a := fun i v327 k0_hw32 => k0_hw32.2.2

def k0_mult65 (v3171 : BitVec 32) : BitVec 32 :=
  v3171

def k0_off98 (i : grid0.Coords) (v3171 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v3169 : BitVec 32 := Scalar.addi v2 c64_i32
  let v3172 : BitVec 32 := v3171
  ![v3169.toNat, v3172.toNat]
def k0_mult66 (v3181 : BitVec 32) : BitVec 32 :=
  v3181

def k0_off99 (i : grid0.Coords) (v3181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_2154 : BitVec 32 := 64#32
  let v3179 : BitVec 32 := Scalar.addi v2 c64_i32_2154
  let v3182 : BitVec 32 := v3181
  ![v3179.toNat, v3182.toNat]
def k0_mult67 (v3191 : BitVec 32) : BitVec 32 :=
  v3191

def k0_off100 (i : grid0.Coords) (v3191 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_2161 : BitVec 32 := 64#32
  let v3189 : BitVec 32 := Scalar.addi v2 c64_i32_2161
  let v3192 : BitVec 32 := v3191
  ![v3189.toNat, v3192.toNat]
def k0_mult68 (v3201 : BitVec 32) : BitVec 32 :=
  v3201

def k0_off101 (i : grid0.Coords) (v3201 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_2168 : BitVec 32 := 64#32
  let v3199 : BitVec 32 := Scalar.addi v2 c64_i32_2168
  let v3202 : BitVec 32 := v3201
  ![v3199.toNat, v3202.toNat]
def k0_mult69 (v3211 : BitVec 32) : BitVec 32 :=
  v3211

def k0_off102 (i : grid0.Coords) (v3211 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_2175 : BitVec 32 := 64#32
  let v3209 : BitVec 32 := Scalar.addi v2 c64_i32_2175
  let v3212 : BitVec 32 := v3211
  ![v3209.toNat, v3212.toNat]
def k0_mult70 (v3221 : BitVec 32) : BitVec 32 :=
  v3221

def k0_off103 (i : grid0.Coords) (v3221 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_2182 : BitVec 32 := 64#32
  let v3219 : BitVec 32 := Scalar.addi v2 c64_i32_2182
  let v3222 : BitVec 32 := v3221
  ![v3219.toNat, v3222.toNat]
def k0_mult71 (v3231 : BitVec 32) : BitVec 32 :=
  v3231

def k0_off104 (i : grid0.Coords) (v3231 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_2189 : BitVec 32 := 64#32
  let v3229 : BitVec 32 := Scalar.addi v2 c64_i32_2189
  let v3232 : BitVec 32 := v3231
  ![v3229.toNat, v3232.toNat]
def k0_mult72 (v3241 : BitVec 32) : BitVec 32 :=
  v3241

def k0_off105 (i : grid0.Coords) (v3241 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_2196 : BitVec 32 := 64#32
  let v3239 : BitVec 32 := Scalar.addi v2 c64_i32_2196
  let v3242 : BitVec 32 := v3241
  ![v3239.toNat, v3242.toNat]
def k0_mult73 (v3251 : BitVec 32) : BitVec 32 :=
  v3251

def k0_off106 (i : grid0.Coords) (v3251 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32 : BitVec 32 := 72#32
  let v3249 : BitVec 32 := Scalar.addi v2 c72_i32
  let v3252 : BitVec 32 := v3251
  ![v3249.toNat, v3252.toNat]
def k0_mult74 (v3261 : BitVec 32) : BitVec 32 :=
  v3261

def k0_off107 (i : grid0.Coords) (v3261 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_2209 : BitVec 32 := 72#32
  let v3259 : BitVec 32 := Scalar.addi v2 c72_i32_2209
  let v3262 : BitVec 32 := v3261
  ![v3259.toNat, v3262.toNat]
def k0_mult75 (v3271 : BitVec 32) : BitVec 32 :=
  v3271

def k0_off108 (i : grid0.Coords) (v3271 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_2216 : BitVec 32 := 72#32
  let v3269 : BitVec 32 := Scalar.addi v2 c72_i32_2216
  let v3272 : BitVec 32 := v3271
  ![v3269.toNat, v3272.toNat]
def k0_mult76 (v3281 : BitVec 32) : BitVec 32 :=
  v3281

def k0_off109 (i : grid0.Coords) (v3281 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_2223 : BitVec 32 := 72#32
  let v3279 : BitVec 32 := Scalar.addi v2 c72_i32_2223
  let v3282 : BitVec 32 := v3281
  ![v3279.toNat, v3282.toNat]
def k0_mult77 (v3291 : BitVec 32) : BitVec 32 :=
  v3291

def k0_off110 (i : grid0.Coords) (v3291 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_2230 : BitVec 32 := 72#32
  let v3289 : BitVec 32 := Scalar.addi v2 c72_i32_2230
  let v3292 : BitVec 32 := v3291
  ![v3289.toNat, v3292.toNat]
def k0_mult78 (v3301 : BitVec 32) : BitVec 32 :=
  v3301

def k0_off111 (i : grid0.Coords) (v3301 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_2237 : BitVec 32 := 72#32
  let v3299 : BitVec 32 := Scalar.addi v2 c72_i32_2237
  let v3302 : BitVec 32 := v3301
  ![v3299.toNat, v3302.toNat]
def k0_mult79 (v3311 : BitVec 32) : BitVec 32 :=
  v3311

def k0_off112 (i : grid0.Coords) (v3311 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_2244 : BitVec 32 := 72#32
  let v3309 : BitVec 32 := Scalar.addi v2 c72_i32_2244
  let v3312 : BitVec 32 := v3311
  ![v3309.toNat, v3312.toNat]
def k0_mult80 (v3321 : BitVec 32) : BitVec 32 :=
  v3321

def k0_off113 (i : grid0.Coords) (v3321 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_2251 : BitVec 32 := 72#32
  let v3319 : BitVec 32 := Scalar.addi v2 c72_i32_2251
  let v3322 : BitVec 32 := v3321
  ![v3319.toNat, v3322.toNat]
def k0_mult81 (v3337 : BitVec 32) : BitVec 32 :=
  v3337

def k0_off114 (i : grid0.Coords) (v3337 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32 : BitVec 32 := 80#32
  let v3335 : BitVec 32 := Scalar.addi v2 c80_i32
  let v3338 : BitVec 32 := v3337
  ![v3335.toNat, v3338.toNat]
def k0_mult82 (v3347 : BitVec 32) : BitVec 32 :=
  v3347

def k0_off115 (i : grid0.Coords) (v3347 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_2267 : BitVec 32 := 80#32
  let v3345 : BitVec 32 := Scalar.addi v2 c80_i32_2267
  let v3348 : BitVec 32 := v3347
  ![v3345.toNat, v3348.toNat]
def k0_mult83 (v3357 : BitVec 32) : BitVec 32 :=
  v3357

def k0_off116 (i : grid0.Coords) (v3357 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_2274 : BitVec 32 := 80#32
  let v3355 : BitVec 32 := Scalar.addi v2 c80_i32_2274
  let v3358 : BitVec 32 := v3357
  ![v3355.toNat, v3358.toNat]
def k0_mult84 (v3367 : BitVec 32) : BitVec 32 :=
  v3367

def k0_off117 (i : grid0.Coords) (v3367 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_2281 : BitVec 32 := 80#32
  let v3365 : BitVec 32 := Scalar.addi v2 c80_i32_2281
  let v3368 : BitVec 32 := v3367
  ![v3365.toNat, v3368.toNat]
def k0_mult85 (v3377 : BitVec 32) : BitVec 32 :=
  v3377

def k0_off118 (i : grid0.Coords) (v3377 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_2288 : BitVec 32 := 80#32
  let v3375 : BitVec 32 := Scalar.addi v2 c80_i32_2288
  let v3378 : BitVec 32 := v3377
  ![v3375.toNat, v3378.toNat]
def k0_mult86 (v3387 : BitVec 32) : BitVec 32 :=
  v3387

def k0_off119 (i : grid0.Coords) (v3387 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_2295 : BitVec 32 := 80#32
  let v3385 : BitVec 32 := Scalar.addi v2 c80_i32_2295
  let v3388 : BitVec 32 := v3387
  ![v3385.toNat, v3388.toNat]
def k0_mult87 (v3397 : BitVec 32) : BitVec 32 :=
  v3397

def k0_off120 (i : grid0.Coords) (v3397 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_2302 : BitVec 32 := 80#32
  let v3395 : BitVec 32 := Scalar.addi v2 c80_i32_2302
  let v3398 : BitVec 32 := v3397
  ![v3395.toNat, v3398.toNat]
def k0_mult88 (v3407 : BitVec 32) : BitVec 32 :=
  v3407

def k0_off121 (i : grid0.Coords) (v3407 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_2309 : BitVec 32 := 80#32
  let v3405 : BitVec 32 := Scalar.addi v2 c80_i32_2309
  let v3408 : BitVec 32 := v3407
  ![v3405.toNat, v3408.toNat]
def k0_mult89 (v3417 : BitVec 32) : BitVec 32 :=
  v3417

def k0_off122 (i : grid0.Coords) (v3417 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32 : BitVec 32 := 88#32
  let v3415 : BitVec 32 := Scalar.addi v2 c88_i32
  let v3418 : BitVec 32 := v3417
  ![v3415.toNat, v3418.toNat]
def k0_mult90 (v3427 : BitVec 32) : BitVec 32 :=
  v3427

def k0_off123 (i : grid0.Coords) (v3427 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_2322 : BitVec 32 := 88#32
  let v3425 : BitVec 32 := Scalar.addi v2 c88_i32_2322
  let v3428 : BitVec 32 := v3427
  ![v3425.toNat, v3428.toNat]
def k0_mult91 (v3437 : BitVec 32) : BitVec 32 :=
  v3437

def k0_off124 (i : grid0.Coords) (v3437 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_2329 : BitVec 32 := 88#32
  let v3435 : BitVec 32 := Scalar.addi v2 c88_i32_2329
  let v3438 : BitVec 32 := v3437
  ![v3435.toNat, v3438.toNat]
def k0_mult92 (v3447 : BitVec 32) : BitVec 32 :=
  v3447

def k0_off125 (i : grid0.Coords) (v3447 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_2336 : BitVec 32 := 88#32
  let v3445 : BitVec 32 := Scalar.addi v2 c88_i32_2336
  let v3448 : BitVec 32 := v3447
  ![v3445.toNat, v3448.toNat]
def k0_mult93 (v3457 : BitVec 32) : BitVec 32 :=
  v3457

def k0_off126 (i : grid0.Coords) (v3457 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_2343 : BitVec 32 := 88#32
  let v3455 : BitVec 32 := Scalar.addi v2 c88_i32_2343
  let v3458 : BitVec 32 := v3457
  ![v3455.toNat, v3458.toNat]
def k0_mult94 (v3467 : BitVec 32) : BitVec 32 :=
  v3467

def k0_off127 (i : grid0.Coords) (v3467 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_2350 : BitVec 32 := 88#32
  let v3465 : BitVec 32 := Scalar.addi v2 c88_i32_2350
  let v3468 : BitVec 32 := v3467
  ![v3465.toNat, v3468.toNat]
def k0_mult95 (v3477 : BitVec 32) : BitVec 32 :=
  v3477

def k0_off128 (i : grid0.Coords) (v3477 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_2357 : BitVec 32 := 88#32
  let v3475 : BitVec 32 := Scalar.addi v2 c88_i32_2357
  let v3478 : BitVec 32 := v3477
  ![v3475.toNat, v3478.toNat]
def k0_mult96 (v3487 : BitVec 32) : BitVec 32 :=
  v3487

def k0_off129 (i : grid0.Coords) (v3487 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_2364 : BitVec 32 := 88#32
  let v3485 : BitVec 32 := Scalar.addi v2 c88_i32_2364
  let v3488 : BitVec 32 := v3487
  ![v3485.toNat, v3488.toNat]
def k0_off130 (i : grid0.Coords) (v343 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v341 : BitVec 32 := Scalar.addi v2 c32_i32
  let v344 : BitVec 32 := v343
  ![v341.toNat, v344.toNat]

def k0_chk33 (i : grid0.Coords) (v343 : BitVec 32) : Prop :=
  (128 ∣ (k0_mult33 v343).toNat) ∧
  (∀ a, (k0_off34 i v343) a + S8x128.size a ≤ S4096x8192.size a) ∧
  (∀ a, (k0_off130 i v343) a + S8x128.size a ≤ S4096x8192.size a)
theorem k0_mult33_dvd : ∀ (i : grid0.Coords) (v343 : BitVec 32) (k0_hw33 : k0_chk33 i v343), 128 ∣ (k0_mult33 v343).toNat := fun i v343 k0_hw33 => k0_hw33.1
theorem k0_off34_inb : ∀ (i : grid0.Coords) (v343 : BitVec 32) (k0_hw33 : k0_chk33 i v343), ∀ a, (k0_off34 i v343) a + S8x128.size a ≤ S4096x8192.size a := fun i v343 k0_hw33 => k0_hw33.2.1
theorem k0_off130_inb : ∀ (i : grid0.Coords) (v343 : BitVec 32) (k0_hw33 : k0_chk33 i v343), ∀ a, (k0_off130 i v343) a + S8x128.size a ≤ S4096x8192.size a := fun i v343 k0_hw33 => k0_hw33.2.2

def k0_off131 (i : grid0.Coords) (v353 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_205 : BitVec 32 := 32#32
  let v351 : BitVec 32 := Scalar.addi v2 c32_i32_205
  let v354 : BitVec 32 := v353
  ![v351.toNat, v354.toNat]

def k0_chk34 (i : grid0.Coords) (v353 : BitVec 32) : Prop :=
  (128 ∣ (k0_mult34 v353).toNat) ∧
  (∀ a, (k0_off35 i v353) a + S8x128.size a ≤ S4096x8192.size a) ∧
  (∀ a, (k0_off131 i v353) a + S8x128.size a ≤ S4096x8192.size a)
theorem k0_mult34_dvd : ∀ (i : grid0.Coords) (v353 : BitVec 32) (k0_hw34 : k0_chk34 i v353), 128 ∣ (k0_mult34 v353).toNat := fun i v353 k0_hw34 => k0_hw34.1
theorem k0_off35_inb : ∀ (i : grid0.Coords) (v353 : BitVec 32) (k0_hw34 : k0_chk34 i v353), ∀ a, (k0_off35 i v353) a + S8x128.size a ≤ S4096x8192.size a := fun i v353 k0_hw34 => k0_hw34.2.1
theorem k0_off131_inb : ∀ (i : grid0.Coords) (v353 : BitVec 32) (k0_hw34 : k0_chk34 i v353), ∀ a, (k0_off131 i v353) a + S8x128.size a ≤ S4096x8192.size a := fun i v353 k0_hw34 => k0_hw34.2.2

def k0_off132 (i : grid0.Coords) (v363 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_212 : BitVec 32 := 32#32
  let v361 : BitVec 32 := Scalar.addi v2 c32_i32_212
  let v364 : BitVec 32 := v363
  ![v361.toNat, v364.toNat]

def k0_chk35 (i : grid0.Coords) (v363 : BitVec 32) : Prop :=
  (128 ∣ (k0_mult35 v363).toNat) ∧
  (∀ a, (k0_off36 i v363) a + S8x128.size a ≤ S4096x8192.size a) ∧
  (∀ a, (k0_off132 i v363) a + S8x128.size a ≤ S4096x8192.size a)
theorem k0_mult35_dvd : ∀ (i : grid0.Coords) (v363 : BitVec 32) (k0_hw35 : k0_chk35 i v363), 128 ∣ (k0_mult35 v363).toNat := fun i v363 k0_hw35 => k0_hw35.1
theorem k0_off36_inb : ∀ (i : grid0.Coords) (v363 : BitVec 32) (k0_hw35 : k0_chk35 i v363), ∀ a, (k0_off36 i v363) a + S8x128.size a ≤ S4096x8192.size a := fun i v363 k0_hw35 => k0_hw35.2.1
theorem k0_off132_inb : ∀ (i : grid0.Coords) (v363 : BitVec 32) (k0_hw35 : k0_chk35 i v363), ∀ a, (k0_off132 i v363) a + S8x128.size a ≤ S4096x8192.size a := fun i v363 k0_hw35 => k0_hw35.2.2

def k0_off133 (i : grid0.Coords) (v373 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_219 : BitVec 32 := 32#32
  let v371 : BitVec 32 := Scalar.addi v2 c32_i32_219
  let v374 : BitVec 32 := v373
  ![v371.toNat, v374.toNat]

def k0_chk36 (i : grid0.Coords) (v373 : BitVec 32) : Prop :=
  (128 ∣ (k0_mult36 v373).toNat) ∧
  (∀ a, (k0_off37 i v373) a + S8x128.size a ≤ S4096x8192.size a) ∧
  (∀ a, (k0_off133 i v373) a + S8x128.size a ≤ S4096x8192.size a)
theorem k0_mult36_dvd : ∀ (i : grid0.Coords) (v373 : BitVec 32) (k0_hw36 : k0_chk36 i v373), 128 ∣ (k0_mult36 v373).toNat := fun i v373 k0_hw36 => k0_hw36.1
theorem k0_off37_inb : ∀ (i : grid0.Coords) (v373 : BitVec 32) (k0_hw36 : k0_chk36 i v373), ∀ a, (k0_off37 i v373) a + S8x128.size a ≤ S4096x8192.size a := fun i v373 k0_hw36 => k0_hw36.2.1
theorem k0_off133_inb : ∀ (i : grid0.Coords) (v373 : BitVec 32) (k0_hw36 : k0_chk36 i v373), ∀ a, (k0_off133 i v373) a + S8x128.size a ≤ S4096x8192.size a := fun i v373 k0_hw36 => k0_hw36.2.2

def k0_off134 (i : grid0.Coords) (v383 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_226 : BitVec 32 := 32#32
  let v381 : BitVec 32 := Scalar.addi v2 c32_i32_226
  let v384 : BitVec 32 := v383
  ![v381.toNat, v384.toNat]

def k0_chk37 (i : grid0.Coords) (v383 : BitVec 32) : Prop :=
  (128 ∣ (k0_mult37 v383).toNat) ∧
  (∀ a, (k0_off38 i v383) a + S8x128.size a ≤ S4096x8192.size a) ∧
  (∀ a, (k0_off134 i v383) a + S8x128.size a ≤ S4096x8192.size a)
theorem k0_mult37_dvd : ∀ (i : grid0.Coords) (v383 : BitVec 32) (k0_hw37 : k0_chk37 i v383), 128 ∣ (k0_mult37 v383).toNat := fun i v383 k0_hw37 => k0_hw37.1
theorem k0_off38_inb : ∀ (i : grid0.Coords) (v383 : BitVec 32) (k0_hw37 : k0_chk37 i v383), ∀ a, (k0_off38 i v383) a + S8x128.size a ≤ S4096x8192.size a := fun i v383 k0_hw37 => k0_hw37.2.1
theorem k0_off134_inb : ∀ (i : grid0.Coords) (v383 : BitVec 32) (k0_hw37 : k0_chk37 i v383), ∀ a, (k0_off134 i v383) a + S8x128.size a ≤ S4096x8192.size a := fun i v383 k0_hw37 => k0_hw37.2.2

def k0_off135 (i : grid0.Coords) (v393 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_233 : BitVec 32 := 32#32
  let v391 : BitVec 32 := Scalar.addi v2 c32_i32_233
  let v394 : BitVec 32 := v393
  ![v391.toNat, v394.toNat]

def k0_chk38 (i : grid0.Coords) (v393 : BitVec 32) : Prop :=
  (128 ∣ (k0_mult38 v393).toNat) ∧
  (∀ a, (k0_off39 i v393) a + S8x128.size a ≤ S4096x8192.size a) ∧
  (∀ a, (k0_off135 i v393) a + S8x128.size a ≤ S4096x8192.size a)
theorem k0_mult38_dvd : ∀ (i : grid0.Coords) (v393 : BitVec 32) (k0_hw38 : k0_chk38 i v393), 128 ∣ (k0_mult38 v393).toNat := fun i v393 k0_hw38 => k0_hw38.1
theorem k0_off39_inb : ∀ (i : grid0.Coords) (v393 : BitVec 32) (k0_hw38 : k0_chk38 i v393), ∀ a, (k0_off39 i v393) a + S8x128.size a ≤ S4096x8192.size a := fun i v393 k0_hw38 => k0_hw38.2.1
theorem k0_off135_inb : ∀ (i : grid0.Coords) (v393 : BitVec 32) (k0_hw38 : k0_chk38 i v393), ∀ a, (k0_off135 i v393) a + S8x128.size a ≤ S4096x8192.size a := fun i v393 k0_hw38 => k0_hw38.2.2

def k0_off136 (i : grid0.Coords) (v403 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_240 : BitVec 32 := 32#32
  let v401 : BitVec 32 := Scalar.addi v2 c32_i32_240
  let v404 : BitVec 32 := v403
  ![v401.toNat, v404.toNat]

def k0_chk39 (i : grid0.Coords) (v403 : BitVec 32) : Prop :=
  (128 ∣ (k0_mult39 v403).toNat) ∧
  (∀ a, (k0_off40 i v403) a + S8x128.size a ≤ S4096x8192.size a) ∧
  (∀ a, (k0_off136 i v403) a + S8x128.size a ≤ S4096x8192.size a)
theorem k0_mult39_dvd : ∀ (i : grid0.Coords) (v403 : BitVec 32) (k0_hw39 : k0_chk39 i v403), 128 ∣ (k0_mult39 v403).toNat := fun i v403 k0_hw39 => k0_hw39.1
theorem k0_off40_inb : ∀ (i : grid0.Coords) (v403 : BitVec 32) (k0_hw39 : k0_chk39 i v403), ∀ a, (k0_off40 i v403) a + S8x128.size a ≤ S4096x8192.size a := fun i v403 k0_hw39 => k0_hw39.2.1
theorem k0_off136_inb : ∀ (i : grid0.Coords) (v403 : BitVec 32) (k0_hw39 : k0_chk39 i v403), ∀ a, (k0_off136 i v403) a + S8x128.size a ≤ S4096x8192.size a := fun i v403 k0_hw39 => k0_hw39.2.2

def k0_off137 (i : grid0.Coords) (v413 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_247 : BitVec 32 := 32#32
  let v411 : BitVec 32 := Scalar.addi v2 c32_i32_247
  let v414 : BitVec 32 := v413
  ![v411.toNat, v414.toNat]

def k0_chk40 (i : grid0.Coords) (v413 : BitVec 32) : Prop :=
  (128 ∣ (k0_mult40 v413).toNat) ∧
  (∀ a, (k0_off41 i v413) a + S8x128.size a ≤ S4096x8192.size a) ∧
  (∀ a, (k0_off137 i v413) a + S8x128.size a ≤ S4096x8192.size a)
theorem k0_mult40_dvd : ∀ (i : grid0.Coords) (v413 : BitVec 32) (k0_hw40 : k0_chk40 i v413), 128 ∣ (k0_mult40 v413).toNat := fun i v413 k0_hw40 => k0_hw40.1
theorem k0_off41_inb : ∀ (i : grid0.Coords) (v413 : BitVec 32) (k0_hw40 : k0_chk40 i v413), ∀ a, (k0_off41 i v413) a + S8x128.size a ≤ S4096x8192.size a := fun i v413 k0_hw40 => k0_hw40.2.1
theorem k0_off137_inb : ∀ (i : grid0.Coords) (v413 : BitVec 32) (k0_hw40 : k0_chk40 i v413), ∀ a, (k0_off137 i v413) a + S8x128.size a ≤ S4096x8192.size a := fun i v413 k0_hw40 => k0_hw40.2.2

def k0_off138 (i : grid0.Coords) (v423 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32 : BitVec 32 := 40#32
  let v421 : BitVec 32 := Scalar.addi v2 c40_i32
  let v424 : BitVec 32 := v423
  ![v421.toNat, v424.toNat]

def k0_chk41 (i : grid0.Coords) (v423 : BitVec 32) : Prop :=
  (128 ∣ (k0_mult41 v423).toNat) ∧
  (∀ a, (k0_off42 i v423) a + S8x128.size a ≤ S4096x8192.size a) ∧
  (∀ a, (k0_off138 i v423) a + S8x128.size a ≤ S4096x8192.size a)
theorem k0_mult41_dvd : ∀ (i : grid0.Coords) (v423 : BitVec 32) (k0_hw41 : k0_chk41 i v423), 128 ∣ (k0_mult41 v423).toNat := fun i v423 k0_hw41 => k0_hw41.1
theorem k0_off42_inb : ∀ (i : grid0.Coords) (v423 : BitVec 32) (k0_hw41 : k0_chk41 i v423), ∀ a, (k0_off42 i v423) a + S8x128.size a ≤ S4096x8192.size a := fun i v423 k0_hw41 => k0_hw41.2.1
theorem k0_off138_inb : ∀ (i : grid0.Coords) (v423 : BitVec 32) (k0_hw41 : k0_chk41 i v423), ∀ a, (k0_off138 i v423) a + S8x128.size a ≤ S4096x8192.size a := fun i v423 k0_hw41 => k0_hw41.2.2

def k0_off139 (i : grid0.Coords) (v433 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_260 : BitVec 32 := 40#32
  let v431 : BitVec 32 := Scalar.addi v2 c40_i32_260
  let v434 : BitVec 32 := v433
  ![v431.toNat, v434.toNat]

def k0_chk42 (i : grid0.Coords) (v433 : BitVec 32) : Prop :=
  (128 ∣ (k0_mult42 v433).toNat) ∧
  (∀ a, (k0_off43 i v433) a + S8x128.size a ≤ S4096x8192.size a) ∧
  (∀ a, (k0_off139 i v433) a + S8x128.size a ≤ S4096x8192.size a)
theorem k0_mult42_dvd : ∀ (i : grid0.Coords) (v433 : BitVec 32) (k0_hw42 : k0_chk42 i v433), 128 ∣ (k0_mult42 v433).toNat := fun i v433 k0_hw42 => k0_hw42.1
theorem k0_off43_inb : ∀ (i : grid0.Coords) (v433 : BitVec 32) (k0_hw42 : k0_chk42 i v433), ∀ a, (k0_off43 i v433) a + S8x128.size a ≤ S4096x8192.size a := fun i v433 k0_hw42 => k0_hw42.2.1
theorem k0_off139_inb : ∀ (i : grid0.Coords) (v433 : BitVec 32) (k0_hw42 : k0_chk42 i v433), ∀ a, (k0_off139 i v433) a + S8x128.size a ≤ S4096x8192.size a := fun i v433 k0_hw42 => k0_hw42.2.2

def k0_off140 (i : grid0.Coords) (v443 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_267 : BitVec 32 := 40#32
  let v441 : BitVec 32 := Scalar.addi v2 c40_i32_267
  let v444 : BitVec 32 := v443
  ![v441.toNat, v444.toNat]

def k0_chk43 (i : grid0.Coords) (v443 : BitVec 32) : Prop :=
  (128 ∣ (k0_mult43 v443).toNat) ∧
  (∀ a, (k0_off44 i v443) a + S8x128.size a ≤ S4096x8192.size a) ∧
  (∀ a, (k0_off140 i v443) a + S8x128.size a ≤ S4096x8192.size a)
theorem k0_mult43_dvd : ∀ (i : grid0.Coords) (v443 : BitVec 32) (k0_hw43 : k0_chk43 i v443), 128 ∣ (k0_mult43 v443).toNat := fun i v443 k0_hw43 => k0_hw43.1
theorem k0_off44_inb : ∀ (i : grid0.Coords) (v443 : BitVec 32) (k0_hw43 : k0_chk43 i v443), ∀ a, (k0_off44 i v443) a + S8x128.size a ≤ S4096x8192.size a := fun i v443 k0_hw43 => k0_hw43.2.1
theorem k0_off140_inb : ∀ (i : grid0.Coords) (v443 : BitVec 32) (k0_hw43 : k0_chk43 i v443), ∀ a, (k0_off140 i v443) a + S8x128.size a ≤ S4096x8192.size a := fun i v443 k0_hw43 => k0_hw43.2.2

def k0_off141 (i : grid0.Coords) (v453 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_274 : BitVec 32 := 40#32
  let v451 : BitVec 32 := Scalar.addi v2 c40_i32_274
  let v454 : BitVec 32 := v453
  ![v451.toNat, v454.toNat]

def k0_chk44 (i : grid0.Coords) (v453 : BitVec 32) : Prop :=
  (128 ∣ (k0_mult44 v453).toNat) ∧
  (∀ a, (k0_off45 i v453) a + S8x128.size a ≤ S4096x8192.size a) ∧
  (∀ a, (k0_off141 i v453) a + S8x128.size a ≤ S4096x8192.size a)
theorem k0_mult44_dvd : ∀ (i : grid0.Coords) (v453 : BitVec 32) (k0_hw44 : k0_chk44 i v453), 128 ∣ (k0_mult44 v453).toNat := fun i v453 k0_hw44 => k0_hw44.1
theorem k0_off45_inb : ∀ (i : grid0.Coords) (v453 : BitVec 32) (k0_hw44 : k0_chk44 i v453), ∀ a, (k0_off45 i v453) a + S8x128.size a ≤ S4096x8192.size a := fun i v453 k0_hw44 => k0_hw44.2.1
theorem k0_off141_inb : ∀ (i : grid0.Coords) (v453 : BitVec 32) (k0_hw44 : k0_chk44 i v453), ∀ a, (k0_off141 i v453) a + S8x128.size a ≤ S4096x8192.size a := fun i v453 k0_hw44 => k0_hw44.2.2

def k0_off142 (i : grid0.Coords) (v463 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_281 : BitVec 32 := 40#32
  let v461 : BitVec 32 := Scalar.addi v2 c40_i32_281
  let v464 : BitVec 32 := v463
  ![v461.toNat, v464.toNat]

def k0_chk45 (i : grid0.Coords) (v463 : BitVec 32) : Prop :=
  (128 ∣ (k0_mult45 v463).toNat) ∧
  (∀ a, (k0_off46 i v463) a + S8x128.size a ≤ S4096x8192.size a) ∧
  (∀ a, (k0_off142 i v463) a + S8x128.size a ≤ S4096x8192.size a)
theorem k0_mult45_dvd : ∀ (i : grid0.Coords) (v463 : BitVec 32) (k0_hw45 : k0_chk45 i v463), 128 ∣ (k0_mult45 v463).toNat := fun i v463 k0_hw45 => k0_hw45.1
theorem k0_off46_inb : ∀ (i : grid0.Coords) (v463 : BitVec 32) (k0_hw45 : k0_chk45 i v463), ∀ a, (k0_off46 i v463) a + S8x128.size a ≤ S4096x8192.size a := fun i v463 k0_hw45 => k0_hw45.2.1
theorem k0_off142_inb : ∀ (i : grid0.Coords) (v463 : BitVec 32) (k0_hw45 : k0_chk45 i v463), ∀ a, (k0_off142 i v463) a + S8x128.size a ≤ S4096x8192.size a := fun i v463 k0_hw45 => k0_hw45.2.2

def k0_off143 (i : grid0.Coords) (v473 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_288 : BitVec 32 := 40#32
  let v471 : BitVec 32 := Scalar.addi v2 c40_i32_288
  let v474 : BitVec 32 := v473
  ![v471.toNat, v474.toNat]

def k0_chk46 (i : grid0.Coords) (v473 : BitVec 32) : Prop :=
  (128 ∣ (k0_mult46 v473).toNat) ∧
  (∀ a, (k0_off47 i v473) a + S8x128.size a ≤ S4096x8192.size a) ∧
  (∀ a, (k0_off143 i v473) a + S8x128.size a ≤ S4096x8192.size a)
theorem k0_mult46_dvd : ∀ (i : grid0.Coords) (v473 : BitVec 32) (k0_hw46 : k0_chk46 i v473), 128 ∣ (k0_mult46 v473).toNat := fun i v473 k0_hw46 => k0_hw46.1
theorem k0_off47_inb : ∀ (i : grid0.Coords) (v473 : BitVec 32) (k0_hw46 : k0_chk46 i v473), ∀ a, (k0_off47 i v473) a + S8x128.size a ≤ S4096x8192.size a := fun i v473 k0_hw46 => k0_hw46.2.1
theorem k0_off143_inb : ∀ (i : grid0.Coords) (v473 : BitVec 32) (k0_hw46 : k0_chk46 i v473), ∀ a, (k0_off143 i v473) a + S8x128.size a ≤ S4096x8192.size a := fun i v473 k0_hw46 => k0_hw46.2.2

def k0_off144 (i : grid0.Coords) (v483 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_295 : BitVec 32 := 40#32
  let v481 : BitVec 32 := Scalar.addi v2 c40_i32_295
  let v484 : BitVec 32 := v483
  ![v481.toNat, v484.toNat]

def k0_chk47 (i : grid0.Coords) (v483 : BitVec 32) : Prop :=
  (128 ∣ (k0_mult47 v483).toNat) ∧
  (∀ a, (k0_off48 i v483) a + S8x128.size a ≤ S4096x8192.size a) ∧
  (∀ a, (k0_off144 i v483) a + S8x128.size a ≤ S4096x8192.size a)
theorem k0_mult47_dvd : ∀ (i : grid0.Coords) (v483 : BitVec 32) (k0_hw47 : k0_chk47 i v483), 128 ∣ (k0_mult47 v483).toNat := fun i v483 k0_hw47 => k0_hw47.1
theorem k0_off48_inb : ∀ (i : grid0.Coords) (v483 : BitVec 32) (k0_hw47 : k0_chk47 i v483), ∀ a, (k0_off48 i v483) a + S8x128.size a ≤ S4096x8192.size a := fun i v483 k0_hw47 => k0_hw47.2.1
theorem k0_off144_inb : ∀ (i : grid0.Coords) (v483 : BitVec 32) (k0_hw47 : k0_chk47 i v483), ∀ a, (k0_off144 i v483) a + S8x128.size a ≤ S4096x8192.size a := fun i v483 k0_hw47 => k0_hw47.2.2

def k0_off145 (i : grid0.Coords) (v493 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c40_i32_302 : BitVec 32 := 40#32
  let v491 : BitVec 32 := Scalar.addi v2 c40_i32_302
  let v494 : BitVec 32 := v493
  ![v491.toNat, v494.toNat]

def k0_chk48 (i : grid0.Coords) (v493 : BitVec 32) : Prop :=
  (128 ∣ (k0_mult48 v493).toNat) ∧
  (∀ a, (k0_off49 i v493) a + S8x128.size a ≤ S4096x8192.size a) ∧
  (∀ a, (k0_off145 i v493) a + S8x128.size a ≤ S4096x8192.size a)
theorem k0_mult48_dvd : ∀ (i : grid0.Coords) (v493 : BitVec 32) (k0_hw48 : k0_chk48 i v493), 128 ∣ (k0_mult48 v493).toNat := fun i v493 k0_hw48 => k0_hw48.1
theorem k0_off49_inb : ∀ (i : grid0.Coords) (v493 : BitVec 32) (k0_hw48 : k0_chk48 i v493), ∀ a, (k0_off49 i v493) a + S8x128.size a ≤ S4096x8192.size a := fun i v493 k0_hw48 => k0_hw48.2.1
theorem k0_off145_inb : ∀ (i : grid0.Coords) (v493 : BitVec 32) (k0_hw48 : k0_chk48 i v493), ∀ a, (k0_off145 i v493) a + S8x128.size a ≤ S4096x8192.size a := fun i v493 k0_hw48 => k0_hw48.2.2

def k0_off146 (i : grid0.Coords) (v509 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32 : BitVec 32 := 48#32
  let v507 : BitVec 32 := Scalar.addi v2 c48_i32
  let v510 : BitVec 32 := v509
  ![v507.toNat, v510.toNat]

def k0_chk49 (i : grid0.Coords) (v509 : BitVec 32) : Prop :=
  (128 ∣ (k0_mult49 v509).toNat) ∧
  (∀ a, (k0_off50 i v509) a + S8x128.size a ≤ S4096x8192.size a) ∧
  (∀ a, (k0_off146 i v509) a + S8x128.size a ≤ S4096x8192.size a)
theorem k0_mult49_dvd : ∀ (i : grid0.Coords) (v509 : BitVec 32) (k0_hw49 : k0_chk49 i v509), 128 ∣ (k0_mult49 v509).toNat := fun i v509 k0_hw49 => k0_hw49.1
theorem k0_off50_inb : ∀ (i : grid0.Coords) (v509 : BitVec 32) (k0_hw49 : k0_chk49 i v509), ∀ a, (k0_off50 i v509) a + S8x128.size a ≤ S4096x8192.size a := fun i v509 k0_hw49 => k0_hw49.2.1
theorem k0_off146_inb : ∀ (i : grid0.Coords) (v509 : BitVec 32) (k0_hw49 : k0_chk49 i v509), ∀ a, (k0_off146 i v509) a + S8x128.size a ≤ S4096x8192.size a := fun i v509 k0_hw49 => k0_hw49.2.2

def k0_off147 (i : grid0.Coords) (v519 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_317 : BitVec 32 := 48#32
  let v517 : BitVec 32 := Scalar.addi v2 c48_i32_317
  let v520 : BitVec 32 := v519
  ![v517.toNat, v520.toNat]

def k0_chk50 (i : grid0.Coords) (v519 : BitVec 32) : Prop :=
  (128 ∣ (k0_mult50 v519).toNat) ∧
  (∀ a, (k0_off51 i v519) a + S8x128.size a ≤ S4096x8192.size a) ∧
  (∀ a, (k0_off147 i v519) a + S8x128.size a ≤ S4096x8192.size a)
theorem k0_mult50_dvd : ∀ (i : grid0.Coords) (v519 : BitVec 32) (k0_hw50 : k0_chk50 i v519), 128 ∣ (k0_mult50 v519).toNat := fun i v519 k0_hw50 => k0_hw50.1
theorem k0_off51_inb : ∀ (i : grid0.Coords) (v519 : BitVec 32) (k0_hw50 : k0_chk50 i v519), ∀ a, (k0_off51 i v519) a + S8x128.size a ≤ S4096x8192.size a := fun i v519 k0_hw50 => k0_hw50.2.1
theorem k0_off147_inb : ∀ (i : grid0.Coords) (v519 : BitVec 32) (k0_hw50 : k0_chk50 i v519), ∀ a, (k0_off147 i v519) a + S8x128.size a ≤ S4096x8192.size a := fun i v519 k0_hw50 => k0_hw50.2.2

def k0_off148 (i : grid0.Coords) (v529 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_324 : BitVec 32 := 48#32
  let v527 : BitVec 32 := Scalar.addi v2 c48_i32_324
  let v530 : BitVec 32 := v529
  ![v527.toNat, v530.toNat]

def k0_chk51 (i : grid0.Coords) (v529 : BitVec 32) : Prop :=
  (128 ∣ (k0_mult51 v529).toNat) ∧
  (∀ a, (k0_off52 i v529) a + S8x128.size a ≤ S4096x8192.size a) ∧
  (∀ a, (k0_off148 i v529) a + S8x128.size a ≤ S4096x8192.size a)
theorem k0_mult51_dvd : ∀ (i : grid0.Coords) (v529 : BitVec 32) (k0_hw51 : k0_chk51 i v529), 128 ∣ (k0_mult51 v529).toNat := fun i v529 k0_hw51 => k0_hw51.1
theorem k0_off52_inb : ∀ (i : grid0.Coords) (v529 : BitVec 32) (k0_hw51 : k0_chk51 i v529), ∀ a, (k0_off52 i v529) a + S8x128.size a ≤ S4096x8192.size a := fun i v529 k0_hw51 => k0_hw51.2.1
theorem k0_off148_inb : ∀ (i : grid0.Coords) (v529 : BitVec 32) (k0_hw51 : k0_chk51 i v529), ∀ a, (k0_off148 i v529) a + S8x128.size a ≤ S4096x8192.size a := fun i v529 k0_hw51 => k0_hw51.2.2

def k0_off149 (i : grid0.Coords) (v539 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_331 : BitVec 32 := 48#32
  let v537 : BitVec 32 := Scalar.addi v2 c48_i32_331
  let v540 : BitVec 32 := v539
  ![v537.toNat, v540.toNat]

def k0_chk52 (i : grid0.Coords) (v539 : BitVec 32) : Prop :=
  (128 ∣ (k0_mult52 v539).toNat) ∧
  (∀ a, (k0_off53 i v539) a + S8x128.size a ≤ S4096x8192.size a) ∧
  (∀ a, (k0_off149 i v539) a + S8x128.size a ≤ S4096x8192.size a)
theorem k0_mult52_dvd : ∀ (i : grid0.Coords) (v539 : BitVec 32) (k0_hw52 : k0_chk52 i v539), 128 ∣ (k0_mult52 v539).toNat := fun i v539 k0_hw52 => k0_hw52.1
theorem k0_off53_inb : ∀ (i : grid0.Coords) (v539 : BitVec 32) (k0_hw52 : k0_chk52 i v539), ∀ a, (k0_off53 i v539) a + S8x128.size a ≤ S4096x8192.size a := fun i v539 k0_hw52 => k0_hw52.2.1
theorem k0_off149_inb : ∀ (i : grid0.Coords) (v539 : BitVec 32) (k0_hw52 : k0_chk52 i v539), ∀ a, (k0_off149 i v539) a + S8x128.size a ≤ S4096x8192.size a := fun i v539 k0_hw52 => k0_hw52.2.2

def k0_off150 (i : grid0.Coords) (v549 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_338 : BitVec 32 := 48#32
  let v547 : BitVec 32 := Scalar.addi v2 c48_i32_338
  let v550 : BitVec 32 := v549
  ![v547.toNat, v550.toNat]

def k0_chk53 (i : grid0.Coords) (v549 : BitVec 32) : Prop :=
  (128 ∣ (k0_mult53 v549).toNat) ∧
  (∀ a, (k0_off54 i v549) a + S8x128.size a ≤ S4096x8192.size a) ∧
  (∀ a, (k0_off150 i v549) a + S8x128.size a ≤ S4096x8192.size a)
theorem k0_mult53_dvd : ∀ (i : grid0.Coords) (v549 : BitVec 32) (k0_hw53 : k0_chk53 i v549), 128 ∣ (k0_mult53 v549).toNat := fun i v549 k0_hw53 => k0_hw53.1
theorem k0_off54_inb : ∀ (i : grid0.Coords) (v549 : BitVec 32) (k0_hw53 : k0_chk53 i v549), ∀ a, (k0_off54 i v549) a + S8x128.size a ≤ S4096x8192.size a := fun i v549 k0_hw53 => k0_hw53.2.1
theorem k0_off150_inb : ∀ (i : grid0.Coords) (v549 : BitVec 32) (k0_hw53 : k0_chk53 i v549), ∀ a, (k0_off150 i v549) a + S8x128.size a ≤ S4096x8192.size a := fun i v549 k0_hw53 => k0_hw53.2.2

def k0_off151 (i : grid0.Coords) (v559 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_345 : BitVec 32 := 48#32
  let v557 : BitVec 32 := Scalar.addi v2 c48_i32_345
  let v560 : BitVec 32 := v559
  ![v557.toNat, v560.toNat]

def k0_chk54 (i : grid0.Coords) (v559 : BitVec 32) : Prop :=
  (128 ∣ (k0_mult54 v559).toNat) ∧
  (∀ a, (k0_off55 i v559) a + S8x128.size a ≤ S4096x8192.size a) ∧
  (∀ a, (k0_off151 i v559) a + S8x128.size a ≤ S4096x8192.size a)
theorem k0_mult54_dvd : ∀ (i : grid0.Coords) (v559 : BitVec 32) (k0_hw54 : k0_chk54 i v559), 128 ∣ (k0_mult54 v559).toNat := fun i v559 k0_hw54 => k0_hw54.1
theorem k0_off55_inb : ∀ (i : grid0.Coords) (v559 : BitVec 32) (k0_hw54 : k0_chk54 i v559), ∀ a, (k0_off55 i v559) a + S8x128.size a ≤ S4096x8192.size a := fun i v559 k0_hw54 => k0_hw54.2.1
theorem k0_off151_inb : ∀ (i : grid0.Coords) (v559 : BitVec 32) (k0_hw54 : k0_chk54 i v559), ∀ a, (k0_off151 i v559) a + S8x128.size a ≤ S4096x8192.size a := fun i v559 k0_hw54 => k0_hw54.2.2

def k0_off152 (i : grid0.Coords) (v569 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_352 : BitVec 32 := 48#32
  let v567 : BitVec 32 := Scalar.addi v2 c48_i32_352
  let v570 : BitVec 32 := v569
  ![v567.toNat, v570.toNat]

def k0_chk55 (i : grid0.Coords) (v569 : BitVec 32) : Prop :=
  (128 ∣ (k0_mult55 v569).toNat) ∧
  (∀ a, (k0_off56 i v569) a + S8x128.size a ≤ S4096x8192.size a) ∧
  (∀ a, (k0_off152 i v569) a + S8x128.size a ≤ S4096x8192.size a)
theorem k0_mult55_dvd : ∀ (i : grid0.Coords) (v569 : BitVec 32) (k0_hw55 : k0_chk55 i v569), 128 ∣ (k0_mult55 v569).toNat := fun i v569 k0_hw55 => k0_hw55.1
theorem k0_off56_inb : ∀ (i : grid0.Coords) (v569 : BitVec 32) (k0_hw55 : k0_chk55 i v569), ∀ a, (k0_off56 i v569) a + S8x128.size a ≤ S4096x8192.size a := fun i v569 k0_hw55 => k0_hw55.2.1
theorem k0_off152_inb : ∀ (i : grid0.Coords) (v569 : BitVec 32) (k0_hw55 : k0_chk55 i v569), ∀ a, (k0_off152 i v569) a + S8x128.size a ≤ S4096x8192.size a := fun i v569 k0_hw55 => k0_hw55.2.2

def k0_off153 (i : grid0.Coords) (v579 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_359 : BitVec 32 := 48#32
  let v577 : BitVec 32 := Scalar.addi v2 c48_i32_359
  let v580 : BitVec 32 := v579
  ![v577.toNat, v580.toNat]

def k0_chk56 (i : grid0.Coords) (v579 : BitVec 32) : Prop :=
  (128 ∣ (k0_mult56 v579).toNat) ∧
  (∀ a, (k0_off57 i v579) a + S8x128.size a ≤ S4096x8192.size a) ∧
  (∀ a, (k0_off153 i v579) a + S8x128.size a ≤ S4096x8192.size a)
theorem k0_mult56_dvd : ∀ (i : grid0.Coords) (v579 : BitVec 32) (k0_hw56 : k0_chk56 i v579), 128 ∣ (k0_mult56 v579).toNat := fun i v579 k0_hw56 => k0_hw56.1
theorem k0_off57_inb : ∀ (i : grid0.Coords) (v579 : BitVec 32) (k0_hw56 : k0_chk56 i v579), ∀ a, (k0_off57 i v579) a + S8x128.size a ≤ S4096x8192.size a := fun i v579 k0_hw56 => k0_hw56.2.1
theorem k0_off153_inb : ∀ (i : grid0.Coords) (v579 : BitVec 32) (k0_hw56 : k0_chk56 i v579), ∀ a, (k0_off153 i v579) a + S8x128.size a ≤ S4096x8192.size a := fun i v579 k0_hw56 => k0_hw56.2.2

def k0_off154 (i : grid0.Coords) (v589 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32 : BitVec 32 := 56#32
  let v587 : BitVec 32 := Scalar.addi v2 c56_i32
  let v590 : BitVec 32 := v589
  ![v587.toNat, v590.toNat]

def k0_chk57 (i : grid0.Coords) (v589 : BitVec 32) : Prop :=
  (128 ∣ (k0_mult57 v589).toNat) ∧
  (∀ a, (k0_off58 i v589) a + S8x128.size a ≤ S4096x8192.size a) ∧
  (∀ a, (k0_off154 i v589) a + S8x128.size a ≤ S4096x8192.size a)
theorem k0_mult57_dvd : ∀ (i : grid0.Coords) (v589 : BitVec 32) (k0_hw57 : k0_chk57 i v589), 128 ∣ (k0_mult57 v589).toNat := fun i v589 k0_hw57 => k0_hw57.1
theorem k0_off58_inb : ∀ (i : grid0.Coords) (v589 : BitVec 32) (k0_hw57 : k0_chk57 i v589), ∀ a, (k0_off58 i v589) a + S8x128.size a ≤ S4096x8192.size a := fun i v589 k0_hw57 => k0_hw57.2.1
theorem k0_off154_inb : ∀ (i : grid0.Coords) (v589 : BitVec 32) (k0_hw57 : k0_chk57 i v589), ∀ a, (k0_off154 i v589) a + S8x128.size a ≤ S4096x8192.size a := fun i v589 k0_hw57 => k0_hw57.2.2

def k0_off155 (i : grid0.Coords) (v599 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_372 : BitVec 32 := 56#32
  let v597 : BitVec 32 := Scalar.addi v2 c56_i32_372
  let v600 : BitVec 32 := v599
  ![v597.toNat, v600.toNat]

def k0_chk58 (i : grid0.Coords) (v599 : BitVec 32) : Prop :=
  (128 ∣ (k0_mult58 v599).toNat) ∧
  (∀ a, (k0_off59 i v599) a + S8x128.size a ≤ S4096x8192.size a) ∧
  (∀ a, (k0_off155 i v599) a + S8x128.size a ≤ S4096x8192.size a)
theorem k0_mult58_dvd : ∀ (i : grid0.Coords) (v599 : BitVec 32) (k0_hw58 : k0_chk58 i v599), 128 ∣ (k0_mult58 v599).toNat := fun i v599 k0_hw58 => k0_hw58.1
theorem k0_off59_inb : ∀ (i : grid0.Coords) (v599 : BitVec 32) (k0_hw58 : k0_chk58 i v599), ∀ a, (k0_off59 i v599) a + S8x128.size a ≤ S4096x8192.size a := fun i v599 k0_hw58 => k0_hw58.2.1
theorem k0_off155_inb : ∀ (i : grid0.Coords) (v599 : BitVec 32) (k0_hw58 : k0_chk58 i v599), ∀ a, (k0_off155 i v599) a + S8x128.size a ≤ S4096x8192.size a := fun i v599 k0_hw58 => k0_hw58.2.2

def k0_off156 (i : grid0.Coords) (v609 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_379 : BitVec 32 := 56#32
  let v607 : BitVec 32 := Scalar.addi v2 c56_i32_379
  let v610 : BitVec 32 := v609
  ![v607.toNat, v610.toNat]

def k0_chk59 (i : grid0.Coords) (v609 : BitVec 32) : Prop :=
  (128 ∣ (k0_mult59 v609).toNat) ∧
  (∀ a, (k0_off60 i v609) a + S8x128.size a ≤ S4096x8192.size a) ∧
  (∀ a, (k0_off156 i v609) a + S8x128.size a ≤ S4096x8192.size a)
theorem k0_mult59_dvd : ∀ (i : grid0.Coords) (v609 : BitVec 32) (k0_hw59 : k0_chk59 i v609), 128 ∣ (k0_mult59 v609).toNat := fun i v609 k0_hw59 => k0_hw59.1
theorem k0_off60_inb : ∀ (i : grid0.Coords) (v609 : BitVec 32) (k0_hw59 : k0_chk59 i v609), ∀ a, (k0_off60 i v609) a + S8x128.size a ≤ S4096x8192.size a := fun i v609 k0_hw59 => k0_hw59.2.1
theorem k0_off156_inb : ∀ (i : grid0.Coords) (v609 : BitVec 32) (k0_hw59 : k0_chk59 i v609), ∀ a, (k0_off156 i v609) a + S8x128.size a ≤ S4096x8192.size a := fun i v609 k0_hw59 => k0_hw59.2.2

def k0_off157 (i : grid0.Coords) (v619 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_386 : BitVec 32 := 56#32
  let v617 : BitVec 32 := Scalar.addi v2 c56_i32_386
  let v620 : BitVec 32 := v619
  ![v617.toNat, v620.toNat]

def k0_chk60 (i : grid0.Coords) (v619 : BitVec 32) : Prop :=
  (128 ∣ (k0_mult60 v619).toNat) ∧
  (∀ a, (k0_off61 i v619) a + S8x128.size a ≤ S4096x8192.size a) ∧
  (∀ a, (k0_off157 i v619) a + S8x128.size a ≤ S4096x8192.size a)
theorem k0_mult60_dvd : ∀ (i : grid0.Coords) (v619 : BitVec 32) (k0_hw60 : k0_chk60 i v619), 128 ∣ (k0_mult60 v619).toNat := fun i v619 k0_hw60 => k0_hw60.1
theorem k0_off61_inb : ∀ (i : grid0.Coords) (v619 : BitVec 32) (k0_hw60 : k0_chk60 i v619), ∀ a, (k0_off61 i v619) a + S8x128.size a ≤ S4096x8192.size a := fun i v619 k0_hw60 => k0_hw60.2.1
theorem k0_off157_inb : ∀ (i : grid0.Coords) (v619 : BitVec 32) (k0_hw60 : k0_chk60 i v619), ∀ a, (k0_off157 i v619) a + S8x128.size a ≤ S4096x8192.size a := fun i v619 k0_hw60 => k0_hw60.2.2

def k0_off158 (i : grid0.Coords) (v629 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_393 : BitVec 32 := 56#32
  let v627 : BitVec 32 := Scalar.addi v2 c56_i32_393
  let v630 : BitVec 32 := v629
  ![v627.toNat, v630.toNat]

def k0_chk61 (i : grid0.Coords) (v629 : BitVec 32) : Prop :=
  (128 ∣ (k0_mult61 v629).toNat) ∧
  (∀ a, (k0_off62 i v629) a + S8x128.size a ≤ S4096x8192.size a) ∧
  (∀ a, (k0_off158 i v629) a + S8x128.size a ≤ S4096x8192.size a)
theorem k0_mult61_dvd : ∀ (i : grid0.Coords) (v629 : BitVec 32) (k0_hw61 : k0_chk61 i v629), 128 ∣ (k0_mult61 v629).toNat := fun i v629 k0_hw61 => k0_hw61.1
theorem k0_off62_inb : ∀ (i : grid0.Coords) (v629 : BitVec 32) (k0_hw61 : k0_chk61 i v629), ∀ a, (k0_off62 i v629) a + S8x128.size a ≤ S4096x8192.size a := fun i v629 k0_hw61 => k0_hw61.2.1
theorem k0_off158_inb : ∀ (i : grid0.Coords) (v629 : BitVec 32) (k0_hw61 : k0_chk61 i v629), ∀ a, (k0_off158 i v629) a + S8x128.size a ≤ S4096x8192.size a := fun i v629 k0_hw61 => k0_hw61.2.2

def k0_off159 (i : grid0.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_400 : BitVec 32 := 56#32
  let v637 : BitVec 32 := Scalar.addi v2 c56_i32_400
  let v640 : BitVec 32 := v639
  ![v637.toNat, v640.toNat]

def k0_chk62 (i : grid0.Coords) (v639 : BitVec 32) : Prop :=
  (128 ∣ (k0_mult62 v639).toNat) ∧
  (∀ a, (k0_off63 i v639) a + S8x128.size a ≤ S4096x8192.size a) ∧
  (∀ a, (k0_off159 i v639) a + S8x128.size a ≤ S4096x8192.size a)
theorem k0_mult62_dvd : ∀ (i : grid0.Coords) (v639 : BitVec 32) (k0_hw62 : k0_chk62 i v639), 128 ∣ (k0_mult62 v639).toNat := fun i v639 k0_hw62 => k0_hw62.1
theorem k0_off63_inb : ∀ (i : grid0.Coords) (v639 : BitVec 32) (k0_hw62 : k0_chk62 i v639), ∀ a, (k0_off63 i v639) a + S8x128.size a ≤ S4096x8192.size a := fun i v639 k0_hw62 => k0_hw62.2.1
theorem k0_off159_inb : ∀ (i : grid0.Coords) (v639 : BitVec 32) (k0_hw62 : k0_chk62 i v639), ∀ a, (k0_off159 i v639) a + S8x128.size a ≤ S4096x8192.size a := fun i v639 k0_hw62 => k0_hw62.2.2

def k0_off160 (i : grid0.Coords) (v649 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_407 : BitVec 32 := 56#32
  let v647 : BitVec 32 := Scalar.addi v2 c56_i32_407
  let v650 : BitVec 32 := v649
  ![v647.toNat, v650.toNat]

def k0_chk63 (i : grid0.Coords) (v649 : BitVec 32) : Prop :=
  (128 ∣ (k0_mult63 v649).toNat) ∧
  (∀ a, (k0_off64 i v649) a + S8x128.size a ≤ S4096x8192.size a) ∧
  (∀ a, (k0_off160 i v649) a + S8x128.size a ≤ S4096x8192.size a)
theorem k0_mult63_dvd : ∀ (i : grid0.Coords) (v649 : BitVec 32) (k0_hw63 : k0_chk63 i v649), 128 ∣ (k0_mult63 v649).toNat := fun i v649 k0_hw63 => k0_hw63.1
theorem k0_off64_inb : ∀ (i : grid0.Coords) (v649 : BitVec 32) (k0_hw63 : k0_chk63 i v649), ∀ a, (k0_off64 i v649) a + S8x128.size a ≤ S4096x8192.size a := fun i v649 k0_hw63 => k0_hw63.2.1
theorem k0_off160_inb : ∀ (i : grid0.Coords) (v649 : BitVec 32) (k0_hw63 : k0_chk63 i v649), ∀ a, (k0_off160 i v649) a + S8x128.size a ≤ S4096x8192.size a := fun i v649 k0_hw63 => k0_hw63.2.2

def k0_off161 (i : grid0.Coords) (v659 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c56_i32_414 : BitVec 32 := 56#32
  let v657 : BitVec 32 := Scalar.addi v2 c56_i32_414
  let v660 : BitVec 32 := v659
  ![v657.toNat, v660.toNat]

def k0_chk64 (i : grid0.Coords) (v659 : BitVec 32) : Prop :=
  (128 ∣ (k0_mult64 v659).toNat) ∧
  (∀ a, (k0_off65 i v659) a + S8x128.size a ≤ S4096x8192.size a) ∧
  (∀ a, (k0_off161 i v659) a + S8x128.size a ≤ S4096x8192.size a)
theorem k0_mult64_dvd : ∀ (i : grid0.Coords) (v659 : BitVec 32) (k0_hw64 : k0_chk64 i v659), 128 ∣ (k0_mult64 v659).toNat := fun i v659 k0_hw64 => k0_hw64.1
theorem k0_off65_inb : ∀ (i : grid0.Coords) (v659 : BitVec 32) (k0_hw64 : k0_chk64 i v659), ∀ a, (k0_off65 i v659) a + S8x128.size a ≤ S4096x8192.size a := fun i v659 k0_hw64 => k0_hw64.2.1
theorem k0_off161_inb : ∀ (i : grid0.Coords) (v659 : BitVec 32) (k0_hw64 : k0_chk64 i v659), ∀ a, (k0_off161 i v659) a + S8x128.size a ≤ S4096x8192.size a := fun i v659 k0_hw64 => k0_hw64.2.2

def k0_mult97 (v5999 : BitVec 32) : BitVec 32 :=
  v5999

def k0_off162 (i : grid0.Coords) (v5999 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32 : BitVec 32 := 96#32
  let v5997 : BitVec 32 := Scalar.addi v2 c96_i32
  let v6000 : BitVec 32 := v5999
  ![v5997.toNat, v6000.toNat]
def k0_mult98 (v6009 : BitVec 32) : BitVec 32 :=
  v6009

def k0_off163 (i : grid0.Coords) (v6009 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_4080 : BitVec 32 := 96#32
  let v6007 : BitVec 32 := Scalar.addi v2 c96_i32_4080
  let v6010 : BitVec 32 := v6009
  ![v6007.toNat, v6010.toNat]
def k0_mult99 (v6019 : BitVec 32) : BitVec 32 :=
  v6019

def k0_off164 (i : grid0.Coords) (v6019 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_4087 : BitVec 32 := 96#32
  let v6017 : BitVec 32 := Scalar.addi v2 c96_i32_4087
  let v6020 : BitVec 32 := v6019
  ![v6017.toNat, v6020.toNat]
def k0_mult100 (v6029 : BitVec 32) : BitVec 32 :=
  v6029

def k0_off165 (i : grid0.Coords) (v6029 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_4094 : BitVec 32 := 96#32
  let v6027 : BitVec 32 := Scalar.addi v2 c96_i32_4094
  let v6030 : BitVec 32 := v6029
  ![v6027.toNat, v6030.toNat]
def k0_mult101 (v6039 : BitVec 32) : BitVec 32 :=
  v6039

def k0_off166 (i : grid0.Coords) (v6039 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_4101 : BitVec 32 := 96#32
  let v6037 : BitVec 32 := Scalar.addi v2 c96_i32_4101
  let v6040 : BitVec 32 := v6039
  ![v6037.toNat, v6040.toNat]
def k0_mult102 (v6049 : BitVec 32) : BitVec 32 :=
  v6049

def k0_off167 (i : grid0.Coords) (v6049 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_4108 : BitVec 32 := 96#32
  let v6047 : BitVec 32 := Scalar.addi v2 c96_i32_4108
  let v6050 : BitVec 32 := v6049
  ![v6047.toNat, v6050.toNat]
def k0_mult103 (v6059 : BitVec 32) : BitVec 32 :=
  v6059

def k0_off168 (i : grid0.Coords) (v6059 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_4115 : BitVec 32 := 96#32
  let v6057 : BitVec 32 := Scalar.addi v2 c96_i32_4115
  let v6060 : BitVec 32 := v6059
  ![v6057.toNat, v6060.toNat]
def k0_mult104 (v6069 : BitVec 32) : BitVec 32 :=
  v6069

def k0_off169 (i : grid0.Coords) (v6069 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_4122 : BitVec 32 := 96#32
  let v6067 : BitVec 32 := Scalar.addi v2 c96_i32_4122
  let v6070 : BitVec 32 := v6069
  ![v6067.toNat, v6070.toNat]
def k0_mult105 (v6079 : BitVec 32) : BitVec 32 :=
  v6079

def k0_off170 (i : grid0.Coords) (v6079 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32 : BitVec 32 := 104#32
  let v6077 : BitVec 32 := Scalar.addi v2 c104_i32
  let v6080 : BitVec 32 := v6079
  ![v6077.toNat, v6080.toNat]
def k0_mult106 (v6089 : BitVec 32) : BitVec 32 :=
  v6089

def k0_off171 (i : grid0.Coords) (v6089 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_4135 : BitVec 32 := 104#32
  let v6087 : BitVec 32 := Scalar.addi v2 c104_i32_4135
  let v6090 : BitVec 32 := v6089
  ![v6087.toNat, v6090.toNat]
def k0_mult107 (v6099 : BitVec 32) : BitVec 32 :=
  v6099

def k0_off172 (i : grid0.Coords) (v6099 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_4142 : BitVec 32 := 104#32
  let v6097 : BitVec 32 := Scalar.addi v2 c104_i32_4142
  let v6100 : BitVec 32 := v6099
  ![v6097.toNat, v6100.toNat]
def k0_mult108 (v6109 : BitVec 32) : BitVec 32 :=
  v6109

def k0_off173 (i : grid0.Coords) (v6109 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_4149 : BitVec 32 := 104#32
  let v6107 : BitVec 32 := Scalar.addi v2 c104_i32_4149
  let v6110 : BitVec 32 := v6109
  ![v6107.toNat, v6110.toNat]
def k0_mult109 (v6119 : BitVec 32) : BitVec 32 :=
  v6119

def k0_off174 (i : grid0.Coords) (v6119 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_4156 : BitVec 32 := 104#32
  let v6117 : BitVec 32 := Scalar.addi v2 c104_i32_4156
  let v6120 : BitVec 32 := v6119
  ![v6117.toNat, v6120.toNat]
def k0_mult110 (v6129 : BitVec 32) : BitVec 32 :=
  v6129

def k0_off175 (i : grid0.Coords) (v6129 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_4163 : BitVec 32 := 104#32
  let v6127 : BitVec 32 := Scalar.addi v2 c104_i32_4163
  let v6130 : BitVec 32 := v6129
  ![v6127.toNat, v6130.toNat]
def k0_mult111 (v6139 : BitVec 32) : BitVec 32 :=
  v6139

def k0_off176 (i : grid0.Coords) (v6139 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_4170 : BitVec 32 := 104#32
  let v6137 : BitVec 32 := Scalar.addi v2 c104_i32_4170
  let v6140 : BitVec 32 := v6139
  ![v6137.toNat, v6140.toNat]
def k0_mult112 (v6149 : BitVec 32) : BitVec 32 :=
  v6149

def k0_off177 (i : grid0.Coords) (v6149 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_4177 : BitVec 32 := 104#32
  let v6147 : BitVec 32 := Scalar.addi v2 c104_i32_4177
  let v6150 : BitVec 32 := v6149
  ![v6147.toNat, v6150.toNat]
def k0_mult113 (v6165 : BitVec 32) : BitVec 32 :=
  v6165

def k0_off178 (i : grid0.Coords) (v6165 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32 : BitVec 32 := 112#32
  let v6163 : BitVec 32 := Scalar.addi v2 c112_i32
  let v6166 : BitVec 32 := v6165
  ![v6163.toNat, v6166.toNat]
def k0_mult114 (v6175 : BitVec 32) : BitVec 32 :=
  v6175

def k0_off179 (i : grid0.Coords) (v6175 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_4193 : BitVec 32 := 112#32
  let v6173 : BitVec 32 := Scalar.addi v2 c112_i32_4193
  let v6176 : BitVec 32 := v6175
  ![v6173.toNat, v6176.toNat]
def k0_mult115 (v6185 : BitVec 32) : BitVec 32 :=
  v6185

def k0_off180 (i : grid0.Coords) (v6185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_4200 : BitVec 32 := 112#32
  let v6183 : BitVec 32 := Scalar.addi v2 c112_i32_4200
  let v6186 : BitVec 32 := v6185
  ![v6183.toNat, v6186.toNat]
def k0_mult116 (v6195 : BitVec 32) : BitVec 32 :=
  v6195

def k0_off181 (i : grid0.Coords) (v6195 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_4207 : BitVec 32 := 112#32
  let v6193 : BitVec 32 := Scalar.addi v2 c112_i32_4207
  let v6196 : BitVec 32 := v6195
  ![v6193.toNat, v6196.toNat]
def k0_mult117 (v6205 : BitVec 32) : BitVec 32 :=
  v6205

def k0_off182 (i : grid0.Coords) (v6205 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_4214 : BitVec 32 := 112#32
  let v6203 : BitVec 32 := Scalar.addi v2 c112_i32_4214
  let v6206 : BitVec 32 := v6205
  ![v6203.toNat, v6206.toNat]
def k0_mult118 (v6215 : BitVec 32) : BitVec 32 :=
  v6215

def k0_off183 (i : grid0.Coords) (v6215 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_4221 : BitVec 32 := 112#32
  let v6213 : BitVec 32 := Scalar.addi v2 c112_i32_4221
  let v6216 : BitVec 32 := v6215
  ![v6213.toNat, v6216.toNat]
def k0_mult119 (v6225 : BitVec 32) : BitVec 32 :=
  v6225

def k0_off184 (i : grid0.Coords) (v6225 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_4228 : BitVec 32 := 112#32
  let v6223 : BitVec 32 := Scalar.addi v2 c112_i32_4228
  let v6226 : BitVec 32 := v6225
  ![v6223.toNat, v6226.toNat]
def k0_mult120 (v6235 : BitVec 32) : BitVec 32 :=
  v6235

def k0_off185 (i : grid0.Coords) (v6235 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_4235 : BitVec 32 := 112#32
  let v6233 : BitVec 32 := Scalar.addi v2 c112_i32_4235
  let v6236 : BitVec 32 := v6235
  ![v6233.toNat, v6236.toNat]
def k0_mult121 (v6245 : BitVec 32) : BitVec 32 :=
  v6245

def k0_off186 (i : grid0.Coords) (v6245 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32 : BitVec 32 := 120#32
  let v6243 : BitVec 32 := Scalar.addi v2 c120_i32
  let v6246 : BitVec 32 := v6245
  ![v6243.toNat, v6246.toNat]
def k0_mult122 (v6255 : BitVec 32) : BitVec 32 :=
  v6255

def k0_off187 (i : grid0.Coords) (v6255 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_4248 : BitVec 32 := 120#32
  let v6253 : BitVec 32 := Scalar.addi v2 c120_i32_4248
  let v6256 : BitVec 32 := v6255
  ![v6253.toNat, v6256.toNat]
def k0_mult123 (v6265 : BitVec 32) : BitVec 32 :=
  v6265

def k0_off188 (i : grid0.Coords) (v6265 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_4255 : BitVec 32 := 120#32
  let v6263 : BitVec 32 := Scalar.addi v2 c120_i32_4255
  let v6266 : BitVec 32 := v6265
  ![v6263.toNat, v6266.toNat]
def k0_mult124 (v6275 : BitVec 32) : BitVec 32 :=
  v6275

def k0_off189 (i : grid0.Coords) (v6275 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_4262 : BitVec 32 := 120#32
  let v6273 : BitVec 32 := Scalar.addi v2 c120_i32_4262
  let v6276 : BitVec 32 := v6275
  ![v6273.toNat, v6276.toNat]
def k0_mult125 (v6285 : BitVec 32) : BitVec 32 :=
  v6285

def k0_off190 (i : grid0.Coords) (v6285 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_4269 : BitVec 32 := 120#32
  let v6283 : BitVec 32 := Scalar.addi v2 c120_i32_4269
  let v6286 : BitVec 32 := v6285
  ![v6283.toNat, v6286.toNat]
def k0_mult126 (v6295 : BitVec 32) : BitVec 32 :=
  v6295

def k0_off191 (i : grid0.Coords) (v6295 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_4276 : BitVec 32 := 120#32
  let v6293 : BitVec 32 := Scalar.addi v2 c120_i32_4276
  let v6296 : BitVec 32 := v6295
  ![v6293.toNat, v6296.toNat]
def k0_mult127 (v6305 : BitVec 32) : BitVec 32 :=
  v6305

def k0_off192 (i : grid0.Coords) (v6305 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_4283 : BitVec 32 := 120#32
  let v6303 : BitVec 32 := Scalar.addi v2 c120_i32_4283
  let v6306 : BitVec 32 := v6305
  ![v6303.toNat, v6306.toNat]
def k0_mult128 (v6315 : BitVec 32) : BitVec 32 :=
  v6315

def k0_off193 (i : grid0.Coords) (v6315 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_4290 : BitVec 32 := 120#32
  let v6313 : BitVec 32 := Scalar.addi v2 c120_i32_4290
  let v6316 : BitVec 32 := v6315
  ![v6313.toNat, v6316.toNat]

def k0_chk128 (i : grid0.Coords) (v6315 : BitVec 32) : Prop :=
  (128 ∣ (k0_mult128 v6315).toNat) ∧
  (∀ a, (k0_off193 i v6315) a + S8x128.size a ≤ S4096x8192.size a)
theorem k0_mult128_dvd : ∀ (i : grid0.Coords) (v6315 : BitVec 32) (k0_hw128 : k0_chk128 i v6315), 128 ∣ (k0_mult128 v6315).toNat := fun i v6315 k0_hw128 => k0_hw128.1
theorem k0_off193_inb : ∀ (i : grid0.Coords) (v6315 : BitVec 32) (k0_hw128 : k0_chk128 i v6315), ∀ a, (k0_off193 i v6315) a + S8x128.size a ≤ S4096x8192.size a := fun i v6315 k0_hw128 => k0_hw128.2

def k0_off194 (i : grid0.Coords) (v3171 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v3169 : BitVec 32 := Scalar.addi v2 c64_i32
  let v3172 : BitVec 32 := v3171
  ![v3169.toNat, v3172.toNat]

def k0_chk65 (i : grid0.Coords) (v3171 : BitVec 32) : Prop :=
  (128 ∣ (k0_mult65 v3171).toNat) ∧
  (∀ a, (k0_off98 i v3171) a + S8x128.size a ≤ S4096x8192.size a) ∧
  (∀ a, (k0_off194 i v3171) a + S8x128.size a ≤ S4096x8192.size a)
theorem k0_mult65_dvd : ∀ (i : grid0.Coords) (v3171 : BitVec 32) (k0_hw65 : k0_chk65 i v3171), 128 ∣ (k0_mult65 v3171).toNat := fun i v3171 k0_hw65 => k0_hw65.1
theorem k0_off98_inb : ∀ (i : grid0.Coords) (v3171 : BitVec 32) (k0_hw65 : k0_chk65 i v3171), ∀ a, (k0_off98 i v3171) a + S8x128.size a ≤ S4096x8192.size a := fun i v3171 k0_hw65 => k0_hw65.2.1
theorem k0_off194_inb : ∀ (i : grid0.Coords) (v3171 : BitVec 32) (k0_hw65 : k0_chk65 i v3171), ∀ a, (k0_off194 i v3171) a + S8x128.size a ≤ S4096x8192.size a := fun i v3171 k0_hw65 => k0_hw65.2.2

def k0_off195 (i : grid0.Coords) (v3181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_2154 : BitVec 32 := 64#32
  let v3179 : BitVec 32 := Scalar.addi v2 c64_i32_2154
  let v3182 : BitVec 32 := v3181
  ![v3179.toNat, v3182.toNat]

def k0_chk66 (i : grid0.Coords) (v3181 : BitVec 32) : Prop :=
  (128 ∣ (k0_mult66 v3181).toNat) ∧
  (∀ a, (k0_off99 i v3181) a + S8x128.size a ≤ S4096x8192.size a) ∧
  (∀ a, (k0_off195 i v3181) a + S8x128.size a ≤ S4096x8192.size a)
theorem k0_mult66_dvd : ∀ (i : grid0.Coords) (v3181 : BitVec 32) (k0_hw66 : k0_chk66 i v3181), 128 ∣ (k0_mult66 v3181).toNat := fun i v3181 k0_hw66 => k0_hw66.1
theorem k0_off99_inb : ∀ (i : grid0.Coords) (v3181 : BitVec 32) (k0_hw66 : k0_chk66 i v3181), ∀ a, (k0_off99 i v3181) a + S8x128.size a ≤ S4096x8192.size a := fun i v3181 k0_hw66 => k0_hw66.2.1
theorem k0_off195_inb : ∀ (i : grid0.Coords) (v3181 : BitVec 32) (k0_hw66 : k0_chk66 i v3181), ∀ a, (k0_off195 i v3181) a + S8x128.size a ≤ S4096x8192.size a := fun i v3181 k0_hw66 => k0_hw66.2.2

def k0_off196 (i : grid0.Coords) (v3191 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_2161 : BitVec 32 := 64#32
  let v3189 : BitVec 32 := Scalar.addi v2 c64_i32_2161
  let v3192 : BitVec 32 := v3191
  ![v3189.toNat, v3192.toNat]

def k0_chk67 (i : grid0.Coords) (v3191 : BitVec 32) : Prop :=
  (128 ∣ (k0_mult67 v3191).toNat) ∧
  (∀ a, (k0_off100 i v3191) a + S8x128.size a ≤ S4096x8192.size a) ∧
  (∀ a, (k0_off196 i v3191) a + S8x128.size a ≤ S4096x8192.size a)
theorem k0_mult67_dvd : ∀ (i : grid0.Coords) (v3191 : BitVec 32) (k0_hw67 : k0_chk67 i v3191), 128 ∣ (k0_mult67 v3191).toNat := fun i v3191 k0_hw67 => k0_hw67.1
theorem k0_off100_inb : ∀ (i : grid0.Coords) (v3191 : BitVec 32) (k0_hw67 : k0_chk67 i v3191), ∀ a, (k0_off100 i v3191) a + S8x128.size a ≤ S4096x8192.size a := fun i v3191 k0_hw67 => k0_hw67.2.1
theorem k0_off196_inb : ∀ (i : grid0.Coords) (v3191 : BitVec 32) (k0_hw67 : k0_chk67 i v3191), ∀ a, (k0_off196 i v3191) a + S8x128.size a ≤ S4096x8192.size a := fun i v3191 k0_hw67 => k0_hw67.2.2

def k0_off197 (i : grid0.Coords) (v3201 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_2168 : BitVec 32 := 64#32
  let v3199 : BitVec 32 := Scalar.addi v2 c64_i32_2168
  let v3202 : BitVec 32 := v3201
  ![v3199.toNat, v3202.toNat]

def k0_chk68 (i : grid0.Coords) (v3201 : BitVec 32) : Prop :=
  (128 ∣ (k0_mult68 v3201).toNat) ∧
  (∀ a, (k0_off101 i v3201) a + S8x128.size a ≤ S4096x8192.size a) ∧
  (∀ a, (k0_off197 i v3201) a + S8x128.size a ≤ S4096x8192.size a)
theorem k0_mult68_dvd : ∀ (i : grid0.Coords) (v3201 : BitVec 32) (k0_hw68 : k0_chk68 i v3201), 128 ∣ (k0_mult68 v3201).toNat := fun i v3201 k0_hw68 => k0_hw68.1
theorem k0_off101_inb : ∀ (i : grid0.Coords) (v3201 : BitVec 32) (k0_hw68 : k0_chk68 i v3201), ∀ a, (k0_off101 i v3201) a + S8x128.size a ≤ S4096x8192.size a := fun i v3201 k0_hw68 => k0_hw68.2.1
theorem k0_off197_inb : ∀ (i : grid0.Coords) (v3201 : BitVec 32) (k0_hw68 : k0_chk68 i v3201), ∀ a, (k0_off197 i v3201) a + S8x128.size a ≤ S4096x8192.size a := fun i v3201 k0_hw68 => k0_hw68.2.2

def k0_off198 (i : grid0.Coords) (v3211 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_2175 : BitVec 32 := 64#32
  let v3209 : BitVec 32 := Scalar.addi v2 c64_i32_2175
  let v3212 : BitVec 32 := v3211
  ![v3209.toNat, v3212.toNat]

def k0_chk69 (i : grid0.Coords) (v3211 : BitVec 32) : Prop :=
  (128 ∣ (k0_mult69 v3211).toNat) ∧
  (∀ a, (k0_off102 i v3211) a + S8x128.size a ≤ S4096x8192.size a) ∧
  (∀ a, (k0_off198 i v3211) a + S8x128.size a ≤ S4096x8192.size a)
theorem k0_mult69_dvd : ∀ (i : grid0.Coords) (v3211 : BitVec 32) (k0_hw69 : k0_chk69 i v3211), 128 ∣ (k0_mult69 v3211).toNat := fun i v3211 k0_hw69 => k0_hw69.1
theorem k0_off102_inb : ∀ (i : grid0.Coords) (v3211 : BitVec 32) (k0_hw69 : k0_chk69 i v3211), ∀ a, (k0_off102 i v3211) a + S8x128.size a ≤ S4096x8192.size a := fun i v3211 k0_hw69 => k0_hw69.2.1
theorem k0_off198_inb : ∀ (i : grid0.Coords) (v3211 : BitVec 32) (k0_hw69 : k0_chk69 i v3211), ∀ a, (k0_off198 i v3211) a + S8x128.size a ≤ S4096x8192.size a := fun i v3211 k0_hw69 => k0_hw69.2.2

def k0_off199 (i : grid0.Coords) (v3221 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_2182 : BitVec 32 := 64#32
  let v3219 : BitVec 32 := Scalar.addi v2 c64_i32_2182
  let v3222 : BitVec 32 := v3221
  ![v3219.toNat, v3222.toNat]

def k0_chk70 (i : grid0.Coords) (v3221 : BitVec 32) : Prop :=
  (128 ∣ (k0_mult70 v3221).toNat) ∧
  (∀ a, (k0_off103 i v3221) a + S8x128.size a ≤ S4096x8192.size a) ∧
  (∀ a, (k0_off199 i v3221) a + S8x128.size a ≤ S4096x8192.size a)
theorem k0_mult70_dvd : ∀ (i : grid0.Coords) (v3221 : BitVec 32) (k0_hw70 : k0_chk70 i v3221), 128 ∣ (k0_mult70 v3221).toNat := fun i v3221 k0_hw70 => k0_hw70.1
theorem k0_off103_inb : ∀ (i : grid0.Coords) (v3221 : BitVec 32) (k0_hw70 : k0_chk70 i v3221), ∀ a, (k0_off103 i v3221) a + S8x128.size a ≤ S4096x8192.size a := fun i v3221 k0_hw70 => k0_hw70.2.1
theorem k0_off199_inb : ∀ (i : grid0.Coords) (v3221 : BitVec 32) (k0_hw70 : k0_chk70 i v3221), ∀ a, (k0_off199 i v3221) a + S8x128.size a ≤ S4096x8192.size a := fun i v3221 k0_hw70 => k0_hw70.2.2

def k0_off200 (i : grid0.Coords) (v3231 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_2189 : BitVec 32 := 64#32
  let v3229 : BitVec 32 := Scalar.addi v2 c64_i32_2189
  let v3232 : BitVec 32 := v3231
  ![v3229.toNat, v3232.toNat]

def k0_chk71 (i : grid0.Coords) (v3231 : BitVec 32) : Prop :=
  (128 ∣ (k0_mult71 v3231).toNat) ∧
  (∀ a, (k0_off104 i v3231) a + S8x128.size a ≤ S4096x8192.size a) ∧
  (∀ a, (k0_off200 i v3231) a + S8x128.size a ≤ S4096x8192.size a)
theorem k0_mult71_dvd : ∀ (i : grid0.Coords) (v3231 : BitVec 32) (k0_hw71 : k0_chk71 i v3231), 128 ∣ (k0_mult71 v3231).toNat := fun i v3231 k0_hw71 => k0_hw71.1
theorem k0_off104_inb : ∀ (i : grid0.Coords) (v3231 : BitVec 32) (k0_hw71 : k0_chk71 i v3231), ∀ a, (k0_off104 i v3231) a + S8x128.size a ≤ S4096x8192.size a := fun i v3231 k0_hw71 => k0_hw71.2.1
theorem k0_off200_inb : ∀ (i : grid0.Coords) (v3231 : BitVec 32) (k0_hw71 : k0_chk71 i v3231), ∀ a, (k0_off200 i v3231) a + S8x128.size a ≤ S4096x8192.size a := fun i v3231 k0_hw71 => k0_hw71.2.2

def k0_off201 (i : grid0.Coords) (v3241 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_2196 : BitVec 32 := 64#32
  let v3239 : BitVec 32 := Scalar.addi v2 c64_i32_2196
  let v3242 : BitVec 32 := v3241
  ![v3239.toNat, v3242.toNat]

def k0_chk72 (i : grid0.Coords) (v3241 : BitVec 32) : Prop :=
  (128 ∣ (k0_mult72 v3241).toNat) ∧
  (∀ a, (k0_off105 i v3241) a + S8x128.size a ≤ S4096x8192.size a) ∧
  (∀ a, (k0_off201 i v3241) a + S8x128.size a ≤ S4096x8192.size a)
theorem k0_mult72_dvd : ∀ (i : grid0.Coords) (v3241 : BitVec 32) (k0_hw72 : k0_chk72 i v3241), 128 ∣ (k0_mult72 v3241).toNat := fun i v3241 k0_hw72 => k0_hw72.1
theorem k0_off105_inb : ∀ (i : grid0.Coords) (v3241 : BitVec 32) (k0_hw72 : k0_chk72 i v3241), ∀ a, (k0_off105 i v3241) a + S8x128.size a ≤ S4096x8192.size a := fun i v3241 k0_hw72 => k0_hw72.2.1
theorem k0_off201_inb : ∀ (i : grid0.Coords) (v3241 : BitVec 32) (k0_hw72 : k0_chk72 i v3241), ∀ a, (k0_off201 i v3241) a + S8x128.size a ≤ S4096x8192.size a := fun i v3241 k0_hw72 => k0_hw72.2.2

def k0_off202 (i : grid0.Coords) (v3251 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32 : BitVec 32 := 72#32
  let v3249 : BitVec 32 := Scalar.addi v2 c72_i32
  let v3252 : BitVec 32 := v3251
  ![v3249.toNat, v3252.toNat]

def k0_chk73 (i : grid0.Coords) (v3251 : BitVec 32) : Prop :=
  (128 ∣ (k0_mult73 v3251).toNat) ∧
  (∀ a, (k0_off106 i v3251) a + S8x128.size a ≤ S4096x8192.size a) ∧
  (∀ a, (k0_off202 i v3251) a + S8x128.size a ≤ S4096x8192.size a)
theorem k0_mult73_dvd : ∀ (i : grid0.Coords) (v3251 : BitVec 32) (k0_hw73 : k0_chk73 i v3251), 128 ∣ (k0_mult73 v3251).toNat := fun i v3251 k0_hw73 => k0_hw73.1
theorem k0_off106_inb : ∀ (i : grid0.Coords) (v3251 : BitVec 32) (k0_hw73 : k0_chk73 i v3251), ∀ a, (k0_off106 i v3251) a + S8x128.size a ≤ S4096x8192.size a := fun i v3251 k0_hw73 => k0_hw73.2.1
theorem k0_off202_inb : ∀ (i : grid0.Coords) (v3251 : BitVec 32) (k0_hw73 : k0_chk73 i v3251), ∀ a, (k0_off202 i v3251) a + S8x128.size a ≤ S4096x8192.size a := fun i v3251 k0_hw73 => k0_hw73.2.2

def k0_off203 (i : grid0.Coords) (v3261 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_2209 : BitVec 32 := 72#32
  let v3259 : BitVec 32 := Scalar.addi v2 c72_i32_2209
  let v3262 : BitVec 32 := v3261
  ![v3259.toNat, v3262.toNat]

def k0_chk74 (i : grid0.Coords) (v3261 : BitVec 32) : Prop :=
  (128 ∣ (k0_mult74 v3261).toNat) ∧
  (∀ a, (k0_off107 i v3261) a + S8x128.size a ≤ S4096x8192.size a) ∧
  (∀ a, (k0_off203 i v3261) a + S8x128.size a ≤ S4096x8192.size a)
theorem k0_mult74_dvd : ∀ (i : grid0.Coords) (v3261 : BitVec 32) (k0_hw74 : k0_chk74 i v3261), 128 ∣ (k0_mult74 v3261).toNat := fun i v3261 k0_hw74 => k0_hw74.1
theorem k0_off107_inb : ∀ (i : grid0.Coords) (v3261 : BitVec 32) (k0_hw74 : k0_chk74 i v3261), ∀ a, (k0_off107 i v3261) a + S8x128.size a ≤ S4096x8192.size a := fun i v3261 k0_hw74 => k0_hw74.2.1
theorem k0_off203_inb : ∀ (i : grid0.Coords) (v3261 : BitVec 32) (k0_hw74 : k0_chk74 i v3261), ∀ a, (k0_off203 i v3261) a + S8x128.size a ≤ S4096x8192.size a := fun i v3261 k0_hw74 => k0_hw74.2.2

def k0_off204 (i : grid0.Coords) (v3271 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_2216 : BitVec 32 := 72#32
  let v3269 : BitVec 32 := Scalar.addi v2 c72_i32_2216
  let v3272 : BitVec 32 := v3271
  ![v3269.toNat, v3272.toNat]

def k0_chk75 (i : grid0.Coords) (v3271 : BitVec 32) : Prop :=
  (128 ∣ (k0_mult75 v3271).toNat) ∧
  (∀ a, (k0_off108 i v3271) a + S8x128.size a ≤ S4096x8192.size a) ∧
  (∀ a, (k0_off204 i v3271) a + S8x128.size a ≤ S4096x8192.size a)
theorem k0_mult75_dvd : ∀ (i : grid0.Coords) (v3271 : BitVec 32) (k0_hw75 : k0_chk75 i v3271), 128 ∣ (k0_mult75 v3271).toNat := fun i v3271 k0_hw75 => k0_hw75.1
theorem k0_off108_inb : ∀ (i : grid0.Coords) (v3271 : BitVec 32) (k0_hw75 : k0_chk75 i v3271), ∀ a, (k0_off108 i v3271) a + S8x128.size a ≤ S4096x8192.size a := fun i v3271 k0_hw75 => k0_hw75.2.1
theorem k0_off204_inb : ∀ (i : grid0.Coords) (v3271 : BitVec 32) (k0_hw75 : k0_chk75 i v3271), ∀ a, (k0_off204 i v3271) a + S8x128.size a ≤ S4096x8192.size a := fun i v3271 k0_hw75 => k0_hw75.2.2

def k0_off205 (i : grid0.Coords) (v3281 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_2223 : BitVec 32 := 72#32
  let v3279 : BitVec 32 := Scalar.addi v2 c72_i32_2223
  let v3282 : BitVec 32 := v3281
  ![v3279.toNat, v3282.toNat]

def k0_chk76 (i : grid0.Coords) (v3281 : BitVec 32) : Prop :=
  (128 ∣ (k0_mult76 v3281).toNat) ∧
  (∀ a, (k0_off109 i v3281) a + S8x128.size a ≤ S4096x8192.size a) ∧
  (∀ a, (k0_off205 i v3281) a + S8x128.size a ≤ S4096x8192.size a)
theorem k0_mult76_dvd : ∀ (i : grid0.Coords) (v3281 : BitVec 32) (k0_hw76 : k0_chk76 i v3281), 128 ∣ (k0_mult76 v3281).toNat := fun i v3281 k0_hw76 => k0_hw76.1
theorem k0_off109_inb : ∀ (i : grid0.Coords) (v3281 : BitVec 32) (k0_hw76 : k0_chk76 i v3281), ∀ a, (k0_off109 i v3281) a + S8x128.size a ≤ S4096x8192.size a := fun i v3281 k0_hw76 => k0_hw76.2.1
theorem k0_off205_inb : ∀ (i : grid0.Coords) (v3281 : BitVec 32) (k0_hw76 : k0_chk76 i v3281), ∀ a, (k0_off205 i v3281) a + S8x128.size a ≤ S4096x8192.size a := fun i v3281 k0_hw76 => k0_hw76.2.2

def k0_off206 (i : grid0.Coords) (v3291 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_2230 : BitVec 32 := 72#32
  let v3289 : BitVec 32 := Scalar.addi v2 c72_i32_2230
  let v3292 : BitVec 32 := v3291
  ![v3289.toNat, v3292.toNat]

def k0_chk77 (i : grid0.Coords) (v3291 : BitVec 32) : Prop :=
  (128 ∣ (k0_mult77 v3291).toNat) ∧
  (∀ a, (k0_off110 i v3291) a + S8x128.size a ≤ S4096x8192.size a) ∧
  (∀ a, (k0_off206 i v3291) a + S8x128.size a ≤ S4096x8192.size a)
theorem k0_mult77_dvd : ∀ (i : grid0.Coords) (v3291 : BitVec 32) (k0_hw77 : k0_chk77 i v3291), 128 ∣ (k0_mult77 v3291).toNat := fun i v3291 k0_hw77 => k0_hw77.1
theorem k0_off110_inb : ∀ (i : grid0.Coords) (v3291 : BitVec 32) (k0_hw77 : k0_chk77 i v3291), ∀ a, (k0_off110 i v3291) a + S8x128.size a ≤ S4096x8192.size a := fun i v3291 k0_hw77 => k0_hw77.2.1
theorem k0_off206_inb : ∀ (i : grid0.Coords) (v3291 : BitVec 32) (k0_hw77 : k0_chk77 i v3291), ∀ a, (k0_off206 i v3291) a + S8x128.size a ≤ S4096x8192.size a := fun i v3291 k0_hw77 => k0_hw77.2.2

def k0_off207 (i : grid0.Coords) (v3301 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_2237 : BitVec 32 := 72#32
  let v3299 : BitVec 32 := Scalar.addi v2 c72_i32_2237
  let v3302 : BitVec 32 := v3301
  ![v3299.toNat, v3302.toNat]

def k0_chk78 (i : grid0.Coords) (v3301 : BitVec 32) : Prop :=
  (128 ∣ (k0_mult78 v3301).toNat) ∧
  (∀ a, (k0_off111 i v3301) a + S8x128.size a ≤ S4096x8192.size a) ∧
  (∀ a, (k0_off207 i v3301) a + S8x128.size a ≤ S4096x8192.size a)
theorem k0_mult78_dvd : ∀ (i : grid0.Coords) (v3301 : BitVec 32) (k0_hw78 : k0_chk78 i v3301), 128 ∣ (k0_mult78 v3301).toNat := fun i v3301 k0_hw78 => k0_hw78.1
theorem k0_off111_inb : ∀ (i : grid0.Coords) (v3301 : BitVec 32) (k0_hw78 : k0_chk78 i v3301), ∀ a, (k0_off111 i v3301) a + S8x128.size a ≤ S4096x8192.size a := fun i v3301 k0_hw78 => k0_hw78.2.1
theorem k0_off207_inb : ∀ (i : grid0.Coords) (v3301 : BitVec 32) (k0_hw78 : k0_chk78 i v3301), ∀ a, (k0_off207 i v3301) a + S8x128.size a ≤ S4096x8192.size a := fun i v3301 k0_hw78 => k0_hw78.2.2

def k0_off208 (i : grid0.Coords) (v3311 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_2244 : BitVec 32 := 72#32
  let v3309 : BitVec 32 := Scalar.addi v2 c72_i32_2244
  let v3312 : BitVec 32 := v3311
  ![v3309.toNat, v3312.toNat]

def k0_chk79 (i : grid0.Coords) (v3311 : BitVec 32) : Prop :=
  (128 ∣ (k0_mult79 v3311).toNat) ∧
  (∀ a, (k0_off112 i v3311) a + S8x128.size a ≤ S4096x8192.size a) ∧
  (∀ a, (k0_off208 i v3311) a + S8x128.size a ≤ S4096x8192.size a)
theorem k0_mult79_dvd : ∀ (i : grid0.Coords) (v3311 : BitVec 32) (k0_hw79 : k0_chk79 i v3311), 128 ∣ (k0_mult79 v3311).toNat := fun i v3311 k0_hw79 => k0_hw79.1
theorem k0_off112_inb : ∀ (i : grid0.Coords) (v3311 : BitVec 32) (k0_hw79 : k0_chk79 i v3311), ∀ a, (k0_off112 i v3311) a + S8x128.size a ≤ S4096x8192.size a := fun i v3311 k0_hw79 => k0_hw79.2.1
theorem k0_off208_inb : ∀ (i : grid0.Coords) (v3311 : BitVec 32) (k0_hw79 : k0_chk79 i v3311), ∀ a, (k0_off208 i v3311) a + S8x128.size a ≤ S4096x8192.size a := fun i v3311 k0_hw79 => k0_hw79.2.2

def k0_off209 (i : grid0.Coords) (v3321 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c72_i32_2251 : BitVec 32 := 72#32
  let v3319 : BitVec 32 := Scalar.addi v2 c72_i32_2251
  let v3322 : BitVec 32 := v3321
  ![v3319.toNat, v3322.toNat]

def k0_chk80 (i : grid0.Coords) (v3321 : BitVec 32) : Prop :=
  (128 ∣ (k0_mult80 v3321).toNat) ∧
  (∀ a, (k0_off113 i v3321) a + S8x128.size a ≤ S4096x8192.size a) ∧
  (∀ a, (k0_off209 i v3321) a + S8x128.size a ≤ S4096x8192.size a)
theorem k0_mult80_dvd : ∀ (i : grid0.Coords) (v3321 : BitVec 32) (k0_hw80 : k0_chk80 i v3321), 128 ∣ (k0_mult80 v3321).toNat := fun i v3321 k0_hw80 => k0_hw80.1
theorem k0_off113_inb : ∀ (i : grid0.Coords) (v3321 : BitVec 32) (k0_hw80 : k0_chk80 i v3321), ∀ a, (k0_off113 i v3321) a + S8x128.size a ≤ S4096x8192.size a := fun i v3321 k0_hw80 => k0_hw80.2.1
theorem k0_off209_inb : ∀ (i : grid0.Coords) (v3321 : BitVec 32) (k0_hw80 : k0_chk80 i v3321), ∀ a, (k0_off209 i v3321) a + S8x128.size a ≤ S4096x8192.size a := fun i v3321 k0_hw80 => k0_hw80.2.2

def k0_off210 (i : grid0.Coords) (v3337 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32 : BitVec 32 := 80#32
  let v3335 : BitVec 32 := Scalar.addi v2 c80_i32
  let v3338 : BitVec 32 := v3337
  ![v3335.toNat, v3338.toNat]

def k0_chk81 (i : grid0.Coords) (v3337 : BitVec 32) : Prop :=
  (128 ∣ (k0_mult81 v3337).toNat) ∧
  (∀ a, (k0_off114 i v3337) a + S8x128.size a ≤ S4096x8192.size a) ∧
  (∀ a, (k0_off210 i v3337) a + S8x128.size a ≤ S4096x8192.size a)
theorem k0_mult81_dvd : ∀ (i : grid0.Coords) (v3337 : BitVec 32) (k0_hw81 : k0_chk81 i v3337), 128 ∣ (k0_mult81 v3337).toNat := fun i v3337 k0_hw81 => k0_hw81.1
theorem k0_off114_inb : ∀ (i : grid0.Coords) (v3337 : BitVec 32) (k0_hw81 : k0_chk81 i v3337), ∀ a, (k0_off114 i v3337) a + S8x128.size a ≤ S4096x8192.size a := fun i v3337 k0_hw81 => k0_hw81.2.1
theorem k0_off210_inb : ∀ (i : grid0.Coords) (v3337 : BitVec 32) (k0_hw81 : k0_chk81 i v3337), ∀ a, (k0_off210 i v3337) a + S8x128.size a ≤ S4096x8192.size a := fun i v3337 k0_hw81 => k0_hw81.2.2

def k0_off211 (i : grid0.Coords) (v3347 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_2267 : BitVec 32 := 80#32
  let v3345 : BitVec 32 := Scalar.addi v2 c80_i32_2267
  let v3348 : BitVec 32 := v3347
  ![v3345.toNat, v3348.toNat]

def k0_chk82 (i : grid0.Coords) (v3347 : BitVec 32) : Prop :=
  (128 ∣ (k0_mult82 v3347).toNat) ∧
  (∀ a, (k0_off115 i v3347) a + S8x128.size a ≤ S4096x8192.size a) ∧
  (∀ a, (k0_off211 i v3347) a + S8x128.size a ≤ S4096x8192.size a)
theorem k0_mult82_dvd : ∀ (i : grid0.Coords) (v3347 : BitVec 32) (k0_hw82 : k0_chk82 i v3347), 128 ∣ (k0_mult82 v3347).toNat := fun i v3347 k0_hw82 => k0_hw82.1
theorem k0_off115_inb : ∀ (i : grid0.Coords) (v3347 : BitVec 32) (k0_hw82 : k0_chk82 i v3347), ∀ a, (k0_off115 i v3347) a + S8x128.size a ≤ S4096x8192.size a := fun i v3347 k0_hw82 => k0_hw82.2.1
theorem k0_off211_inb : ∀ (i : grid0.Coords) (v3347 : BitVec 32) (k0_hw82 : k0_chk82 i v3347), ∀ a, (k0_off211 i v3347) a + S8x128.size a ≤ S4096x8192.size a := fun i v3347 k0_hw82 => k0_hw82.2.2

def k0_off212 (i : grid0.Coords) (v3357 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_2274 : BitVec 32 := 80#32
  let v3355 : BitVec 32 := Scalar.addi v2 c80_i32_2274
  let v3358 : BitVec 32 := v3357
  ![v3355.toNat, v3358.toNat]

def k0_chk83 (i : grid0.Coords) (v3357 : BitVec 32) : Prop :=
  (128 ∣ (k0_mult83 v3357).toNat) ∧
  (∀ a, (k0_off116 i v3357) a + S8x128.size a ≤ S4096x8192.size a) ∧
  (∀ a, (k0_off212 i v3357) a + S8x128.size a ≤ S4096x8192.size a)
theorem k0_mult83_dvd : ∀ (i : grid0.Coords) (v3357 : BitVec 32) (k0_hw83 : k0_chk83 i v3357), 128 ∣ (k0_mult83 v3357).toNat := fun i v3357 k0_hw83 => k0_hw83.1
theorem k0_off116_inb : ∀ (i : grid0.Coords) (v3357 : BitVec 32) (k0_hw83 : k0_chk83 i v3357), ∀ a, (k0_off116 i v3357) a + S8x128.size a ≤ S4096x8192.size a := fun i v3357 k0_hw83 => k0_hw83.2.1
theorem k0_off212_inb : ∀ (i : grid0.Coords) (v3357 : BitVec 32) (k0_hw83 : k0_chk83 i v3357), ∀ a, (k0_off212 i v3357) a + S8x128.size a ≤ S4096x8192.size a := fun i v3357 k0_hw83 => k0_hw83.2.2

def k0_off213 (i : grid0.Coords) (v3367 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_2281 : BitVec 32 := 80#32
  let v3365 : BitVec 32 := Scalar.addi v2 c80_i32_2281
  let v3368 : BitVec 32 := v3367
  ![v3365.toNat, v3368.toNat]

def k0_chk84 (i : grid0.Coords) (v3367 : BitVec 32) : Prop :=
  (128 ∣ (k0_mult84 v3367).toNat) ∧
  (∀ a, (k0_off117 i v3367) a + S8x128.size a ≤ S4096x8192.size a) ∧
  (∀ a, (k0_off213 i v3367) a + S8x128.size a ≤ S4096x8192.size a)
theorem k0_mult84_dvd : ∀ (i : grid0.Coords) (v3367 : BitVec 32) (k0_hw84 : k0_chk84 i v3367), 128 ∣ (k0_mult84 v3367).toNat := fun i v3367 k0_hw84 => k0_hw84.1
theorem k0_off117_inb : ∀ (i : grid0.Coords) (v3367 : BitVec 32) (k0_hw84 : k0_chk84 i v3367), ∀ a, (k0_off117 i v3367) a + S8x128.size a ≤ S4096x8192.size a := fun i v3367 k0_hw84 => k0_hw84.2.1
theorem k0_off213_inb : ∀ (i : grid0.Coords) (v3367 : BitVec 32) (k0_hw84 : k0_chk84 i v3367), ∀ a, (k0_off213 i v3367) a + S8x128.size a ≤ S4096x8192.size a := fun i v3367 k0_hw84 => k0_hw84.2.2

def k0_off214 (i : grid0.Coords) (v3377 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_2288 : BitVec 32 := 80#32
  let v3375 : BitVec 32 := Scalar.addi v2 c80_i32_2288
  let v3378 : BitVec 32 := v3377
  ![v3375.toNat, v3378.toNat]

def k0_chk85 (i : grid0.Coords) (v3377 : BitVec 32) : Prop :=
  (128 ∣ (k0_mult85 v3377).toNat) ∧
  (∀ a, (k0_off118 i v3377) a + S8x128.size a ≤ S4096x8192.size a) ∧
  (∀ a, (k0_off214 i v3377) a + S8x128.size a ≤ S4096x8192.size a)
theorem k0_mult85_dvd : ∀ (i : grid0.Coords) (v3377 : BitVec 32) (k0_hw85 : k0_chk85 i v3377), 128 ∣ (k0_mult85 v3377).toNat := fun i v3377 k0_hw85 => k0_hw85.1
theorem k0_off118_inb : ∀ (i : grid0.Coords) (v3377 : BitVec 32) (k0_hw85 : k0_chk85 i v3377), ∀ a, (k0_off118 i v3377) a + S8x128.size a ≤ S4096x8192.size a := fun i v3377 k0_hw85 => k0_hw85.2.1
theorem k0_off214_inb : ∀ (i : grid0.Coords) (v3377 : BitVec 32) (k0_hw85 : k0_chk85 i v3377), ∀ a, (k0_off214 i v3377) a + S8x128.size a ≤ S4096x8192.size a := fun i v3377 k0_hw85 => k0_hw85.2.2

def k0_off215 (i : grid0.Coords) (v3387 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_2295 : BitVec 32 := 80#32
  let v3385 : BitVec 32 := Scalar.addi v2 c80_i32_2295
  let v3388 : BitVec 32 := v3387
  ![v3385.toNat, v3388.toNat]

def k0_chk86 (i : grid0.Coords) (v3387 : BitVec 32) : Prop :=
  (128 ∣ (k0_mult86 v3387).toNat) ∧
  (∀ a, (k0_off119 i v3387) a + S8x128.size a ≤ S4096x8192.size a) ∧
  (∀ a, (k0_off215 i v3387) a + S8x128.size a ≤ S4096x8192.size a)
theorem k0_mult86_dvd : ∀ (i : grid0.Coords) (v3387 : BitVec 32) (k0_hw86 : k0_chk86 i v3387), 128 ∣ (k0_mult86 v3387).toNat := fun i v3387 k0_hw86 => k0_hw86.1
theorem k0_off119_inb : ∀ (i : grid0.Coords) (v3387 : BitVec 32) (k0_hw86 : k0_chk86 i v3387), ∀ a, (k0_off119 i v3387) a + S8x128.size a ≤ S4096x8192.size a := fun i v3387 k0_hw86 => k0_hw86.2.1
theorem k0_off215_inb : ∀ (i : grid0.Coords) (v3387 : BitVec 32) (k0_hw86 : k0_chk86 i v3387), ∀ a, (k0_off215 i v3387) a + S8x128.size a ≤ S4096x8192.size a := fun i v3387 k0_hw86 => k0_hw86.2.2

def k0_off216 (i : grid0.Coords) (v3397 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_2302 : BitVec 32 := 80#32
  let v3395 : BitVec 32 := Scalar.addi v2 c80_i32_2302
  let v3398 : BitVec 32 := v3397
  ![v3395.toNat, v3398.toNat]

def k0_chk87 (i : grid0.Coords) (v3397 : BitVec 32) : Prop :=
  (128 ∣ (k0_mult87 v3397).toNat) ∧
  (∀ a, (k0_off120 i v3397) a + S8x128.size a ≤ S4096x8192.size a) ∧
  (∀ a, (k0_off216 i v3397) a + S8x128.size a ≤ S4096x8192.size a)
theorem k0_mult87_dvd : ∀ (i : grid0.Coords) (v3397 : BitVec 32) (k0_hw87 : k0_chk87 i v3397), 128 ∣ (k0_mult87 v3397).toNat := fun i v3397 k0_hw87 => k0_hw87.1
theorem k0_off120_inb : ∀ (i : grid0.Coords) (v3397 : BitVec 32) (k0_hw87 : k0_chk87 i v3397), ∀ a, (k0_off120 i v3397) a + S8x128.size a ≤ S4096x8192.size a := fun i v3397 k0_hw87 => k0_hw87.2.1
theorem k0_off216_inb : ∀ (i : grid0.Coords) (v3397 : BitVec 32) (k0_hw87 : k0_chk87 i v3397), ∀ a, (k0_off216 i v3397) a + S8x128.size a ≤ S4096x8192.size a := fun i v3397 k0_hw87 => k0_hw87.2.2

def k0_off217 (i : grid0.Coords) (v3407 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_2309 : BitVec 32 := 80#32
  let v3405 : BitVec 32 := Scalar.addi v2 c80_i32_2309
  let v3408 : BitVec 32 := v3407
  ![v3405.toNat, v3408.toNat]

def k0_chk88 (i : grid0.Coords) (v3407 : BitVec 32) : Prop :=
  (128 ∣ (k0_mult88 v3407).toNat) ∧
  (∀ a, (k0_off121 i v3407) a + S8x128.size a ≤ S4096x8192.size a) ∧
  (∀ a, (k0_off217 i v3407) a + S8x128.size a ≤ S4096x8192.size a)
theorem k0_mult88_dvd : ∀ (i : grid0.Coords) (v3407 : BitVec 32) (k0_hw88 : k0_chk88 i v3407), 128 ∣ (k0_mult88 v3407).toNat := fun i v3407 k0_hw88 => k0_hw88.1
theorem k0_off121_inb : ∀ (i : grid0.Coords) (v3407 : BitVec 32) (k0_hw88 : k0_chk88 i v3407), ∀ a, (k0_off121 i v3407) a + S8x128.size a ≤ S4096x8192.size a := fun i v3407 k0_hw88 => k0_hw88.2.1
theorem k0_off217_inb : ∀ (i : grid0.Coords) (v3407 : BitVec 32) (k0_hw88 : k0_chk88 i v3407), ∀ a, (k0_off217 i v3407) a + S8x128.size a ≤ S4096x8192.size a := fun i v3407 k0_hw88 => k0_hw88.2.2

def k0_off218 (i : grid0.Coords) (v3417 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32 : BitVec 32 := 88#32
  let v3415 : BitVec 32 := Scalar.addi v2 c88_i32
  let v3418 : BitVec 32 := v3417
  ![v3415.toNat, v3418.toNat]

def k0_chk89 (i : grid0.Coords) (v3417 : BitVec 32) : Prop :=
  (128 ∣ (k0_mult89 v3417).toNat) ∧
  (∀ a, (k0_off122 i v3417) a + S8x128.size a ≤ S4096x8192.size a) ∧
  (∀ a, (k0_off218 i v3417) a + S8x128.size a ≤ S4096x8192.size a)
theorem k0_mult89_dvd : ∀ (i : grid0.Coords) (v3417 : BitVec 32) (k0_hw89 : k0_chk89 i v3417), 128 ∣ (k0_mult89 v3417).toNat := fun i v3417 k0_hw89 => k0_hw89.1
theorem k0_off122_inb : ∀ (i : grid0.Coords) (v3417 : BitVec 32) (k0_hw89 : k0_chk89 i v3417), ∀ a, (k0_off122 i v3417) a + S8x128.size a ≤ S4096x8192.size a := fun i v3417 k0_hw89 => k0_hw89.2.1
theorem k0_off218_inb : ∀ (i : grid0.Coords) (v3417 : BitVec 32) (k0_hw89 : k0_chk89 i v3417), ∀ a, (k0_off218 i v3417) a + S8x128.size a ≤ S4096x8192.size a := fun i v3417 k0_hw89 => k0_hw89.2.2

def k0_off219 (i : grid0.Coords) (v3427 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_2322 : BitVec 32 := 88#32
  let v3425 : BitVec 32 := Scalar.addi v2 c88_i32_2322
  let v3428 : BitVec 32 := v3427
  ![v3425.toNat, v3428.toNat]

def k0_chk90 (i : grid0.Coords) (v3427 : BitVec 32) : Prop :=
  (128 ∣ (k0_mult90 v3427).toNat) ∧
  (∀ a, (k0_off123 i v3427) a + S8x128.size a ≤ S4096x8192.size a) ∧
  (∀ a, (k0_off219 i v3427) a + S8x128.size a ≤ S4096x8192.size a)
theorem k0_mult90_dvd : ∀ (i : grid0.Coords) (v3427 : BitVec 32) (k0_hw90 : k0_chk90 i v3427), 128 ∣ (k0_mult90 v3427).toNat := fun i v3427 k0_hw90 => k0_hw90.1
theorem k0_off123_inb : ∀ (i : grid0.Coords) (v3427 : BitVec 32) (k0_hw90 : k0_chk90 i v3427), ∀ a, (k0_off123 i v3427) a + S8x128.size a ≤ S4096x8192.size a := fun i v3427 k0_hw90 => k0_hw90.2.1
theorem k0_off219_inb : ∀ (i : grid0.Coords) (v3427 : BitVec 32) (k0_hw90 : k0_chk90 i v3427), ∀ a, (k0_off219 i v3427) a + S8x128.size a ≤ S4096x8192.size a := fun i v3427 k0_hw90 => k0_hw90.2.2

def k0_off220 (i : grid0.Coords) (v3437 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_2329 : BitVec 32 := 88#32
  let v3435 : BitVec 32 := Scalar.addi v2 c88_i32_2329
  let v3438 : BitVec 32 := v3437
  ![v3435.toNat, v3438.toNat]

def k0_chk91 (i : grid0.Coords) (v3437 : BitVec 32) : Prop :=
  (128 ∣ (k0_mult91 v3437).toNat) ∧
  (∀ a, (k0_off124 i v3437) a + S8x128.size a ≤ S4096x8192.size a) ∧
  (∀ a, (k0_off220 i v3437) a + S8x128.size a ≤ S4096x8192.size a)
theorem k0_mult91_dvd : ∀ (i : grid0.Coords) (v3437 : BitVec 32) (k0_hw91 : k0_chk91 i v3437), 128 ∣ (k0_mult91 v3437).toNat := fun i v3437 k0_hw91 => k0_hw91.1
theorem k0_off124_inb : ∀ (i : grid0.Coords) (v3437 : BitVec 32) (k0_hw91 : k0_chk91 i v3437), ∀ a, (k0_off124 i v3437) a + S8x128.size a ≤ S4096x8192.size a := fun i v3437 k0_hw91 => k0_hw91.2.1
theorem k0_off220_inb : ∀ (i : grid0.Coords) (v3437 : BitVec 32) (k0_hw91 : k0_chk91 i v3437), ∀ a, (k0_off220 i v3437) a + S8x128.size a ≤ S4096x8192.size a := fun i v3437 k0_hw91 => k0_hw91.2.2

def k0_off221 (i : grid0.Coords) (v3447 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_2336 : BitVec 32 := 88#32
  let v3445 : BitVec 32 := Scalar.addi v2 c88_i32_2336
  let v3448 : BitVec 32 := v3447
  ![v3445.toNat, v3448.toNat]

def k0_chk92 (i : grid0.Coords) (v3447 : BitVec 32) : Prop :=
  (128 ∣ (k0_mult92 v3447).toNat) ∧
  (∀ a, (k0_off125 i v3447) a + S8x128.size a ≤ S4096x8192.size a) ∧
  (∀ a, (k0_off221 i v3447) a + S8x128.size a ≤ S4096x8192.size a)
theorem k0_mult92_dvd : ∀ (i : grid0.Coords) (v3447 : BitVec 32) (k0_hw92 : k0_chk92 i v3447), 128 ∣ (k0_mult92 v3447).toNat := fun i v3447 k0_hw92 => k0_hw92.1
theorem k0_off125_inb : ∀ (i : grid0.Coords) (v3447 : BitVec 32) (k0_hw92 : k0_chk92 i v3447), ∀ a, (k0_off125 i v3447) a + S8x128.size a ≤ S4096x8192.size a := fun i v3447 k0_hw92 => k0_hw92.2.1
theorem k0_off221_inb : ∀ (i : grid0.Coords) (v3447 : BitVec 32) (k0_hw92 : k0_chk92 i v3447), ∀ a, (k0_off221 i v3447) a + S8x128.size a ≤ S4096x8192.size a := fun i v3447 k0_hw92 => k0_hw92.2.2

def k0_off222 (i : grid0.Coords) (v3457 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_2343 : BitVec 32 := 88#32
  let v3455 : BitVec 32 := Scalar.addi v2 c88_i32_2343
  let v3458 : BitVec 32 := v3457
  ![v3455.toNat, v3458.toNat]

def k0_chk93 (i : grid0.Coords) (v3457 : BitVec 32) : Prop :=
  (128 ∣ (k0_mult93 v3457).toNat) ∧
  (∀ a, (k0_off126 i v3457) a + S8x128.size a ≤ S4096x8192.size a) ∧
  (∀ a, (k0_off222 i v3457) a + S8x128.size a ≤ S4096x8192.size a)
theorem k0_mult93_dvd : ∀ (i : grid0.Coords) (v3457 : BitVec 32) (k0_hw93 : k0_chk93 i v3457), 128 ∣ (k0_mult93 v3457).toNat := fun i v3457 k0_hw93 => k0_hw93.1
theorem k0_off126_inb : ∀ (i : grid0.Coords) (v3457 : BitVec 32) (k0_hw93 : k0_chk93 i v3457), ∀ a, (k0_off126 i v3457) a + S8x128.size a ≤ S4096x8192.size a := fun i v3457 k0_hw93 => k0_hw93.2.1
theorem k0_off222_inb : ∀ (i : grid0.Coords) (v3457 : BitVec 32) (k0_hw93 : k0_chk93 i v3457), ∀ a, (k0_off222 i v3457) a + S8x128.size a ≤ S4096x8192.size a := fun i v3457 k0_hw93 => k0_hw93.2.2

def k0_off223 (i : grid0.Coords) (v3467 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_2350 : BitVec 32 := 88#32
  let v3465 : BitVec 32 := Scalar.addi v2 c88_i32_2350
  let v3468 : BitVec 32 := v3467
  ![v3465.toNat, v3468.toNat]

def k0_chk94 (i : grid0.Coords) (v3467 : BitVec 32) : Prop :=
  (128 ∣ (k0_mult94 v3467).toNat) ∧
  (∀ a, (k0_off127 i v3467) a + S8x128.size a ≤ S4096x8192.size a) ∧
  (∀ a, (k0_off223 i v3467) a + S8x128.size a ≤ S4096x8192.size a)
theorem k0_mult94_dvd : ∀ (i : grid0.Coords) (v3467 : BitVec 32) (k0_hw94 : k0_chk94 i v3467), 128 ∣ (k0_mult94 v3467).toNat := fun i v3467 k0_hw94 => k0_hw94.1
theorem k0_off127_inb : ∀ (i : grid0.Coords) (v3467 : BitVec 32) (k0_hw94 : k0_chk94 i v3467), ∀ a, (k0_off127 i v3467) a + S8x128.size a ≤ S4096x8192.size a := fun i v3467 k0_hw94 => k0_hw94.2.1
theorem k0_off223_inb : ∀ (i : grid0.Coords) (v3467 : BitVec 32) (k0_hw94 : k0_chk94 i v3467), ∀ a, (k0_off223 i v3467) a + S8x128.size a ≤ S4096x8192.size a := fun i v3467 k0_hw94 => k0_hw94.2.2

def k0_off224 (i : grid0.Coords) (v3477 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_2357 : BitVec 32 := 88#32
  let v3475 : BitVec 32 := Scalar.addi v2 c88_i32_2357
  let v3478 : BitVec 32 := v3477
  ![v3475.toNat, v3478.toNat]

def k0_chk95 (i : grid0.Coords) (v3477 : BitVec 32) : Prop :=
  (128 ∣ (k0_mult95 v3477).toNat) ∧
  (∀ a, (k0_off128 i v3477) a + S8x128.size a ≤ S4096x8192.size a) ∧
  (∀ a, (k0_off224 i v3477) a + S8x128.size a ≤ S4096x8192.size a)
theorem k0_mult95_dvd : ∀ (i : grid0.Coords) (v3477 : BitVec 32) (k0_hw95 : k0_chk95 i v3477), 128 ∣ (k0_mult95 v3477).toNat := fun i v3477 k0_hw95 => k0_hw95.1
theorem k0_off128_inb : ∀ (i : grid0.Coords) (v3477 : BitVec 32) (k0_hw95 : k0_chk95 i v3477), ∀ a, (k0_off128 i v3477) a + S8x128.size a ≤ S4096x8192.size a := fun i v3477 k0_hw95 => k0_hw95.2.1
theorem k0_off224_inb : ∀ (i : grid0.Coords) (v3477 : BitVec 32) (k0_hw95 : k0_chk95 i v3477), ∀ a, (k0_off224 i v3477) a + S8x128.size a ≤ S4096x8192.size a := fun i v3477 k0_hw95 => k0_hw95.2.2

def k0_off225 (i : grid0.Coords) (v3487 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c88_i32_2364 : BitVec 32 := 88#32
  let v3485 : BitVec 32 := Scalar.addi v2 c88_i32_2364
  let v3488 : BitVec 32 := v3487
  ![v3485.toNat, v3488.toNat]

def k0_chk96 (i : grid0.Coords) (v3487 : BitVec 32) : Prop :=
  (128 ∣ (k0_mult96 v3487).toNat) ∧
  (∀ a, (k0_off129 i v3487) a + S8x128.size a ≤ S4096x8192.size a) ∧
  (∀ a, (k0_off225 i v3487) a + S8x128.size a ≤ S4096x8192.size a)
theorem k0_mult96_dvd : ∀ (i : grid0.Coords) (v3487 : BitVec 32) (k0_hw96 : k0_chk96 i v3487), 128 ∣ (k0_mult96 v3487).toNat := fun i v3487 k0_hw96 => k0_hw96.1
theorem k0_off129_inb : ∀ (i : grid0.Coords) (v3487 : BitVec 32) (k0_hw96 : k0_chk96 i v3487), ∀ a, (k0_off129 i v3487) a + S8x128.size a ≤ S4096x8192.size a := fun i v3487 k0_hw96 => k0_hw96.2.1
theorem k0_off225_inb : ∀ (i : grid0.Coords) (v3487 : BitVec 32) (k0_hw96 : k0_chk96 i v3487), ∀ a, (k0_off225 i v3487) a + S8x128.size a ≤ S4096x8192.size a := fun i v3487 k0_hw96 => k0_hw96.2.2

def k0_off226 (i : grid0.Coords) (v5999 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32 : BitVec 32 := 96#32
  let v5997 : BitVec 32 := Scalar.addi v2 c96_i32
  let v6000 : BitVec 32 := v5999
  ![v5997.toNat, v6000.toNat]

def k0_chk97 (i : grid0.Coords) (v5999 : BitVec 32) : Prop :=
  (128 ∣ (k0_mult97 v5999).toNat) ∧
  (∀ a, (k0_off162 i v5999) a + S8x128.size a ≤ S4096x8192.size a) ∧
  (∀ a, (k0_off226 i v5999) a + S8x128.size a ≤ S4096x8192.size a)
theorem k0_mult97_dvd : ∀ (i : grid0.Coords) (v5999 : BitVec 32) (k0_hw97 : k0_chk97 i v5999), 128 ∣ (k0_mult97 v5999).toNat := fun i v5999 k0_hw97 => k0_hw97.1
theorem k0_off162_inb : ∀ (i : grid0.Coords) (v5999 : BitVec 32) (k0_hw97 : k0_chk97 i v5999), ∀ a, (k0_off162 i v5999) a + S8x128.size a ≤ S4096x8192.size a := fun i v5999 k0_hw97 => k0_hw97.2.1
theorem k0_off226_inb : ∀ (i : grid0.Coords) (v5999 : BitVec 32) (k0_hw97 : k0_chk97 i v5999), ∀ a, (k0_off226 i v5999) a + S8x128.size a ≤ S4096x8192.size a := fun i v5999 k0_hw97 => k0_hw97.2.2

def k0_off227 (i : grid0.Coords) (v6009 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_4080 : BitVec 32 := 96#32
  let v6007 : BitVec 32 := Scalar.addi v2 c96_i32_4080
  let v6010 : BitVec 32 := v6009
  ![v6007.toNat, v6010.toNat]

def k0_chk98 (i : grid0.Coords) (v6009 : BitVec 32) : Prop :=
  (128 ∣ (k0_mult98 v6009).toNat) ∧
  (∀ a, (k0_off163 i v6009) a + S8x128.size a ≤ S4096x8192.size a) ∧
  (∀ a, (k0_off227 i v6009) a + S8x128.size a ≤ S4096x8192.size a)
theorem k0_mult98_dvd : ∀ (i : grid0.Coords) (v6009 : BitVec 32) (k0_hw98 : k0_chk98 i v6009), 128 ∣ (k0_mult98 v6009).toNat := fun i v6009 k0_hw98 => k0_hw98.1
theorem k0_off163_inb : ∀ (i : grid0.Coords) (v6009 : BitVec 32) (k0_hw98 : k0_chk98 i v6009), ∀ a, (k0_off163 i v6009) a + S8x128.size a ≤ S4096x8192.size a := fun i v6009 k0_hw98 => k0_hw98.2.1
theorem k0_off227_inb : ∀ (i : grid0.Coords) (v6009 : BitVec 32) (k0_hw98 : k0_chk98 i v6009), ∀ a, (k0_off227 i v6009) a + S8x128.size a ≤ S4096x8192.size a := fun i v6009 k0_hw98 => k0_hw98.2.2

def k0_off228 (i : grid0.Coords) (v6019 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_4087 : BitVec 32 := 96#32
  let v6017 : BitVec 32 := Scalar.addi v2 c96_i32_4087
  let v6020 : BitVec 32 := v6019
  ![v6017.toNat, v6020.toNat]

def k0_chk99 (i : grid0.Coords) (v6019 : BitVec 32) : Prop :=
  (128 ∣ (k0_mult99 v6019).toNat) ∧
  (∀ a, (k0_off164 i v6019) a + S8x128.size a ≤ S4096x8192.size a) ∧
  (∀ a, (k0_off228 i v6019) a + S8x128.size a ≤ S4096x8192.size a)
theorem k0_mult99_dvd : ∀ (i : grid0.Coords) (v6019 : BitVec 32) (k0_hw99 : k0_chk99 i v6019), 128 ∣ (k0_mult99 v6019).toNat := fun i v6019 k0_hw99 => k0_hw99.1
theorem k0_off164_inb : ∀ (i : grid0.Coords) (v6019 : BitVec 32) (k0_hw99 : k0_chk99 i v6019), ∀ a, (k0_off164 i v6019) a + S8x128.size a ≤ S4096x8192.size a := fun i v6019 k0_hw99 => k0_hw99.2.1
theorem k0_off228_inb : ∀ (i : grid0.Coords) (v6019 : BitVec 32) (k0_hw99 : k0_chk99 i v6019), ∀ a, (k0_off228 i v6019) a + S8x128.size a ≤ S4096x8192.size a := fun i v6019 k0_hw99 => k0_hw99.2.2

def k0_off229 (i : grid0.Coords) (v6029 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_4094 : BitVec 32 := 96#32
  let v6027 : BitVec 32 := Scalar.addi v2 c96_i32_4094
  let v6030 : BitVec 32 := v6029
  ![v6027.toNat, v6030.toNat]

def k0_chk100 (i : grid0.Coords) (v6029 : BitVec 32) : Prop :=
  (128 ∣ (k0_mult100 v6029).toNat) ∧
  (∀ a, (k0_off165 i v6029) a + S8x128.size a ≤ S4096x8192.size a) ∧
  (∀ a, (k0_off229 i v6029) a + S8x128.size a ≤ S4096x8192.size a)
theorem k0_mult100_dvd : ∀ (i : grid0.Coords) (v6029 : BitVec 32) (k0_hw100 : k0_chk100 i v6029), 128 ∣ (k0_mult100 v6029).toNat := fun i v6029 k0_hw100 => k0_hw100.1
theorem k0_off165_inb : ∀ (i : grid0.Coords) (v6029 : BitVec 32) (k0_hw100 : k0_chk100 i v6029), ∀ a, (k0_off165 i v6029) a + S8x128.size a ≤ S4096x8192.size a := fun i v6029 k0_hw100 => k0_hw100.2.1
theorem k0_off229_inb : ∀ (i : grid0.Coords) (v6029 : BitVec 32) (k0_hw100 : k0_chk100 i v6029), ∀ a, (k0_off229 i v6029) a + S8x128.size a ≤ S4096x8192.size a := fun i v6029 k0_hw100 => k0_hw100.2.2

def k0_off230 (i : grid0.Coords) (v6039 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_4101 : BitVec 32 := 96#32
  let v6037 : BitVec 32 := Scalar.addi v2 c96_i32_4101
  let v6040 : BitVec 32 := v6039
  ![v6037.toNat, v6040.toNat]

def k0_chk101 (i : grid0.Coords) (v6039 : BitVec 32) : Prop :=
  (128 ∣ (k0_mult101 v6039).toNat) ∧
  (∀ a, (k0_off166 i v6039) a + S8x128.size a ≤ S4096x8192.size a) ∧
  (∀ a, (k0_off230 i v6039) a + S8x128.size a ≤ S4096x8192.size a)
theorem k0_mult101_dvd : ∀ (i : grid0.Coords) (v6039 : BitVec 32) (k0_hw101 : k0_chk101 i v6039), 128 ∣ (k0_mult101 v6039).toNat := fun i v6039 k0_hw101 => k0_hw101.1
theorem k0_off166_inb : ∀ (i : grid0.Coords) (v6039 : BitVec 32) (k0_hw101 : k0_chk101 i v6039), ∀ a, (k0_off166 i v6039) a + S8x128.size a ≤ S4096x8192.size a := fun i v6039 k0_hw101 => k0_hw101.2.1
theorem k0_off230_inb : ∀ (i : grid0.Coords) (v6039 : BitVec 32) (k0_hw101 : k0_chk101 i v6039), ∀ a, (k0_off230 i v6039) a + S8x128.size a ≤ S4096x8192.size a := fun i v6039 k0_hw101 => k0_hw101.2.2

def k0_off231 (i : grid0.Coords) (v6049 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_4108 : BitVec 32 := 96#32
  let v6047 : BitVec 32 := Scalar.addi v2 c96_i32_4108
  let v6050 : BitVec 32 := v6049
  ![v6047.toNat, v6050.toNat]

def k0_chk102 (i : grid0.Coords) (v6049 : BitVec 32) : Prop :=
  (128 ∣ (k0_mult102 v6049).toNat) ∧
  (∀ a, (k0_off167 i v6049) a + S8x128.size a ≤ S4096x8192.size a) ∧
  (∀ a, (k0_off231 i v6049) a + S8x128.size a ≤ S4096x8192.size a)
theorem k0_mult102_dvd : ∀ (i : grid0.Coords) (v6049 : BitVec 32) (k0_hw102 : k0_chk102 i v6049), 128 ∣ (k0_mult102 v6049).toNat := fun i v6049 k0_hw102 => k0_hw102.1
theorem k0_off167_inb : ∀ (i : grid0.Coords) (v6049 : BitVec 32) (k0_hw102 : k0_chk102 i v6049), ∀ a, (k0_off167 i v6049) a + S8x128.size a ≤ S4096x8192.size a := fun i v6049 k0_hw102 => k0_hw102.2.1
theorem k0_off231_inb : ∀ (i : grid0.Coords) (v6049 : BitVec 32) (k0_hw102 : k0_chk102 i v6049), ∀ a, (k0_off231 i v6049) a + S8x128.size a ≤ S4096x8192.size a := fun i v6049 k0_hw102 => k0_hw102.2.2

def k0_off232 (i : grid0.Coords) (v6059 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_4115 : BitVec 32 := 96#32
  let v6057 : BitVec 32 := Scalar.addi v2 c96_i32_4115
  let v6060 : BitVec 32 := v6059
  ![v6057.toNat, v6060.toNat]

def k0_chk103 (i : grid0.Coords) (v6059 : BitVec 32) : Prop :=
  (128 ∣ (k0_mult103 v6059).toNat) ∧
  (∀ a, (k0_off168 i v6059) a + S8x128.size a ≤ S4096x8192.size a) ∧
  (∀ a, (k0_off232 i v6059) a + S8x128.size a ≤ S4096x8192.size a)
theorem k0_mult103_dvd : ∀ (i : grid0.Coords) (v6059 : BitVec 32) (k0_hw103 : k0_chk103 i v6059), 128 ∣ (k0_mult103 v6059).toNat := fun i v6059 k0_hw103 => k0_hw103.1
theorem k0_off168_inb : ∀ (i : grid0.Coords) (v6059 : BitVec 32) (k0_hw103 : k0_chk103 i v6059), ∀ a, (k0_off168 i v6059) a + S8x128.size a ≤ S4096x8192.size a := fun i v6059 k0_hw103 => k0_hw103.2.1
theorem k0_off232_inb : ∀ (i : grid0.Coords) (v6059 : BitVec 32) (k0_hw103 : k0_chk103 i v6059), ∀ a, (k0_off232 i v6059) a + S8x128.size a ≤ S4096x8192.size a := fun i v6059 k0_hw103 => k0_hw103.2.2

def k0_off233 (i : grid0.Coords) (v6069 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_4122 : BitVec 32 := 96#32
  let v6067 : BitVec 32 := Scalar.addi v2 c96_i32_4122
  let v6070 : BitVec 32 := v6069
  ![v6067.toNat, v6070.toNat]

def k0_chk104 (i : grid0.Coords) (v6069 : BitVec 32) : Prop :=
  (128 ∣ (k0_mult104 v6069).toNat) ∧
  (∀ a, (k0_off169 i v6069) a + S8x128.size a ≤ S4096x8192.size a) ∧
  (∀ a, (k0_off233 i v6069) a + S8x128.size a ≤ S4096x8192.size a)
theorem k0_mult104_dvd : ∀ (i : grid0.Coords) (v6069 : BitVec 32) (k0_hw104 : k0_chk104 i v6069), 128 ∣ (k0_mult104 v6069).toNat := fun i v6069 k0_hw104 => k0_hw104.1
theorem k0_off169_inb : ∀ (i : grid0.Coords) (v6069 : BitVec 32) (k0_hw104 : k0_chk104 i v6069), ∀ a, (k0_off169 i v6069) a + S8x128.size a ≤ S4096x8192.size a := fun i v6069 k0_hw104 => k0_hw104.2.1
theorem k0_off233_inb : ∀ (i : grid0.Coords) (v6069 : BitVec 32) (k0_hw104 : k0_chk104 i v6069), ∀ a, (k0_off233 i v6069) a + S8x128.size a ≤ S4096x8192.size a := fun i v6069 k0_hw104 => k0_hw104.2.2

def k0_off234 (i : grid0.Coords) (v6079 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32 : BitVec 32 := 104#32
  let v6077 : BitVec 32 := Scalar.addi v2 c104_i32
  let v6080 : BitVec 32 := v6079
  ![v6077.toNat, v6080.toNat]

def k0_chk105 (i : grid0.Coords) (v6079 : BitVec 32) : Prop :=
  (128 ∣ (k0_mult105 v6079).toNat) ∧
  (∀ a, (k0_off170 i v6079) a + S8x128.size a ≤ S4096x8192.size a) ∧
  (∀ a, (k0_off234 i v6079) a + S8x128.size a ≤ S4096x8192.size a)
theorem k0_mult105_dvd : ∀ (i : grid0.Coords) (v6079 : BitVec 32) (k0_hw105 : k0_chk105 i v6079), 128 ∣ (k0_mult105 v6079).toNat := fun i v6079 k0_hw105 => k0_hw105.1
theorem k0_off170_inb : ∀ (i : grid0.Coords) (v6079 : BitVec 32) (k0_hw105 : k0_chk105 i v6079), ∀ a, (k0_off170 i v6079) a + S8x128.size a ≤ S4096x8192.size a := fun i v6079 k0_hw105 => k0_hw105.2.1
theorem k0_off234_inb : ∀ (i : grid0.Coords) (v6079 : BitVec 32) (k0_hw105 : k0_chk105 i v6079), ∀ a, (k0_off234 i v6079) a + S8x128.size a ≤ S4096x8192.size a := fun i v6079 k0_hw105 => k0_hw105.2.2

def k0_off235 (i : grid0.Coords) (v6089 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_4135 : BitVec 32 := 104#32
  let v6087 : BitVec 32 := Scalar.addi v2 c104_i32_4135
  let v6090 : BitVec 32 := v6089
  ![v6087.toNat, v6090.toNat]

def k0_chk106 (i : grid0.Coords) (v6089 : BitVec 32) : Prop :=
  (128 ∣ (k0_mult106 v6089).toNat) ∧
  (∀ a, (k0_off171 i v6089) a + S8x128.size a ≤ S4096x8192.size a) ∧
  (∀ a, (k0_off235 i v6089) a + S8x128.size a ≤ S4096x8192.size a)
theorem k0_mult106_dvd : ∀ (i : grid0.Coords) (v6089 : BitVec 32) (k0_hw106 : k0_chk106 i v6089), 128 ∣ (k0_mult106 v6089).toNat := fun i v6089 k0_hw106 => k0_hw106.1
theorem k0_off171_inb : ∀ (i : grid0.Coords) (v6089 : BitVec 32) (k0_hw106 : k0_chk106 i v6089), ∀ a, (k0_off171 i v6089) a + S8x128.size a ≤ S4096x8192.size a := fun i v6089 k0_hw106 => k0_hw106.2.1
theorem k0_off235_inb : ∀ (i : grid0.Coords) (v6089 : BitVec 32) (k0_hw106 : k0_chk106 i v6089), ∀ a, (k0_off235 i v6089) a + S8x128.size a ≤ S4096x8192.size a := fun i v6089 k0_hw106 => k0_hw106.2.2

def k0_off236 (i : grid0.Coords) (v6099 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_4142 : BitVec 32 := 104#32
  let v6097 : BitVec 32 := Scalar.addi v2 c104_i32_4142
  let v6100 : BitVec 32 := v6099
  ![v6097.toNat, v6100.toNat]

def k0_chk107 (i : grid0.Coords) (v6099 : BitVec 32) : Prop :=
  (128 ∣ (k0_mult107 v6099).toNat) ∧
  (∀ a, (k0_off172 i v6099) a + S8x128.size a ≤ S4096x8192.size a) ∧
  (∀ a, (k0_off236 i v6099) a + S8x128.size a ≤ S4096x8192.size a)
theorem k0_mult107_dvd : ∀ (i : grid0.Coords) (v6099 : BitVec 32) (k0_hw107 : k0_chk107 i v6099), 128 ∣ (k0_mult107 v6099).toNat := fun i v6099 k0_hw107 => k0_hw107.1
theorem k0_off172_inb : ∀ (i : grid0.Coords) (v6099 : BitVec 32) (k0_hw107 : k0_chk107 i v6099), ∀ a, (k0_off172 i v6099) a + S8x128.size a ≤ S4096x8192.size a := fun i v6099 k0_hw107 => k0_hw107.2.1
theorem k0_off236_inb : ∀ (i : grid0.Coords) (v6099 : BitVec 32) (k0_hw107 : k0_chk107 i v6099), ∀ a, (k0_off236 i v6099) a + S8x128.size a ≤ S4096x8192.size a := fun i v6099 k0_hw107 => k0_hw107.2.2

def k0_off237 (i : grid0.Coords) (v6109 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_4149 : BitVec 32 := 104#32
  let v6107 : BitVec 32 := Scalar.addi v2 c104_i32_4149
  let v6110 : BitVec 32 := v6109
  ![v6107.toNat, v6110.toNat]

def k0_chk108 (i : grid0.Coords) (v6109 : BitVec 32) : Prop :=
  (128 ∣ (k0_mult108 v6109).toNat) ∧
  (∀ a, (k0_off173 i v6109) a + S8x128.size a ≤ S4096x8192.size a) ∧
  (∀ a, (k0_off237 i v6109) a + S8x128.size a ≤ S4096x8192.size a)
theorem k0_mult108_dvd : ∀ (i : grid0.Coords) (v6109 : BitVec 32) (k0_hw108 : k0_chk108 i v6109), 128 ∣ (k0_mult108 v6109).toNat := fun i v6109 k0_hw108 => k0_hw108.1
theorem k0_off173_inb : ∀ (i : grid0.Coords) (v6109 : BitVec 32) (k0_hw108 : k0_chk108 i v6109), ∀ a, (k0_off173 i v6109) a + S8x128.size a ≤ S4096x8192.size a := fun i v6109 k0_hw108 => k0_hw108.2.1
theorem k0_off237_inb : ∀ (i : grid0.Coords) (v6109 : BitVec 32) (k0_hw108 : k0_chk108 i v6109), ∀ a, (k0_off237 i v6109) a + S8x128.size a ≤ S4096x8192.size a := fun i v6109 k0_hw108 => k0_hw108.2.2

def k0_off238 (i : grid0.Coords) (v6119 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_4156 : BitVec 32 := 104#32
  let v6117 : BitVec 32 := Scalar.addi v2 c104_i32_4156
  let v6120 : BitVec 32 := v6119
  ![v6117.toNat, v6120.toNat]

def k0_chk109 (i : grid0.Coords) (v6119 : BitVec 32) : Prop :=
  (128 ∣ (k0_mult109 v6119).toNat) ∧
  (∀ a, (k0_off174 i v6119) a + S8x128.size a ≤ S4096x8192.size a) ∧
  (∀ a, (k0_off238 i v6119) a + S8x128.size a ≤ S4096x8192.size a)
theorem k0_mult109_dvd : ∀ (i : grid0.Coords) (v6119 : BitVec 32) (k0_hw109 : k0_chk109 i v6119), 128 ∣ (k0_mult109 v6119).toNat := fun i v6119 k0_hw109 => k0_hw109.1
theorem k0_off174_inb : ∀ (i : grid0.Coords) (v6119 : BitVec 32) (k0_hw109 : k0_chk109 i v6119), ∀ a, (k0_off174 i v6119) a + S8x128.size a ≤ S4096x8192.size a := fun i v6119 k0_hw109 => k0_hw109.2.1
theorem k0_off238_inb : ∀ (i : grid0.Coords) (v6119 : BitVec 32) (k0_hw109 : k0_chk109 i v6119), ∀ a, (k0_off238 i v6119) a + S8x128.size a ≤ S4096x8192.size a := fun i v6119 k0_hw109 => k0_hw109.2.2

def k0_off239 (i : grid0.Coords) (v6129 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_4163 : BitVec 32 := 104#32
  let v6127 : BitVec 32 := Scalar.addi v2 c104_i32_4163
  let v6130 : BitVec 32 := v6129
  ![v6127.toNat, v6130.toNat]

def k0_chk110 (i : grid0.Coords) (v6129 : BitVec 32) : Prop :=
  (128 ∣ (k0_mult110 v6129).toNat) ∧
  (∀ a, (k0_off175 i v6129) a + S8x128.size a ≤ S4096x8192.size a) ∧
  (∀ a, (k0_off239 i v6129) a + S8x128.size a ≤ S4096x8192.size a)
theorem k0_mult110_dvd : ∀ (i : grid0.Coords) (v6129 : BitVec 32) (k0_hw110 : k0_chk110 i v6129), 128 ∣ (k0_mult110 v6129).toNat := fun i v6129 k0_hw110 => k0_hw110.1
theorem k0_off175_inb : ∀ (i : grid0.Coords) (v6129 : BitVec 32) (k0_hw110 : k0_chk110 i v6129), ∀ a, (k0_off175 i v6129) a + S8x128.size a ≤ S4096x8192.size a := fun i v6129 k0_hw110 => k0_hw110.2.1
theorem k0_off239_inb : ∀ (i : grid0.Coords) (v6129 : BitVec 32) (k0_hw110 : k0_chk110 i v6129), ∀ a, (k0_off239 i v6129) a + S8x128.size a ≤ S4096x8192.size a := fun i v6129 k0_hw110 => k0_hw110.2.2

def k0_off240 (i : grid0.Coords) (v6139 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_4170 : BitVec 32 := 104#32
  let v6137 : BitVec 32 := Scalar.addi v2 c104_i32_4170
  let v6140 : BitVec 32 := v6139
  ![v6137.toNat, v6140.toNat]

def k0_chk111 (i : grid0.Coords) (v6139 : BitVec 32) : Prop :=
  (128 ∣ (k0_mult111 v6139).toNat) ∧
  (∀ a, (k0_off176 i v6139) a + S8x128.size a ≤ S4096x8192.size a) ∧
  (∀ a, (k0_off240 i v6139) a + S8x128.size a ≤ S4096x8192.size a)
theorem k0_mult111_dvd : ∀ (i : grid0.Coords) (v6139 : BitVec 32) (k0_hw111 : k0_chk111 i v6139), 128 ∣ (k0_mult111 v6139).toNat := fun i v6139 k0_hw111 => k0_hw111.1
theorem k0_off176_inb : ∀ (i : grid0.Coords) (v6139 : BitVec 32) (k0_hw111 : k0_chk111 i v6139), ∀ a, (k0_off176 i v6139) a + S8x128.size a ≤ S4096x8192.size a := fun i v6139 k0_hw111 => k0_hw111.2.1
theorem k0_off240_inb : ∀ (i : grid0.Coords) (v6139 : BitVec 32) (k0_hw111 : k0_chk111 i v6139), ∀ a, (k0_off240 i v6139) a + S8x128.size a ≤ S4096x8192.size a := fun i v6139 k0_hw111 => k0_hw111.2.2

def k0_off241 (i : grid0.Coords) (v6149 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c104_i32_4177 : BitVec 32 := 104#32
  let v6147 : BitVec 32 := Scalar.addi v2 c104_i32_4177
  let v6150 : BitVec 32 := v6149
  ![v6147.toNat, v6150.toNat]

def k0_chk112 (i : grid0.Coords) (v6149 : BitVec 32) : Prop :=
  (128 ∣ (k0_mult112 v6149).toNat) ∧
  (∀ a, (k0_off177 i v6149) a + S8x128.size a ≤ S4096x8192.size a) ∧
  (∀ a, (k0_off241 i v6149) a + S8x128.size a ≤ S4096x8192.size a)
theorem k0_mult112_dvd : ∀ (i : grid0.Coords) (v6149 : BitVec 32) (k0_hw112 : k0_chk112 i v6149), 128 ∣ (k0_mult112 v6149).toNat := fun i v6149 k0_hw112 => k0_hw112.1
theorem k0_off177_inb : ∀ (i : grid0.Coords) (v6149 : BitVec 32) (k0_hw112 : k0_chk112 i v6149), ∀ a, (k0_off177 i v6149) a + S8x128.size a ≤ S4096x8192.size a := fun i v6149 k0_hw112 => k0_hw112.2.1
theorem k0_off241_inb : ∀ (i : grid0.Coords) (v6149 : BitVec 32) (k0_hw112 : k0_chk112 i v6149), ∀ a, (k0_off241 i v6149) a + S8x128.size a ≤ S4096x8192.size a := fun i v6149 k0_hw112 => k0_hw112.2.2

def k0_off242 (i : grid0.Coords) (v6165 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32 : BitVec 32 := 112#32
  let v6163 : BitVec 32 := Scalar.addi v2 c112_i32
  let v6166 : BitVec 32 := v6165
  ![v6163.toNat, v6166.toNat]

def k0_chk113 (i : grid0.Coords) (v6165 : BitVec 32) : Prop :=
  (128 ∣ (k0_mult113 v6165).toNat) ∧
  (∀ a, (k0_off178 i v6165) a + S8x128.size a ≤ S4096x8192.size a) ∧
  (∀ a, (k0_off242 i v6165) a + S8x128.size a ≤ S4096x8192.size a)
theorem k0_mult113_dvd : ∀ (i : grid0.Coords) (v6165 : BitVec 32) (k0_hw113 : k0_chk113 i v6165), 128 ∣ (k0_mult113 v6165).toNat := fun i v6165 k0_hw113 => k0_hw113.1
theorem k0_off178_inb : ∀ (i : grid0.Coords) (v6165 : BitVec 32) (k0_hw113 : k0_chk113 i v6165), ∀ a, (k0_off178 i v6165) a + S8x128.size a ≤ S4096x8192.size a := fun i v6165 k0_hw113 => k0_hw113.2.1
theorem k0_off242_inb : ∀ (i : grid0.Coords) (v6165 : BitVec 32) (k0_hw113 : k0_chk113 i v6165), ∀ a, (k0_off242 i v6165) a + S8x128.size a ≤ S4096x8192.size a := fun i v6165 k0_hw113 => k0_hw113.2.2

def k0_off243 (i : grid0.Coords) (v6175 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_4193 : BitVec 32 := 112#32
  let v6173 : BitVec 32 := Scalar.addi v2 c112_i32_4193
  let v6176 : BitVec 32 := v6175
  ![v6173.toNat, v6176.toNat]

def k0_chk114 (i : grid0.Coords) (v6175 : BitVec 32) : Prop :=
  (128 ∣ (k0_mult114 v6175).toNat) ∧
  (∀ a, (k0_off179 i v6175) a + S8x128.size a ≤ S4096x8192.size a) ∧
  (∀ a, (k0_off243 i v6175) a + S8x128.size a ≤ S4096x8192.size a)
theorem k0_mult114_dvd : ∀ (i : grid0.Coords) (v6175 : BitVec 32) (k0_hw114 : k0_chk114 i v6175), 128 ∣ (k0_mult114 v6175).toNat := fun i v6175 k0_hw114 => k0_hw114.1
theorem k0_off179_inb : ∀ (i : grid0.Coords) (v6175 : BitVec 32) (k0_hw114 : k0_chk114 i v6175), ∀ a, (k0_off179 i v6175) a + S8x128.size a ≤ S4096x8192.size a := fun i v6175 k0_hw114 => k0_hw114.2.1
theorem k0_off243_inb : ∀ (i : grid0.Coords) (v6175 : BitVec 32) (k0_hw114 : k0_chk114 i v6175), ∀ a, (k0_off243 i v6175) a + S8x128.size a ≤ S4096x8192.size a := fun i v6175 k0_hw114 => k0_hw114.2.2

def k0_off244 (i : grid0.Coords) (v6185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_4200 : BitVec 32 := 112#32
  let v6183 : BitVec 32 := Scalar.addi v2 c112_i32_4200
  let v6186 : BitVec 32 := v6185
  ![v6183.toNat, v6186.toNat]

def k0_chk115 (i : grid0.Coords) (v6185 : BitVec 32) : Prop :=
  (128 ∣ (k0_mult115 v6185).toNat) ∧
  (∀ a, (k0_off180 i v6185) a + S8x128.size a ≤ S4096x8192.size a) ∧
  (∀ a, (k0_off244 i v6185) a + S8x128.size a ≤ S4096x8192.size a)
theorem k0_mult115_dvd : ∀ (i : grid0.Coords) (v6185 : BitVec 32) (k0_hw115 : k0_chk115 i v6185), 128 ∣ (k0_mult115 v6185).toNat := fun i v6185 k0_hw115 => k0_hw115.1
theorem k0_off180_inb : ∀ (i : grid0.Coords) (v6185 : BitVec 32) (k0_hw115 : k0_chk115 i v6185), ∀ a, (k0_off180 i v6185) a + S8x128.size a ≤ S4096x8192.size a := fun i v6185 k0_hw115 => k0_hw115.2.1
theorem k0_off244_inb : ∀ (i : grid0.Coords) (v6185 : BitVec 32) (k0_hw115 : k0_chk115 i v6185), ∀ a, (k0_off244 i v6185) a + S8x128.size a ≤ S4096x8192.size a := fun i v6185 k0_hw115 => k0_hw115.2.2

def k0_off245 (i : grid0.Coords) (v6195 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_4207 : BitVec 32 := 112#32
  let v6193 : BitVec 32 := Scalar.addi v2 c112_i32_4207
  let v6196 : BitVec 32 := v6195
  ![v6193.toNat, v6196.toNat]

def k0_chk116 (i : grid0.Coords) (v6195 : BitVec 32) : Prop :=
  (128 ∣ (k0_mult116 v6195).toNat) ∧
  (∀ a, (k0_off181 i v6195) a + S8x128.size a ≤ S4096x8192.size a) ∧
  (∀ a, (k0_off245 i v6195) a + S8x128.size a ≤ S4096x8192.size a)
theorem k0_mult116_dvd : ∀ (i : grid0.Coords) (v6195 : BitVec 32) (k0_hw116 : k0_chk116 i v6195), 128 ∣ (k0_mult116 v6195).toNat := fun i v6195 k0_hw116 => k0_hw116.1
theorem k0_off181_inb : ∀ (i : grid0.Coords) (v6195 : BitVec 32) (k0_hw116 : k0_chk116 i v6195), ∀ a, (k0_off181 i v6195) a + S8x128.size a ≤ S4096x8192.size a := fun i v6195 k0_hw116 => k0_hw116.2.1
theorem k0_off245_inb : ∀ (i : grid0.Coords) (v6195 : BitVec 32) (k0_hw116 : k0_chk116 i v6195), ∀ a, (k0_off245 i v6195) a + S8x128.size a ≤ S4096x8192.size a := fun i v6195 k0_hw116 => k0_hw116.2.2

def k0_off246 (i : grid0.Coords) (v6205 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_4214 : BitVec 32 := 112#32
  let v6203 : BitVec 32 := Scalar.addi v2 c112_i32_4214
  let v6206 : BitVec 32 := v6205
  ![v6203.toNat, v6206.toNat]

def k0_chk117 (i : grid0.Coords) (v6205 : BitVec 32) : Prop :=
  (128 ∣ (k0_mult117 v6205).toNat) ∧
  (∀ a, (k0_off182 i v6205) a + S8x128.size a ≤ S4096x8192.size a) ∧
  (∀ a, (k0_off246 i v6205) a + S8x128.size a ≤ S4096x8192.size a)
theorem k0_mult117_dvd : ∀ (i : grid0.Coords) (v6205 : BitVec 32) (k0_hw117 : k0_chk117 i v6205), 128 ∣ (k0_mult117 v6205).toNat := fun i v6205 k0_hw117 => k0_hw117.1
theorem k0_off182_inb : ∀ (i : grid0.Coords) (v6205 : BitVec 32) (k0_hw117 : k0_chk117 i v6205), ∀ a, (k0_off182 i v6205) a + S8x128.size a ≤ S4096x8192.size a := fun i v6205 k0_hw117 => k0_hw117.2.1
theorem k0_off246_inb : ∀ (i : grid0.Coords) (v6205 : BitVec 32) (k0_hw117 : k0_chk117 i v6205), ∀ a, (k0_off246 i v6205) a + S8x128.size a ≤ S4096x8192.size a := fun i v6205 k0_hw117 => k0_hw117.2.2

def k0_off247 (i : grid0.Coords) (v6215 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_4221 : BitVec 32 := 112#32
  let v6213 : BitVec 32 := Scalar.addi v2 c112_i32_4221
  let v6216 : BitVec 32 := v6215
  ![v6213.toNat, v6216.toNat]

def k0_chk118 (i : grid0.Coords) (v6215 : BitVec 32) : Prop :=
  (128 ∣ (k0_mult118 v6215).toNat) ∧
  (∀ a, (k0_off183 i v6215) a + S8x128.size a ≤ S4096x8192.size a) ∧
  (∀ a, (k0_off247 i v6215) a + S8x128.size a ≤ S4096x8192.size a)
theorem k0_mult118_dvd : ∀ (i : grid0.Coords) (v6215 : BitVec 32) (k0_hw118 : k0_chk118 i v6215), 128 ∣ (k0_mult118 v6215).toNat := fun i v6215 k0_hw118 => k0_hw118.1
theorem k0_off183_inb : ∀ (i : grid0.Coords) (v6215 : BitVec 32) (k0_hw118 : k0_chk118 i v6215), ∀ a, (k0_off183 i v6215) a + S8x128.size a ≤ S4096x8192.size a := fun i v6215 k0_hw118 => k0_hw118.2.1
theorem k0_off247_inb : ∀ (i : grid0.Coords) (v6215 : BitVec 32) (k0_hw118 : k0_chk118 i v6215), ∀ a, (k0_off247 i v6215) a + S8x128.size a ≤ S4096x8192.size a := fun i v6215 k0_hw118 => k0_hw118.2.2

def k0_off248 (i : grid0.Coords) (v6225 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_4228 : BitVec 32 := 112#32
  let v6223 : BitVec 32 := Scalar.addi v2 c112_i32_4228
  let v6226 : BitVec 32 := v6225
  ![v6223.toNat, v6226.toNat]

def k0_chk119 (i : grid0.Coords) (v6225 : BitVec 32) : Prop :=
  (128 ∣ (k0_mult119 v6225).toNat) ∧
  (∀ a, (k0_off184 i v6225) a + S8x128.size a ≤ S4096x8192.size a) ∧
  (∀ a, (k0_off248 i v6225) a + S8x128.size a ≤ S4096x8192.size a)
theorem k0_mult119_dvd : ∀ (i : grid0.Coords) (v6225 : BitVec 32) (k0_hw119 : k0_chk119 i v6225), 128 ∣ (k0_mult119 v6225).toNat := fun i v6225 k0_hw119 => k0_hw119.1
theorem k0_off184_inb : ∀ (i : grid0.Coords) (v6225 : BitVec 32) (k0_hw119 : k0_chk119 i v6225), ∀ a, (k0_off184 i v6225) a + S8x128.size a ≤ S4096x8192.size a := fun i v6225 k0_hw119 => k0_hw119.2.1
theorem k0_off248_inb : ∀ (i : grid0.Coords) (v6225 : BitVec 32) (k0_hw119 : k0_chk119 i v6225), ∀ a, (k0_off248 i v6225) a + S8x128.size a ≤ S4096x8192.size a := fun i v6225 k0_hw119 => k0_hw119.2.2

def k0_off249 (i : grid0.Coords) (v6235 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_4235 : BitVec 32 := 112#32
  let v6233 : BitVec 32 := Scalar.addi v2 c112_i32_4235
  let v6236 : BitVec 32 := v6235
  ![v6233.toNat, v6236.toNat]

def k0_chk120 (i : grid0.Coords) (v6235 : BitVec 32) : Prop :=
  (128 ∣ (k0_mult120 v6235).toNat) ∧
  (∀ a, (k0_off185 i v6235) a + S8x128.size a ≤ S4096x8192.size a) ∧
  (∀ a, (k0_off249 i v6235) a + S8x128.size a ≤ S4096x8192.size a)
theorem k0_mult120_dvd : ∀ (i : grid0.Coords) (v6235 : BitVec 32) (k0_hw120 : k0_chk120 i v6235), 128 ∣ (k0_mult120 v6235).toNat := fun i v6235 k0_hw120 => k0_hw120.1
theorem k0_off185_inb : ∀ (i : grid0.Coords) (v6235 : BitVec 32) (k0_hw120 : k0_chk120 i v6235), ∀ a, (k0_off185 i v6235) a + S8x128.size a ≤ S4096x8192.size a := fun i v6235 k0_hw120 => k0_hw120.2.1
theorem k0_off249_inb : ∀ (i : grid0.Coords) (v6235 : BitVec 32) (k0_hw120 : k0_chk120 i v6235), ∀ a, (k0_off249 i v6235) a + S8x128.size a ≤ S4096x8192.size a := fun i v6235 k0_hw120 => k0_hw120.2.2

def k0_off250 (i : grid0.Coords) (v6245 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32 : BitVec 32 := 120#32
  let v6243 : BitVec 32 := Scalar.addi v2 c120_i32
  let v6246 : BitVec 32 := v6245
  ![v6243.toNat, v6246.toNat]

def k0_chk121 (i : grid0.Coords) (v6245 : BitVec 32) : Prop :=
  (128 ∣ (k0_mult121 v6245).toNat) ∧
  (∀ a, (k0_off186 i v6245) a + S8x128.size a ≤ S4096x8192.size a) ∧
  (∀ a, (k0_off250 i v6245) a + S8x128.size a ≤ S4096x8192.size a)
theorem k0_mult121_dvd : ∀ (i : grid0.Coords) (v6245 : BitVec 32) (k0_hw121 : k0_chk121 i v6245), 128 ∣ (k0_mult121 v6245).toNat := fun i v6245 k0_hw121 => k0_hw121.1
theorem k0_off186_inb : ∀ (i : grid0.Coords) (v6245 : BitVec 32) (k0_hw121 : k0_chk121 i v6245), ∀ a, (k0_off186 i v6245) a + S8x128.size a ≤ S4096x8192.size a := fun i v6245 k0_hw121 => k0_hw121.2.1
theorem k0_off250_inb : ∀ (i : grid0.Coords) (v6245 : BitVec 32) (k0_hw121 : k0_chk121 i v6245), ∀ a, (k0_off250 i v6245) a + S8x128.size a ≤ S4096x8192.size a := fun i v6245 k0_hw121 => k0_hw121.2.2

def k0_off251 (i : grid0.Coords) (v6255 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_4248 : BitVec 32 := 120#32
  let v6253 : BitVec 32 := Scalar.addi v2 c120_i32_4248
  let v6256 : BitVec 32 := v6255
  ![v6253.toNat, v6256.toNat]

def k0_chk122 (i : grid0.Coords) (v6255 : BitVec 32) : Prop :=
  (128 ∣ (k0_mult122 v6255).toNat) ∧
  (∀ a, (k0_off187 i v6255) a + S8x128.size a ≤ S4096x8192.size a) ∧
  (∀ a, (k0_off251 i v6255) a + S8x128.size a ≤ S4096x8192.size a)
theorem k0_mult122_dvd : ∀ (i : grid0.Coords) (v6255 : BitVec 32) (k0_hw122 : k0_chk122 i v6255), 128 ∣ (k0_mult122 v6255).toNat := fun i v6255 k0_hw122 => k0_hw122.1
theorem k0_off187_inb : ∀ (i : grid0.Coords) (v6255 : BitVec 32) (k0_hw122 : k0_chk122 i v6255), ∀ a, (k0_off187 i v6255) a + S8x128.size a ≤ S4096x8192.size a := fun i v6255 k0_hw122 => k0_hw122.2.1
theorem k0_off251_inb : ∀ (i : grid0.Coords) (v6255 : BitVec 32) (k0_hw122 : k0_chk122 i v6255), ∀ a, (k0_off251 i v6255) a + S8x128.size a ≤ S4096x8192.size a := fun i v6255 k0_hw122 => k0_hw122.2.2

def k0_off252 (i : grid0.Coords) (v6265 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_4255 : BitVec 32 := 120#32
  let v6263 : BitVec 32 := Scalar.addi v2 c120_i32_4255
  let v6266 : BitVec 32 := v6265
  ![v6263.toNat, v6266.toNat]

def k0_chk123 (i : grid0.Coords) (v6265 : BitVec 32) : Prop :=
  (128 ∣ (k0_mult123 v6265).toNat) ∧
  (∀ a, (k0_off188 i v6265) a + S8x128.size a ≤ S4096x8192.size a) ∧
  (∀ a, (k0_off252 i v6265) a + S8x128.size a ≤ S4096x8192.size a)
theorem k0_mult123_dvd : ∀ (i : grid0.Coords) (v6265 : BitVec 32) (k0_hw123 : k0_chk123 i v6265), 128 ∣ (k0_mult123 v6265).toNat := fun i v6265 k0_hw123 => k0_hw123.1
theorem k0_off188_inb : ∀ (i : grid0.Coords) (v6265 : BitVec 32) (k0_hw123 : k0_chk123 i v6265), ∀ a, (k0_off188 i v6265) a + S8x128.size a ≤ S4096x8192.size a := fun i v6265 k0_hw123 => k0_hw123.2.1
theorem k0_off252_inb : ∀ (i : grid0.Coords) (v6265 : BitVec 32) (k0_hw123 : k0_chk123 i v6265), ∀ a, (k0_off252 i v6265) a + S8x128.size a ≤ S4096x8192.size a := fun i v6265 k0_hw123 => k0_hw123.2.2

def k0_off253 (i : grid0.Coords) (v6275 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_4262 : BitVec 32 := 120#32
  let v6273 : BitVec 32 := Scalar.addi v2 c120_i32_4262
  let v6276 : BitVec 32 := v6275
  ![v6273.toNat, v6276.toNat]

def k0_chk124 (i : grid0.Coords) (v6275 : BitVec 32) : Prop :=
  (128 ∣ (k0_mult124 v6275).toNat) ∧
  (∀ a, (k0_off189 i v6275) a + S8x128.size a ≤ S4096x8192.size a) ∧
  (∀ a, (k0_off253 i v6275) a + S8x128.size a ≤ S4096x8192.size a)
theorem k0_mult124_dvd : ∀ (i : grid0.Coords) (v6275 : BitVec 32) (k0_hw124 : k0_chk124 i v6275), 128 ∣ (k0_mult124 v6275).toNat := fun i v6275 k0_hw124 => k0_hw124.1
theorem k0_off189_inb : ∀ (i : grid0.Coords) (v6275 : BitVec 32) (k0_hw124 : k0_chk124 i v6275), ∀ a, (k0_off189 i v6275) a + S8x128.size a ≤ S4096x8192.size a := fun i v6275 k0_hw124 => k0_hw124.2.1
theorem k0_off253_inb : ∀ (i : grid0.Coords) (v6275 : BitVec 32) (k0_hw124 : k0_chk124 i v6275), ∀ a, (k0_off253 i v6275) a + S8x128.size a ≤ S4096x8192.size a := fun i v6275 k0_hw124 => k0_hw124.2.2

def k0_off254 (i : grid0.Coords) (v6285 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_4269 : BitVec 32 := 120#32
  let v6283 : BitVec 32 := Scalar.addi v2 c120_i32_4269
  let v6286 : BitVec 32 := v6285
  ![v6283.toNat, v6286.toNat]

def k0_chk125 (i : grid0.Coords) (v6285 : BitVec 32) : Prop :=
  (128 ∣ (k0_mult125 v6285).toNat) ∧
  (∀ a, (k0_off190 i v6285) a + S8x128.size a ≤ S4096x8192.size a) ∧
  (∀ a, (k0_off254 i v6285) a + S8x128.size a ≤ S4096x8192.size a)
theorem k0_mult125_dvd : ∀ (i : grid0.Coords) (v6285 : BitVec 32) (k0_hw125 : k0_chk125 i v6285), 128 ∣ (k0_mult125 v6285).toNat := fun i v6285 k0_hw125 => k0_hw125.1
theorem k0_off190_inb : ∀ (i : grid0.Coords) (v6285 : BitVec 32) (k0_hw125 : k0_chk125 i v6285), ∀ a, (k0_off190 i v6285) a + S8x128.size a ≤ S4096x8192.size a := fun i v6285 k0_hw125 => k0_hw125.2.1
theorem k0_off254_inb : ∀ (i : grid0.Coords) (v6285 : BitVec 32) (k0_hw125 : k0_chk125 i v6285), ∀ a, (k0_off254 i v6285) a + S8x128.size a ≤ S4096x8192.size a := fun i v6285 k0_hw125 => k0_hw125.2.2

def k0_off255 (i : grid0.Coords) (v6295 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_4276 : BitVec 32 := 120#32
  let v6293 : BitVec 32 := Scalar.addi v2 c120_i32_4276
  let v6296 : BitVec 32 := v6295
  ![v6293.toNat, v6296.toNat]

def k0_chk126 (i : grid0.Coords) (v6295 : BitVec 32) : Prop :=
  (128 ∣ (k0_mult126 v6295).toNat) ∧
  (∀ a, (k0_off191 i v6295) a + S8x128.size a ≤ S4096x8192.size a) ∧
  (∀ a, (k0_off255 i v6295) a + S8x128.size a ≤ S4096x8192.size a)
theorem k0_mult126_dvd : ∀ (i : grid0.Coords) (v6295 : BitVec 32) (k0_hw126 : k0_chk126 i v6295), 128 ∣ (k0_mult126 v6295).toNat := fun i v6295 k0_hw126 => k0_hw126.1
theorem k0_off191_inb : ∀ (i : grid0.Coords) (v6295 : BitVec 32) (k0_hw126 : k0_chk126 i v6295), ∀ a, (k0_off191 i v6295) a + S8x128.size a ≤ S4096x8192.size a := fun i v6295 k0_hw126 => k0_hw126.2.1
theorem k0_off255_inb : ∀ (i : grid0.Coords) (v6295 : BitVec 32) (k0_hw126 : k0_chk126 i v6295), ∀ a, (k0_off255 i v6295) a + S8x128.size a ≤ S4096x8192.size a := fun i v6295 k0_hw126 => k0_hw126.2.2

def k0_off256 (i : grid0.Coords) (v6305 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c120_i32_4283 : BitVec 32 := 120#32
  let v6303 : BitVec 32 := Scalar.addi v2 c120_i32_4283
  let v6306 : BitVec 32 := v6305
  ![v6303.toNat, v6306.toNat]

def k0_chk127 (i : grid0.Coords) (v6305 : BitVec 32) : Prop :=
  (128 ∣ (k0_mult127 v6305).toNat) ∧
  (∀ a, (k0_off192 i v6305) a + S8x128.size a ≤ S4096x8192.size a) ∧
  (∀ a, (k0_off256 i v6305) a + S8x128.size a ≤ S4096x8192.size a)
theorem k0_mult127_dvd : ∀ (i : grid0.Coords) (v6305 : BitVec 32) (k0_hw127 : k0_chk127 i v6305), 128 ∣ (k0_mult127 v6305).toNat := fun i v6305 k0_hw127 => k0_hw127.1
theorem k0_off192_inb : ∀ (i : grid0.Coords) (v6305 : BitVec 32) (k0_hw127 : k0_chk127 i v6305), ∀ a, (k0_off192 i v6305) a + S8x128.size a ≤ S4096x8192.size a := fun i v6305 k0_hw127 => k0_hw127.2.1
theorem k0_off256_inb : ∀ (i : grid0.Coords) (v6305 : BitVec 32) (k0_hw127 : k0_chk127 i v6305), ∀ a, (k0_off256 i v6305) a + S8x128.size a ≤ S4096x8192.size a := fun i v6305 k0_hw127 => k0_hw127.2.2

def k0_off257 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_7697_r1 : BitVec 32 := 0#32
  ![v2.toNat, 0]
abbrev grid1 : Pipeline.Grid := .none

@[reducible] def k1_t1_loop : Scf.Loop 32 :=
  let c0_i32_33 : BitVec 32 := 0#32
  let c32_i32 : BitVec 32 := 32#32
  let v40 : BitVec 32 := Scalar.addi c0_i32_33 c32_i32
  let c1_i32_34 : BitVec 32 := 1#32
  ⟨c0_i32_33, v40, c1_i32_34⟩
def k1_off1 (k1_t1 : Fin k1_t1_loop.trips) : Fin 1 → Nat :=
  let c0_i32_33 : BitVec 32 := 0#32
  let c1_i32_34 : BitVec 32 := 1#32
  let arg5 : BitVec 32 := Scf.iv c0_i32_33 c1_i32_34 k1_t1
  let c8_i32 : BitVec 32 := 8#32
  let v45 : BitVec 32 := Scalar.remsi arg5 c8_i32
  ![v45.toNat]
def k1_off2 (k1_t1 : Fin k1_t1_loop.trips) : Fin 3 → Nat :=
  let c0_i32_33 : BitVec 32 := 0#32
  let c1_i32_34 : BitVec 32 := 1#32
  let arg5 : BitVec 32 := Scf.iv c0_i32_33 c1_i32_34 k1_t1
  let c8_i32 : BitVec 32 := 8#32
  let v45 : BitVec 32 := Scalar.remsi arg5 c8_i32
  let c0_i32_38 : BitVec 32 := 0#32
  let c0_i32_39 : BitVec 32 := 0#32
  ![v45.toNat, 0, 0]
def k1_off3 (k1_t1 : Fin k1_t1_loop.trips) : Fin 3 → Nat :=
  let c0_i32_33 : BitVec 32 := 0#32
  let c1_i32_34 : BitVec 32 := 1#32
  let arg5 : BitVec 32 := Scf.iv c0_i32_33 c1_i32_34 k1_t1
  let c8_i32 : BitVec 32 := 8#32
  let v45 : BitVec 32 := Scalar.remsi arg5 c8_i32
  let v51 : Index := Scalar.indexCast v45
  let c0_42 : Index := 0#32
  let c0_43 : Index := 0#32
  ![v51.toNat, 0, 0]
def k1_off4 (k1_t1 : Fin k1_t1_loop.trips) : Fin 3 → Nat :=
  let c0_i32_33 : BitVec 32 := 0#32
  let c1_i32_34 : BitVec 32 := 1#32
  let arg5 : BitVec 32 := Scf.iv c0_i32_33 c1_i32_34 k1_t1
  let v55 : Index := Scalar.indexCast arg5
  let c0_45 : Index := 0#32
  let c0_46 : Index := 0#32
  ![v55.toNat, 0, 0]
def k1_cond1 (k1_t1 : Fin k1_t1_loop.trips) : BitVec 1 :=
  let c0_i32_33 : BitVec 32 := 0#32
  let c1_i32_34 : BitVec 32 := 1#32
  let arg5 : BitVec 32 := Scf.iv c0_i32_33 c1_i32_34 k1_t1
  let c8_i32_50 : BitVec 32 := 8#32
  let v67 : BitVec 32 := Scalar.addi arg5 c8_i32_50
  let c32_i32_51 : BitVec 32 := 32#32
  let v68 : BitVec 1 := Scalar.cmpi .slt v67 c32_i32_51
  let v69 : BitVec 32 := Scalar.extui v68
  let c0_i32_52 : BitVec 32 := 0#32
  let v70 : BitVec 1 := Scalar.cmpi .ne v69 c0_i32_52
  v70

def k1_off5 (k1_t1 : Fin k1_t1_loop.trips) : Fin 1 → Nat :=
  let c0_i32_33 : BitVec 32 := 0#32
  let c1_i32_34 : BitVec 32 := 1#32
  let arg5 : BitVec 32 := Scf.iv c0_i32_33 c1_i32_34 k1_t1
  let c8_i32 : BitVec 32 := 8#32
  let v45 : BitVec 32 := Scalar.remsi arg5 c8_i32
  ![v45.toNat]
def k1_off6 (k1_t1 : Fin k1_t1_loop.trips) : Fin 3 → Nat :=
  let c0_i32_33 : BitVec 32 := 0#32
  let c1_i32_34 : BitVec 32 := 1#32
  let arg5 : BitVec 32 := Scf.iv c0_i32_33 c1_i32_34 k1_t1
  let c8_i32 : BitVec 32 := 8#32
  let v45 : BitVec 32 := Scalar.remsi arg5 c8_i32
  let c0_i32_55 : BitVec 32 := 0#32
  let c0_i32_56 : BitVec 32 := 0#32
  ![v45.toNat, 0, 0]
def k1_off7 (k1_t1 : Fin k1_t1_loop.trips) : Fin 2 → Nat :=
  let c0_i32_33 : BitVec 32 := 0#32
  let c1_i32_34 : BitVec 32 := 1#32
  let arg5 : BitVec 32 := Scf.iv c0_i32_33 c1_i32_34 k1_t1
  let c8_i32_53 : BitVec 32 := 8#32
  let v71 : BitVec 32 := Scalar.addi arg5 c8_i32_53
  let c128_i32_54 : BitVec 32 := 128#32
  let v72 : BitVec 32 := Scalar.muli v71 c128_i32_54
  let c0_i32_57 : BitVec 32 := 0#32
  ![v72.toNat, 0]
abbrev stage1_0 : Fin 1 → Memref sig .tc .vmem S32x1x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := .none

abbrev stage2_0 : Fin 1 → Memref sig .tc .vmem S32x1x128 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "neg_e_k" => some ((-1 / 81900 : ℝ) : EReal)
  | "neg_gain" => some ((-73709 / 81900 : ℝ) : EReal)
  | _ => none
-- ==== ReferenceIdeal.lean ====
abbrev S4x1024x8192 : Shape := ⟨3, ![4, 1024, 8192]⟩
abbrev S4x1024 : Shape := ⟨2, ![4, 1024]⟩
abbrev S_ : Shape := ⟨0, ![]⟩
abbrev S4x1024x1 : Shape := ⟨3, ![4, 1024, 1]⟩
abbrev S1x1x8192 : Shape := ⟨3, ![1, 1, 8192]⟩
abbrev S4096x8192 : Shape := ⟨2, ![4096, 8192]⟩
abbrev S4096 : Shape := ⟨1, ![4096]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x8192, .f32⟩
  | .hbm, ⟨1, _⟩ => ⟨S4x1024, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x1024x1, .i32⟩
  | .hbm, ⟨10, _⟩ => ⟨S1x1x8192, .i32⟩
  | .hbm, ⟨11, _⟩ => ⟨S4x1024x8192, .i32⟩
  | .hbm, ⟨12, _⟩ => ⟨S4x1024x8192, .i32⟩
  | .hbm, ⟨13, _⟩ => ⟨S4x1024x8192, .i1⟩
  | .hbm, ⟨14, _⟩ => ⟨S4x1024x8192, .f32⟩
  | .hbm, ⟨15, _⟩ => ⟨S4x1024x8192, .f32⟩
  | .hbm, ⟨16, _⟩ => ⟨S4x1024x8192, .f32⟩
  | .hbm, ⟨17, _⟩ => ⟨S_, .i32⟩
  | .hbm, ⟨18, _⟩ => ⟨S4x1024, .i32⟩
  | .hbm, ⟨19, _⟩ => ⟨S4x1024, .i1⟩
  | .hbm, ⟨20, _⟩ => ⟨S4x1024x1, .i1⟩
  | .hbm, ⟨21, _⟩ => ⟨S_, .f32⟩
  | .hbm, ⟨22, _⟩ => ⟨S4x1024x8192, .i1⟩
  | .hbm, ⟨23, _⟩ => ⟨S4x1024x8192, .f32⟩
  | .hbm, ⟨24, _⟩ => ⟨S4x1024x8192, .f32⟩
  | .hbm, ⟨25, _⟩ => ⟨S_, .f32⟩
  | .hbm, ⟨26, _⟩ => ⟨S4x1024x8192, .i1⟩
  | .hbm, ⟨27, _⟩ => ⟨S4x1024x8192, .f32⟩
  | .hbm, ⟨28, _⟩ => ⟨S4x1024x8192, .f32⟩
  | .hbm, ⟨29, _⟩ => ⟨S4096x8192, .f32⟩
  | .hbm, ⟨30, _⟩ => ⟨S4096x8192, .f32⟩
  | .hbm, ⟨31, _⟩ => ⟨S4096x8192, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | _, _ => ⟨S4x1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_v3 : Ref sig .tc := ⟨.hbm, 13, rfl⟩
abbrev main_call1_v0 : Ref sig .tc := ⟨.hbm, 14, rfl⟩
abbrev main_call1_v1 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call2_v0 : Ref sig .tc := ⟨.hbm, 22, rfl⟩
abbrev main_call2_v1 : Ref sig .tc := ⟨.hbm, 23, rfl⟩
abbrev main_v8 : Ref sig .tc := ⟨.hbm, 24, rfl⟩
abbrev main_cst_4 : Ref sig .tc := ⟨.hbm, 25, rfl⟩
abbrev main_call3_v0 : Ref sig .tc := ⟨.hbm, 26, rfl⟩
abbrev main_call3_v1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_5 : Ref sig .tc := ⟨.hbm, 32, rfl⟩
abbrev main_v13 : Ref sig .tc := ⟨.hbm, 33, rfl⟩
abbrev main_cst_6 : Ref sig .tc := ⟨.hbm, 34, rfl⟩
abbrev main_v14 : Ref sig .tc := ⟨.hbm, 35, rfl⟩
abbrev main_v15 : Ref sig .tc := ⟨.hbm, 36, rfl⟩
abbrev main_cst_7 : Ref sig .tc := ⟨.hbm, 37, rfl⟩
abbrev main_v16 : Ref sig .tc := ⟨.hbm, 38, rfl⟩

abbrev nD : Nat := 1
abbrev τ : Topo := Topo.v7x

variable {F : FTy → Type} [FloatOps F]
-- ==== Proof.Inputs.lean ====
module

public import proofs.«01_k».proof.Defs
public import Idealize.ShloMosaic.Lib.ReduceAll
public import Idealize.ShloMosaic.PureOps.Ideal

@[expose] public section

noncomputable section

namespace Cert.Proof.Inputs

open Idealize.ShloMosaic

/-! # What the preconditions say of the arguments -/

theorem andi_ofBool (p q : Bool) : IntOp.andi (BitVec.ofBool p) (BitVec.ofBool q) = BitVec.ofBool (p && q) := by
  cases p <;> cases q <;> decide

theorem ofBool_one (p : Bool) : (BitVec.ofBool p = 1#1) ↔ p = true := by cases p <;> decide

/-- A word signed-compared to lie in `[0, 8192)` is its own value, below 8192. -/
theorem word_lt (v : BitVec 32) (e : IntOp.andi (IntOp.cmpi .sge v 0#32) (IntOp.cmpi .slt v 8192#32) = 1#1) : v.toNat < 8192 := by
  simp only [IntOp.cmpi, andi_ofBool, ofBool_one, Bool.and_eq_true, BitVec.sle_eq_decide, BitVec.slt_eq_decide,
    decide_eq_true_eq, BitVec.toInt_eq_toNat_cond, BitVec.toNat_ofNat, Nat.reducePow, Nat.reduceMod] at e
  omega

instance : Subsingleton (⟨0, ![]⟩ : Shape).Idx := ⟨fun _ _ => funext fun a => a.elim0⟩

theorem one_at {f : (⟨0, ![]⟩ : Shape).Idx → BitVec 1} (h : f = fun _ => 1#1) : f (fun a => a.elim0) = 1#1 := congrFun h _

section InVocab
variable [Cert.Pre_in_vocab.Facts] {F : FTy → Type} [FloatOps F]

theorem in_vocab_lt (x : FVec F Cert.Pre_in_vocab.S4x1024x8192 .f32) (t : IVec Cert.Pre_in_vocab.S4x1024 32)
    (h : Cert.Pre_in_vocab.fn (F := F) x t = fun _ => 1#1) (i : Cert.Pre_in_vocab.S4x1024.Idx) : (t i).toNat < 8192 :=
  word_lt _ (Host.reduce_andi_all _ _ _ _ _ (one_at h) i)

end InVocab

section Finite
variable [Cert.Pre_finite_in_vocab.Facts] (x : FVec Ideal Cert.Pre_finite_in_vocab.S4x1024x8192 .f32) (t : IVec Cert.Pre_finite_in_vocab.S4x1024 32)
    (h : Cert.Pre_finite_in_vocab.fn (F := Ideal) x t = fun _ => 1#1)
include h

theorem both : Host.reduce IntOp.andi (andi (cmpi .sge t (broadcastInDim Cert.Pre_finite_in_vocab.S4x1024 ![] Cert.Pre_finite_in_vocab.Facts.bcast_S_S4x1024 (constantI Cert.Pre_finite_in_vocab.S_ 32 0#32)))
      (cmpi .slt t (broadcastInDim Cert.Pre_finite_in_vocab.S4x1024 ![] Cert.Pre_finite_in_vocab.Facts.bcast_S_S4x1024 (constantI Cert.Pre_finite_in_vocab.S_ 32 8192#32))))
      (constantI Cert.Pre_finite_in_vocab.S_ 1 1#1) Cert.Pre_finite_in_vocab.Facts.reducesTo_S4x1024_S_d0_1 Cert.Pre_finite_in_vocab.Facts.h_S_ (fun a => a.elim0) = 1#1
    ∧ Host.reduce IntOp.andi (cmpf .olt (Host.absf x) (broadcastInDim Cert.Pre_finite_in_vocab.S4x1024x8192 ![] Cert.Pre_finite_in_vocab.Facts.bcast_S_S4x1024x8192 (constant (F := Ideal) Cert.Pre_finite_in_vocab.S_ .f32 0x7F800000#32)))
      (constantI Cert.Pre_finite_in_vocab.S_ 1 1#1) Cert.Pre_finite_in_vocab.Facts.reducesTo_S4x1024x8192_S_d0_1_2 Cert.Pre_finite_in_vocab.Facts.h_S_ (fun a => a.elim0) = 1#1 :=
  (IntOp.andi_eq_one.1 (one_at h)).symm

theorem finite_lt (i : Cert.Pre_finite_in_vocab.S4x1024.Idx) : (t i).toNat < 8192 :=
  word_lt _ (Host.reduce_andi_all _ _ _ _ _ (both x t h).1 i)

theorem finite_real (i : Cert.Pre_finite_in_vocab.S4x1024x8192.Idx) : ∃ r : ℝ, x i = (r : EReal) := by
  have e : Ideal.cmp .olt (max (x i) (-(x i))) (Ideal.ofBits .f32 0x7F800000#32) = 1#1 := Host.reduce_andi_all _ _ _ _ _ (both x t h).2 i
  have hi : Ideal.ofBits .f32 0x7F800000#32 = (⊤ : EReal) := by simp [Ideal.ofBits, Ideal.ieee]
  rw [hi] at e
  have hlt : max (x i) (-(x i)) < ⊤ := by
    simpa [Ideal.cmp, ofBool_one] using e
  induction hx : x i using EReal.rec with
  | bot => rw [hx] at hlt; simp at hlt
  | coe r => exact ⟨r, rfl⟩
  | top => rw [hx] at hlt; simp at hlt

end Finite

end Cert.Proof.Inputs

end
-- ==== Proof.KernelIdeal.ScBase.lean ====
module

public import proofs.«01_k».proof.Proof.Gen.KernelIdeal
public import Idealize.ShloMosaic.Lib.SparseCore.Quiescent
public import Idealize.ShloMosaic.Lib.SparseCore.Ops
public import Idealize.ShloMosaic.Lib.SparseCore.FromWhole
public import Idealize.ShloMosaic.Lib.Batch
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none

/-! ## The resource algebra: the handshakes' rounds library, the transfers' counters -/

abbrev UH : Type := URounds (GSem nD τ sig) ℕ
abbrev UU : Type := UH × (URounds (GSem nD τ sig) Unit × Counters)

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## The task's operands -/

abbrev xM : Memref sig .scVector .hbm S4096x8192 .f32 := Memref.whole main_v0_scv
abbrev tM : Memref sig .scVector .hbm S4096 .i32 := Memref.whole main_v1_scv
abbrev oM : Memref sig .scVector .hbm S4096x128 .f32 := Memref.whole main_v3_scv
abbrev tgM : Memref sig .scVector .vmem S128 .i32 := Memref.whole cc0_scratch0
abbrev slM : Memref sig .scVector .vmem S2x32x8x128 .f32 := Memref.whole cc0_scratch1
abbrev rwM : Memref sig .scVector .vmem S128x128 .f32 := Memref.whole cc0_scratch2

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The first row of the task at `L`: 128 rows to a task, two SparseCores to a subcore. -/
def base (L : grid0.Coords) : ℕ := ((L 1).val * 2 + (L 0).val) * 128

def ix1 (n : ℕ) : S4096.Idx := fun a => match a with
  | ⟨0, _⟩ => ⟨n % 4096, Nat.mod_lt _ (by decide)⟩
def ix2 (n c : ℕ) : S4096x8192.Idx := fun a => match a with
  | ⟨0, _⟩ => ⟨n % 4096, Nat.mod_lt _ (by decide)⟩
  | ⟨1, _⟩ => ⟨c % 8192, Nat.mod_lt _ (by decide)⟩

variable (X : S4096x8192.Idx → Elt F .f32) (T : S4096.Idx → BitVec 32) (d : Dev nD) (L : grid0.Coords)

/-- The target of row `j` of the task. -/
def tw (j : ℕ) : ℕ := (T (ix1 (base L + j))).toNat
/-- What the targets' scratch holds. -/
def tgV : S128.Idx → Elt F .i32 := fun i => T (ix1 (base L + (i 0).val))
/-- Where the box of row `j` starts in the operand. -/
def srcOff (j : ℕ) : Fin 2 → ℕ := ![base L + j / 8 * 8, tw T L j / 128 * 128]
/-- The box's elements. -/
def srcSet (j : ℕ) : Finset S4096x8192.Idx :=
  Finset.univ.filter fun i => (srcOff T L j 0 ≤ (i 0).val ∧ (i 0).val < srcOff T L j 0 + 8)
    ∧ (srcOff T L j 1 ≤ (i 1).val ∧ (i 1).val < srcOff T L j 1 + 128)
/-- The box's slot. -/
def slotSet (b jj : ℕ) : Finset S2x32x8x128.Idx := Finset.univ.filter fun i => (i 0).val = b ∧ (i 1).val = jj
/-- The half of the slots that one chunk fills. -/
def halfSet (b : ℕ) : Finset S2x32x8x128.Idx := Finset.univ.filter fun i => (i 0).val = b
/-- What chunk `k` leaves in its slots. -/
def chunkV (k : ℕ) : S2x32x8x128.Idx → Elt F .f32 := fun i =>
  X (ix2 (base L + (32 * k + (i 1).val) / 8 * 8 + (i 2).val) (tw T L (32 * k + (i 1).val) / 128 * 128 + (i 3).val))
/-- What the task's rows must hold in the end. -/
def rowV : S128x128.Idx → Elt F .f32 := fun i =>
  X (ix2 (base L + (i 0).val) (tw T L (i 0).val / 128 * 128 + (i 1).val))

inductive BS
  | idle (k : ℕ) | firing (k jj : ℕ) | waiting (k u : ℕ) | ready (k : ℕ)

abbrev xAt (S : Finset S4096x8192.Idx) (q : PosShare TreeShare) : sProp 𝕄 := xM.view.loc (thr d L) ↦[S]{q} X
abbrev slAt (S : Finset S2x32x8x128.Idx) (f : S2x32x8x128.Idx → Elt F .f32) : sProp 𝕄 := slM.view.loc (thr d L) ↦[S]{fullShare} f

abbrev semB (b : Fin 2) : DmaSem sig := match b with | 0 => cc0_scratch3.sem | 1 => cc0_scratch4.sem

/-- What a copy into a slot credits: the same for every slot. -/
def NS : ℕ := ((slM.slice (Rect.unit (s := S2x32x8x128) ![0, 0, 0, 0] S1x1x8x128.size inb_S2x32x8x128_S1x1x8x128_0_0_0_0) (fun _ => rfl)).squeeze S8x128
  squeezes_S1x1x8x128_S8x128).view.dmaCredit
theorem NS_pos : 0 < NS := View.dmaCredit_pos _ (by decide)

variable (q : PosShare TreeShare)

def qB (b : Fin 2) : PosShare TreeShare := match b with | 0 => q.left | 1 => q.right
def dlv (b : Fin 2) (k : ℕ) (t : Fin 32) : sProp 𝕄 :=
  iprop(slAt d L (slotSet b.val t.val) (chunkV X T L k) ∗ xAt X d L (srcSet T L (32 * k + t.val)) (shareTokN (qB q b) t.val))
/-- What of a copy's share of the operand stays with the task while it flies. -/
def keep (b : Fin 2) (k : ℕ) : sProp 𝕄 :=
  iprop(xAt X d L Finset.univ (shareDrop (qB q b) 32)
    ∗ bigSep Finset.univ fun t : Fin 32 => xAt X d L (Finset.univ \ srcSet T L (32 * k + t.val)) (shareTokN (qB q b) t.val))
abbrev pays (k : ℕ) : Finset (Fin 32) := pending k
abbrev Bt (b : Fin 2) (k j u : ℕ) : sProp 𝕄 :=
  Batch EC (thr d L) (.dma (semB b)) (default : HIx 1) NS (dlv X T d L q b k) j u

def bufSt (b : Fin 2) : BS → sProp 𝕄
  | .idle _ => iprop(semVal (thr d L, .dma (semB b)) 0 ∗ xAt X d L Finset.univ (qB q b) ∗ ∃ f, slAt d L (halfSet b.val) f)
  | .firing k jj => iprop(Bt X T d L q b k jj 0 ∗ keep X T d L q b k
      ∗ bigSep (pending jj) fun t : Fin 32 => iprop(xAt X d L (srcSet T L (32 * k + t.val)) (shareTokN (qB q b) t.val) ∗ ∃ f, slAt d L (slotSet b.val t.val) f))
  | .waiting k u => iprop(Bt X T d L q b k 32 (u * NS) ∗ keep X T d L q b k)
  | .ready k => iprop(semVal (thr d L, .dma (semB b)) 0 ∗ xAt X d L Finset.univ (qB q b) ∗ slAt d L (halfSet b.val) (chunkV X T L k))

/-- The first `n` pieces of sixteen lanes of the rows are done. -/
def rowsSt (n : ℕ) : sProp 𝕄 :=
  iprop(∃ f : S128x128.Idx → Elt F .f32, ⌜∀ i, (i 0).val * 8 + (i 1).val / 16 < n → f i = rowV X T L i⌝
    ∗ rwM.view.loc (thr d L) ↦{fullShare} f)

variable (O : CellTallies nD τ sig (HIx 1)) (W : Waits sig (HIx 1))

def owesSt : sProp 𝕄 := iprop(∃ W', ⌜∀ p ∈ W', p ∈ W ∨ p.2 = none⌝ ∗ owes (thr d L) O W')

/-- What every operation leaves as it is but for the rows done and the waits recorded. -/
def Com (n : ℕ) : sProp 𝕄 :=
  iprop(MayWaits (thr d L) (default : HIx 1) O ∗ (tgM.view.loc (thr d L) ↦{fullShare} tgV (F := F) T L) ∗ rowsSt X T d L n ∗ owesSt d L O W)

/-- The task between its first copy and its last: the two halves of the slots, whatever else it holds, and the rest. -/
def St (R : sProp 𝕄) (a0 a1 : BS) (n : ℕ) : sProp 𝕄 :=
  iprop(bufSt X T d L q 0 a0 ∗ bufSt X T d L q 1 a1 ∗ R ∗ Com X T d L O W n)

end Cert.Proof.KernelIdeal
-- ==== Proof.KernelIdeal.ScGeo.lean ====
module

public import proofs.«01_k».proof.Proof.KernelIdeal.ScBase

@[expose] public section

noncomputable section

namespace Cert.Proof.KernelIdeal

open Cert.KernelIdeal Cert.KernelIdeal.Gen
open Idealize.ShloMosaic

/-! # The task's geometry: where its boxes, slots and pieces of rows lie, and what each holds -/

variable {F : FTy → Type}
variable {X : S4096x8192.Idx → Elt F .f32} {T : S4096.Idx → BitVec 32} {L : grid0.Coords}

theorem base_lt (L : grid0.Coords) : base L + 128 ≤ 4096 := by
  have h0 : (L 0).val < 2 := (L 0).isLt
  have h1 : (L 1).val < 16 := (L 1).isLt
  unfold base; omega

/-! ## The rows' first element as the program computes it -/

theorem baseW (c : BitVec 32) (hc : c.toNat + 8 ≤ 128) :
    (Scalar.addi (Scalar.muli (Scalar.addi (Scalar.muli (BitVec.ofNat 32 (L 1).val) 2#32) (BitVec.ofNat 32 (L 0).val)) 128#32) c).toNat
      = base L + c.toNat := by
  have h0 : (L 0).val < 2 := (L 0).isLt
  have h1 : (L 1).val < 16 := (L 1).isLt
  have e : ∀ x y : BitVec 32, Scalar.addi x y = x + y := fun _ _ => rfl
  have e' : ∀ x y : BitVec 32, Scalar.muli x y = x * y := fun _ _ => rfl
  simp only [e, e', BitVec.toNat_add, BitVec.toNat_mul, BitVec.toNat_ofNat, base]
  omega

/-! ## A row's target rounded down to a multiple of 128 -/

theorem shift_toNat (x : BitVec 32) : ((x >>> (7#32)) <<< (7#32)).toNat = x.toNat / 128 * 128 := by
  have hx := x.isLt
  have e7 : (7#32).toNat = 7 := rfl
  simp only [BitVec.shiftLeft_eq', BitVec.ushiftRight_eq', BitVec.toNat_shiftLeft, BitVec.toNat_ushiftRight, e7,
    Nat.shiftLeft_eq, Nat.shiftRight_eq_div_pow]
  omega

/-- The word of lane `i` of the sixteen targets from `g` on, rounded down. -/
abbrev wordAt (g i : ℕ) (inb : ∀ a, (![g] : Fin 1 → ℕ) a + S16.size a ≤ S128.size a) (hc : S16.ShapeCasts S16)
    (hs : S16.Slices ![i] S1) (hp : ∀ a, (![0] : Fin 1 → ℕ) a < S1.size a) : BitVec 32 :=
  extractAt ![0] (extractStridedSlice S1 ![i]
    (shli (shrui (shapeCast S16 (tgM.view.readAt (Elt F) (Rect.unit (s := S128) ![g] S16.size inb).toLoadRect (tgV (F := F) T L)) hc)
      (broadcast S16 7#32)) (broadcast S16 7#32)) hs) hp

theorem word_ok {g i : ℕ} {inb : ∀ a, (![g] : Fin 1 → ℕ) a + S16.size a ≤ S128.size a} {hc : S16.ShapeCasts S16}
    {hs : S16.Slices ![i] S1} {hp : ∀ a, (![0] : Fin 1 → ℕ) a < S1.size a} :
    (wordAt (F := F) (T := T) (L := L) g i inb hc hs hp).toNat = tw T L (g + i) / 128 * 128 := by
  have e : wordAt (F := F) (T := T) (L := L) g i inb hc hs hp
      = ((T (ix1 (base L + (g + i)))) >>> (7#32)) <<< (7#32) := by
    unfold wordAt
    simp only [extractAt, extractStridedSlice, shli, shrui, broadcast, shapeCast, Shape.reshapeEquiv_self, View.readAt_apply,
      View.read_apply, cast_eq]
    unfold IntOp.shli IntOp.shrui
    rw [if_pos (by decide), if_pos (by decide)]
    congr 2
    unfold tgV
    congr 2
    show base L + (g + 1 * (i + 0)) = base L + (g + i)
    omega
  rw [e, shift_toNat]
  rfl

theorem off_ok {g i j : ℕ} {c : BitVec 32} {inb : ∀ a, (![g] : Fin 1 → ℕ) a + S16.size a ≤ S128.size a} {hc : S16.ShapeCasts S16}
    {hs : S16.Slices ![i] S1} {hp : ∀ a, (![0] : Fin 1 → ℕ) a < S1.size a} (hj : g + i = j) (hcj : c.toNat = j / 8 * 8) (hb : Nat.ble (j + 1) 128 = true) :
    (![(Scalar.addi (Scalar.muli (Scalar.addi (Scalar.muli (BitVec.ofNat 32 (L 1).val) 2#32) (BitVec.ofNat 32 (L 0).val)) 128#32) c).toNat,
        (wordAt (F := F) (T := T) (L := L) g i inb hc hs hp).toNat] : Fin 2 → ℕ) = srcOff T L j := by
  have hb' := Nat.le_of_ble_eq_true hb
  rw [baseW c (by omega), word_ok, hj, hcj]; rfl

theorem box_in (hT : ∀ i, (T i).toNat < 8192) {g i : ℕ} {c : BitVec 32} {inb : ∀ a, (![g] : Fin 1 → ℕ) a + S16.size a ≤ S128.size a}
    {hc : S16.ShapeCasts S16} {hs : S16.Slices ![i] S1} {hp : ∀ a, (![0] : Fin 1 → ℕ) a < S1.size a} (hcj : c.toNat + 8 ≤ 128) (a : Fin 2) :
    (![(Scalar.addi (Scalar.muli (Scalar.addi (Scalar.muli (BitVec.ofNat 32 (L 1).val) 2#32) (BitVec.ofNat 32 (L 0).val)) 128#32) c).toNat,
        (wordAt (F := F) (T := T) (L := L) g i inb hc hs hp).toNat] : Fin 2 → ℕ) a + S8x128.size a ≤ S4096x8192.size a := by
  have hb := base_lt L
  have ht : tw T L (g + i) < 8192 := hT _
  rw [baseW c hcj, word_ok]
  match a with
  | 0 => show base L + c.toNat + 8 ≤ 4096; omega
  | 1 => show tw T L (g + i) / 128 * 128 + 128 ≤ 8192; omega

theorem chk_ok3 (hT : ∀ i, (T i).toNat < 8192) {g i : ℕ} {c c' : BitVec 32} {inb : ∀ a, (![g] : Fin 1 → ℕ) a + S16.size a ≤ S128.size a}
    {hc : S16.ShapeCasts S16} {hs : S16.Slices ![i] S1} {hp : ∀ a, (![0] : Fin 1 → ℕ) a < S1.size a} (hcj : c.toNat + 8 ≤ 128) (hcj' : c'.toNat + 8 ≤ 128) :
    (128 ∣ (wordAt (F := F) (T := T) (L := L) g i inb hc hs hp).toNat) ∧
    (∀ a : Fin 2, (![(Scalar.addi (Scalar.muli (Scalar.addi (Scalar.muli (BitVec.ofNat 32 (L 1).val) 2#32) (BitVec.ofNat 32 (L 0).val)) 128#32) c).toNat,
        (wordAt (F := F) (T := T) (L := L) g i inb hc hs hp).toNat] : Fin 2 → ℕ) a + S8x128.size a ≤ S4096x8192.size a) ∧
    (∀ a : Fin 2, (![(Scalar.addi (Scalar.muli (Scalar.addi (Scalar.muli (BitVec.ofNat 32 (L 1).val) 2#32) (BitVec.ofNat 32 (L 0).val)) 128#32) c').toNat,
        (wordAt (F := F) (T := T) (L := L) g i inb hc hs hp).toNat] : Fin 2 → ℕ) a + S8x128.size a ≤ S4096x8192.size a) :=
  ⟨by rw [word_ok]; exact Dvd.intro_left _ rfl, box_in hT hcj, box_in hT hcj'⟩

theorem chk_ok2 (hT : ∀ i, (T i).toNat < 8192) {g i : ℕ} {c : BitVec 32} {inb : ∀ a, (![g] : Fin 1 → ℕ) a + S16.size a ≤ S128.size a}
    {hc : S16.ShapeCasts S16} {hs : S16.Slices ![i] S1} {hp : ∀ a, (![0] : Fin 1 → ℕ) a < S1.size a} (hcj : c.toNat + 8 ≤ 128) :
    (128 ∣ (wordAt (F := F) (T := T) (L := L) g i inb hc hs hp).toNat) ∧
    (∀ a : Fin 2, (![(Scalar.addi (Scalar.muli (Scalar.addi (Scalar.muli (BitVec.ofNat 32 (L 1).val) 2#32) (BitVec.ofNat 32 (L 0).val)) 128#32) c).toNat,
        (wordAt (F := F) (T := T) (L := L) g i inb hc hs hp).toNat] : Fin 2 → ℕ) a + S8x128.size a ≤ S4096x8192.size a) :=
  ⟨by rw [word_ok]; exact Dvd.intro_left _ rfl, box_in hT hcj⟩

/-! ## The boxes and their slots -/

abbrev boxM (off : Fin 2 → ℕ) (inb : ∀ a, off a + S8x128.size a ≤ S4096x8192.size a) (hs : ∀ a, (Rect.unit (s := S4096x8192) off S8x128.size inb).stride a = 1) :
    Memref sig .scVector .hbm S8x128 .f32 := xM.slice (Rect.unit (s := S4096x8192) off S8x128.size inb) hs
abbrev slotM (b jj : ℕ) (inb : ∀ a, (![b, jj, 0, 0] : Fin 4 → ℕ) a + S1x1x8x128.size a ≤ S2x32x8x128.size a)
    (hs : ∀ a, (Rect.unit (s := S2x32x8x128) ![b, jj, 0, 0] S1x1x8x128.size inb).stride a = 1) (hq : S1x1x8x128.Squeezes S8x128) :
    Memref sig .scVector .vmem S8x128 .f32 := (slM.slice (Rect.unit (s := S2x32x8x128) ![b, jj, 0, 0] S1x1x8x128.size inb) hs).squeeze S8x128 hq

theorem box_set {j : ℕ} {off inb hs} (hoff : off = srcOff T L j) : (boxM off inb hs).view.set = srcSet T L j := by
  subst hoff
  show ((View.whole main_v0_scv).slice _).set = _
  rw [View.set_slice_whole]
  ext i
  rw [Rect.mem_set_unit]
  simp only [srcSet, Finset.mem_filter, Finset.mem_univ, true_and]
  exact Fin.forall_fin_two

theorem mem_slotSet {b jj : ℕ} {i : S2x32x8x128.Idx} : i ∈ slotSet b jj ↔ (i 0).val = b ∧ (i 1).val = jj := by simp [slotSet]
theorem mem_halfSet {b : ℕ} {i : S2x32x8x128.Idx} : i ∈ halfSet b ↔ (i 0).val = b := by simp [halfSet]

theorem slot_set {b jj : ℕ} {inb hs hq} : (slotM b jj inb hs hq).view.set = slotSet b jj := by
  have e : (slotM b jj inb hs hq).view.set = (Rect.unit (s := S2x32x8x128) ![b, jj, 0, 0] S1x1x8x128.size inb).set :=
    (View.set_reshape _ _).trans (View.set_slice_whole cc0_scratch1 _)
  rw [e]
  ext i
  rw [Rect.mem_set_unit, mem_slotSet]
  have h2 : (i 2).val < 8 := (i 2).isLt
  have h3 : (i 3).val < 128 := (i 3).isLt
  constructor
  · intro h
    have h0 : b ≤ (i 0).val ∧ (i 0).val < b + 1 := h 0
    have h1 : jj ≤ (i 1).val ∧ (i 1).val < jj + 1 := h 1
    omega
  · rintro ⟨h0, h1⟩ a
    match a with
    | 0 => show b ≤ (i 0).val ∧ (i 0).val < b + 1; omega
    | 1 => show jj ≤ (i 1).val ∧ (i 1).val < jj + 1; omega
    | 2 => show 0 ≤ (i 2).val ∧ (i 2).val < 0 + 8; omega
    | 3 => show 0 ≤ (i 3).val ∧ (i 3).val < 0 + 128; omega

/-- An index of the box as one of the slot it is squeezed out of. -/
def box4 (x : S8x128.Idx) : S1x1x8x128.Idx := fun a => match a with
  | ⟨0, _⟩ => ⟨0, Nat.one_pos⟩ | ⟨1, _⟩ => ⟨0, Nat.one_pos⟩ | ⟨2, _⟩ => ⟨(x 0).val, (x 0).isLt⟩ | ⟨3, _⟩ => ⟨(x 1).val, (x 1).isLt⟩

theorem box4_eq (h : S8x128.numel = S1x1x8x128.numel) (x : S8x128.Idx) : Shape.reshapeEquiv h x = box4 x := by
  refine Shape.reshapeEquiv_eq_of_rowMajor h ?_
  rw [Shape.rowMajor_val_two, Shape.rowMajor_val_four]
  show ((0 * 1 + 0) * 8 + (x 0).val) * 128 + (x 1).val = (x 0).val * 128 + (x 1).val
  omega

theorem land {k b jj : ℕ} {off inb hs inb' hs' hq} (hoff : off = srcOff T L (32 * k + jj)) (f : S2x32x8x128.Idx → Elt F .f32)
    (i : S2x32x8x128.Idx) (hi : i ∈ slotSet b jj) :
    (slotM b jj inb' hs' hq).view.write (Elt F) f (ReadAs.same.apply ((boxM off inb hs).view.read (Elt F) X)) Finset.univ i = chunkV X T L k i := by
  subst hoff
  rw [← slot_set (inb := inb') (hs := hs') (hq := hq)] at hi
  obtain ⟨x, -, rfl⟩ := Finset.mem_map.1 hi
  rw [View.write_emb_of_mem (h := Finset.mem_univ _)]
  show X _ = X _
  have hx : (slotM b jj inb' hs' hq).view.emb x = (Rect.unit (s := S2x32x8x128) ![b, jj, 0, 0] S1x1x8x128.size inb').emb (box4 x) :=
    congrArg (Rect.unit (s := S2x32x8x128) ![b, jj, 0, 0] S1x1x8x128.size inb').emb (box4_eq _ x)
  rw [hx]
  congr 1
  have i0 := inb 0
  have i1 := inb 1
  have e0 : S8x128.size 0 = 8 := rfl
  have e1 : S8x128.size 1 = 128 := rfl
  have e2 : S4096x8192.size 0 = 4096 := rfl
  have e3 : S4096x8192.size 1 = 8192 := rfl
  rw [e0, e2] at i0
  rw [e1, e3] at i1
  have x0 : (x 0).val < 8 := (x 0).isLt
  have x1 : (x 1).val < 128 := (x 1).isLt
  change base L + (32 * k + jj) / 8 * 8 + 8 ≤ 4096 at i0
  change tw T L (32 * k + jj) / 128 * 128 + 128 ≤ 8192 at i1
  funext a
  apply Fin.ext
  match a with
  | 0 =>
    show base L + (32 * k + jj) / 8 * 8 + 1 * (x 0).val = (base L + (32 * k + (jj + 1 * 0)) / 8 * 8 + (0 + 1 * (x 0).val)) % 4096
    rw [Nat.mod_eq_of_lt] <;> omega
  | 1 =>
    show tw T L (32 * k + jj) / 128 * 128 + 1 * (x 1).val = (tw T L (32 * k + (jj + 1 * 0)) / 128 * 128 + (0 + 1 * (x 1).val)) % 8192
    rw [Nat.mul_zero, Nat.add_zero, Nat.mod_eq_of_lt] <;> omega

/-! ## A piece of sixteen lanes of a row -/

theorem row_piece {i : S128x128.Idx} {j c : ℕ} {inb} : i ∈ (rwM.access (Rect.unit (s := S128x128) ![j, c] S1x16.size inb)).set ↔ (i 0).val = j ∧ c ≤ (i 1).val ∧ (i 1).val < c + 16 := by
  have e : (rwM.access (Rect.unit (s := S128x128) ![j, c] S1x16.size inb)).set = (Rect.unit (s := S128x128) ![j, c] S1x16.size inb).set :=
    View.set_slice_whole cc0_scratch2 _
  rw [e, Rect.mem_set_unit]
  constructor
  · intro h
    have h0 : j ≤ (i 0).val ∧ (i 0).val < j + 1 := h 0
    have h1 : c ≤ (i 1).val ∧ (i 1).val < c + 16 := h 1
    omega
  · rintro ⟨h0, h1, h2⟩ a
    match a with
    | 0 => show j ≤ (i 0).val ∧ (i 0).val < j + 1; omega
    | 1 => show c ≤ (i 1).val ∧ (i 1).val < c + 16; omega

def lane4 (x : S1x16.Idx) : S1x1x1x16.Idx := fun a => match a with
  | ⟨0, _⟩ => ⟨0, Nat.one_pos⟩ | ⟨1, _⟩ => ⟨0, Nat.one_pos⟩ | ⟨2, _⟩ => ⟨0, Nat.one_pos⟩ | ⟨3, _⟩ => ⟨(x 1).val, (x 1).isLt⟩

theorem lane4_eq (h : S16.numel = S1x1x1x16.numel) (h' : S1x16.numel = S16.numel) (x : S1x16.Idx) :
    Shape.reshapeEquiv h (Shape.reshapeEquiv h' x) = lane4 x := by
  rw [Shape.reshapeEquiv_reshapeEquiv]
  refine Shape.reshapeEquiv_eq_of_rowMajor _ ?_
  rw [Shape.rowMajor_val_two, Shape.rowMajor_val_four]
  have h0 : (x 0).val < 1 := (x 0).isLt
  show ((0 * 1 + 0) * 1 + 0) * 16 + (x 1).val = (x 0).val * 16 + (x 1).val
  omega

/-- A piece's store, checked on numerals: the `n`-th piece, taken from the right place of the right slot. -/
def pieceOk (n j c k jj r c' : ℕ) : Bool :=
  n == j * 8 + c / 16 && c == c' && j == 32 * k + jj && r == j % 8 && c % 16 == 0 && Nat.blt c 128

theorem copied {n j c k b jj r c' : ℕ} {inb inb' h1 h2} (ok : pieceOk n j c k jj r c' = true) (f : S128x128.Idx → Elt F .f32)
    (hf : ∀ i, (i 0).val * 8 + (i 1).val / 16 < n → f i = rowV X T L i) (i : S128x128.Idx) (hi : (i 0).val * 8 + (i 1).val / 16 < j * 8 + c / 16 + 1) :
    (rwM.access (Rect.unit (s := S128x128) ![j, c] S1x16.size inb)).write (Elt F) f
      (shapeCast S1x16 (shapeCast S16 (slM.view.readAt (Elt F) (Rect.unit (s := S2x32x8x128) ![b, jj, r, c'] S1x1x1x16.size inb').toLoadRect (chunkV X T L k)) h1) h2)
      Finset.univ i = rowV X T L i := by
  simp only [pieceOk, Bool.and_eq_true, beq_iff_eq, Nat.blt_eq] at ok
  obtain ⟨⟨⟨⟨⟨hn, hc⟩, hj⟩, hr⟩, h16⟩, hlt⟩ := ok
  have i1 : (i 1).val < 128 := (i 1).isLt
  by_cases hm : i ∈ (rwM.access (Rect.unit (s := S128x128) ![j, c] S1x16.size inb)).set
  · obtain ⟨x, -, rfl⟩ := Finset.mem_map.1 hm
    rw [View.write_emb_of_mem (h := Finset.mem_univ _)]
    have x0 : (x 0).val < 1 := (x 0).isLt
    have x1 : (x 1).val < 16 := (x 1).isLt
    have hj128 : j < 128 := by have := inb 0; change j + 1 ≤ 128 at this; omega
    show chunkV X T L k ((Rect.unit (s := S2x32x8x128) ![b, jj, r, c'] S1x1x1x16.size inb').toLoadRect.idx (Shape.reshapeEquiv _ (Shape.reshapeEquiv _ x))) = _
    rw [lane4_eq]
    show X (ix2 (base L + (32 * k + (jj + 1 * 0)) / 8 * 8 + (r + 1 * 0)) (tw T L (32 * k + (jj + 1 * 0)) / 128 * 128 + (c' + 1 * (x 1).val)))
      = X (ix2 (base L + (j + 1 * (x 0).val)) (tw T L (j + 1 * (x 0).val) / 128 * 128 + (c + 1 * (x 1).val)))
    have e0 : (x 0).val = 0 := by omega
    rw [e0]
    simp only [Nat.mul_zero, Nat.add_zero]
    rw [← hj, ← hc]
    congr 2
    omega
  · rw [View.write_of_not_mem (h := hm)]
    refine hf i ?_
    rw [row_piece] at hm
    by_contra hlt'
    have hd : c / 16 * 16 = c := by omega
    omega

end Cert.Proof.KernelIdeal
-- ==== Proof.KernelIdeal.ScSteps.lean ====
module

public import proofs.«01_k».proof.Proof.KernelIdeal.ScGeo

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

/-! # One operation of the task at a time

Each lemma takes the task's state over one operation of its program; the program itself is walked in the order it is
written. -/

variable {F : FTy → Type} [FloatOps F] [Named F]

local notation "𝕄" => MT nD τ sig (HIx 1) (Elt F) ℕ UU ℕ

variable {X : S4096x8192.Idx → Elt F .f32} {T : S4096.Idx → BitVec 32} {d : Dev nD} {L : grid0.Coords}
variable {q : PosShare TreeShare} {R : sProp (MT nD τ sig (HIx 1) (Elt F) ℕ UU ℕ)} {O : CellTallies nD τ sig (HIx 1)} {W : Waits sig (HIx 1)}

abbrev pV (L : grid0.Coords) : Proc τ := .scVector ((L 0).castLE hcore0) ((L 1).castLE hsub0)
abbrev PT (F : FTy → Type) (L : grid0.Coords) (α : Type) : Type 1 := Prog (TpuEff nD τ sig (Elt F) Λ₀ (pV L)) α
abbrev WP (d : Dev nD) {L : grid0.Coords} {α : Type} (p : PT F L α) (Q : α → sProp 𝕄) : sProp 𝕄 :=
  wp (M := 𝕄) frame (wpE (defs₀ (F := F)) 𝒱₀ (thr d L) none) Set.univ p Q

/-! ## The program's structure -/

theorem st_bind {α β : Type} {P : sProp 𝕄} {Q : β → sProp 𝕄} {p : PT F L α} {k : α → PT F L β}
    (h : P ⊢ WP d p fun a => WP d (k a) Q) : P ⊢ WP d (p >>= k) Q := by
  unfold WP at h ⊢; rw [wp_bind]; exact h

theorem st_pure {α : Type} {P : sProp 𝕄} {Q : α → sProp 𝕄} {a : α} (h : P ⊢ Q a) : P ⊢ WP d (pure a : PT F L α) Q := by
  unfold WP; rw [wp_pure]; exact h.trans fupd_intro

theorem st_assume {p : Prop} {dec : Decidable p} {P : sProp 𝕄} {Q : PLift p → sProp 𝕄} (hp : p) (h : P ⊢ Q ⟨hp⟩) :
    P ⊢ WP d (Prog.lift (TpuEff.assume p dec) : PT F L (PLift p)) Q :=
  (h.trans (by rw [wp_ret]; exact fupd_intro)).trans (wp_assume (defs := defs₀ (F := F)) 𝒱₀ (thr d L) none Set.univ (k := .ret) hp)

/-- A copy goes on at its state, and the run after it. -/
theorem ret_of {α : Type} {P : sProp 𝕄} {Q : α → sProp 𝕄} {a : α} (h : P ⊢ Q a) : P ⊢ WP d (.ret a : PT F L α) Q := by
  unfold WP; rw [wp_ret]; exact h.trans fupd_intro

/-! ## Copies into the slots, and their waits -/

theorem fire_core (b : Fin 2) {k jj : ℕ} (hjj : jj < 32) {off inb hs inb' hs' hq hw1 hw2 ht} (hoff : off = srcOff T L (32 * k + jj))
    {Q : PUnit → sProp 𝕄} :
    bufSt X T d L q b (.firing k jj)
      ⊢ iprop((bufSt X T d L q b (.firing k (jj + 1)) -∗ WP d (.ret ⟨⟩ : PT F L PUnit) Q)
        -∗ WP d (Prog.lift (.enqueueDma (boxM off inb hs) (.here (slotM b.val jj inb' hs' hq)) (.dma (semB b)) hw1 hw2 ht) : PT F L PUnit) Q) := by
  dsimp only [bufSt]
  rw [bigSep_pending_step _ jj hjj]
  iintro ⟨HB, HK, ⟨⟨Hx, ⟨%f, Hs⟩⟩, HP⟩⟩ Hk
  iapply (wp_dmaBatch EC 𝒱₀ (thr d L) none (defs := defs₀ (F := F)) (src := boxM off inb hs) (dst := slotM b.val jj inb' hs' hq)
    (fs := X) (fd := f) (Sd := slotSet b.val jj) (q := shareTokN (qB q b) jj) (D := dlv X T d L q b k) (default : HIx 1) NS (by rfl)
    (subset_of_eq slot_set) hjj (Nat.zero_le _) ?_) $$ [HB Hx Hs]
  · unfold dlv
    rw [box_set hoff]
    refine sep_mono_left ?_
    exact Entails.of_eq (pointsTo_congr fun i hi => land hoff f i hi)
  · isplitl [Hx]
    · rw [box_set hoff]; iexact Hx
    isplitl [Hs]; · iexact Hs
    iexact HB
  iintro HB
  iapply Hk
  isplitl [HB]; · iexact HB
  isplitl [HK]; · iexact HK
  iexact HP

theorem wait_core (b : Fin 2) {k u n : ℕ} (hu : u < 32) {s₀ s₁ : Shape} {e₀ e₁ : EltTy} {sp₀ sp₁ : Space} {srcw : Memref sig .scVector sp₀ s₀ e₀}
    {dstw : Memref sig .scVector sp₁ s₁ e₁} {hw1 hw2} (hd : dstw.view.dmaCredit = NS) {Q : PUnit → sProp 𝕄} :
    iprop(bufSt X T d L q b (.waiting k u) ∗ Com X T d L O W n)
      ⊢ iprop((iprop(bufSt X T d L q b (.waiting k (u + 1)) ∗ Com X T d L O W n) -∗ WP d (.ret ⟨⟩ : PT F L PUnit) Q)
        -∗ WP d (Prog.lift (.waitDma2 (semB b) srcw dstw hw1 hw2) : PT F L PUnit) Q) := by
  dsimp only [bufSt, Com, owesSt]
  iintro ⟨⟨HB, HK⟩, ⟨#HM, HT, HR, ⟨%W', %hW', HO⟩⟩⟩ Hk
  ihave HMW := (show (MayWaits (thr d L) (default : HIx 1) O : sProp 𝕄) ⊢ MayWait (thr d L) (.dma (semB b)) default O from MayWaits.elim _) $$ HM
  iapply (wp_waitBatchMulO EC 𝒱₀ (thr d L) none (defs := defs₀ (F := F)) (srcw := srcw) (dstw := dstw) (default : HIx 1) (N := NS) 1 (by rw [hd, Nat.one_mul])
    (D := dlv X T d L q b k) (j := 32) (u := u * NS) (by rw [← Nat.add_mul, Nat.mul_comm NS]; exact Nat.mul_le_mul_right _ (by omega)) (O := O) (W := W')) $$ [HB HO HMW]
  · isplitl [HB]; · iexact HB
    isplitl [HO]; · iexact HO
    iexact HMW
  rw [← Nat.add_mul]
  iintro ⟨HB, HO⟩
  iapply Hk
  isplitl [HB HK]
  · isplitl [HB]; · iexact HB
    iexact HK
  isplitr; · iexact HM
  isplitl [HT]; · iexact HT
  isplitl [HR]; · iexact HR
  iexists insert (SemLoc.dma (semB b), default) W'
  isplitr
  · ipureintro
    intro p hp
    rcases Finset.mem_insert.1 hp with rfl | hp
    · exact .inr rfl
    · exact hW' p hp
  iexact HO

/-! ## Loads and stores -/

theorem piece_sub {b jj r c : ℕ} {inb} :
    (slM.access (Rect.unit (s := S2x32x8x128) ![b, jj, r, c] S1x1x1x16.size inb)).set ⊆ halfSet b := by
  have e : (slM.access (Rect.unit (s := S2x32x8x128) ![b, jj, r, c] S1x1x1x16.size inb)).set = (Rect.unit (s := S2x32x8x128) ![b, jj, r, c] S1x1x1x16.size inb).set :=
    View.set_slice_whole cc0_scratch1 _
  intro i hi
  rw [e, Rect.mem_set_unit] at hi
  have h0 : b ≤ (i 0).val ∧ (i 0).val < b + 1 := hi 0
  rw [mem_halfSet]; omega

theorem ld_core (b : Fin 2) {k jj r c : ℕ} {inb hl} {Q : _ → sProp 𝕄} :
    bufSt X T d L q b (.ready k)
      ⊢ iprop((bufSt X T d L q b (.ready k) -∗
          Q (slM.view.readAt (Elt F) (Rect.unit (s := S2x32x8x128) ![b.val, jj, r, c] S1x1x1x16.size inb).toLoadRect (chunkV X T L k)))
        -∗ WP d (Prog.lift (.load slM (Rect.unit (s := S2x32x8x128) ![b.val, jj, r, c] S1x1x1x16.size inb).toLoadRect hl) : PT F L _) Q) := by
  dsimp only [bufSt]
  iintro ⟨HV, HX, HS⟩ Hk
  iapply (wp_load 𝒱₀ (thr d L) none Set.univ (defs := defs₀ (F := F)) (m := slM) (S := halfSet b.val) (f := chunkV X T L k)
    (by have h := piece_sub (b := b.val) (jj := jj) (r := r) (c := c) (inb := inb); rwa [View.set_slice] at h)) $$ [HS]
  · iexact HS
  iintro HS
  iapply (ret_of (Entails.refl _))
  iapply Hk
  isplitl [HV]; · iexact HV
  isplitl [HX]; · iexact HX
  iexact HS

/-- A core step on half `b` of the slots is a step on the state. -/
theorem lift0 {a0 a0' a1 : BS} {n : ℕ} {P P' : sProp 𝕄} (core : bufSt X T d L q 0 a0 ⊢ iprop((bufSt X T d L q 0 a0' -∗ P) -∗ P'))
    (h : St X T d L q O W R a0' a1 n ⊢ P) : St X T d L q O W R a0 a1 n ⊢ P' := by
  unfold St at h ⊢
  iintro ⟨H0, H1, HF, HC⟩
  iapply core $$ [H0]; · iexact H0
  iintro H0
  iapply h
  isplitl [H0]; · iexact H0
  isplitl [H1]; · iexact H1
  isplitl [HF]; · iexact HF
  iexact HC

theorem lift1 {a0 a1 a1' : BS} {n : ℕ} {P P' : sProp 𝕄} (core : bufSt X T d L q 1 a1 ⊢ iprop((bufSt X T d L q 1 a1' -∗ P) -∗ P'))
    (h : St X T d L q O W R a0 a1' n ⊢ P) : St X T d L q O W R a0 a1 n ⊢ P' := by
  unfold St at h ⊢
  iintro ⟨H0, H1, HF, HC⟩
  iapply core $$ [H1]; · iexact H1
  iintro H1
  iapply h
  isplitl [H0]; · iexact H0
  isplitl [H1]; · iexact H1
  isplitl [HF]; · iexact HF
  iexact HC

theorem liftC {a0 a1 : BS} {n n' : ℕ} {P P' : sProp 𝕄} (core : Com X T d L O W n ⊢ iprop((Com X T d L O W n' -∗ P) -∗ P'))
    (h : St X T d L q O W R a0 a1 n' ⊢ P) : St X T d L q O W R a0 a1 n ⊢ P' := by
  unfold St at h ⊢
  iintro ⟨H0, H1, HF, HC⟩
  iapply core $$ [HC]; · iexact HC
  iintro HC
  iapply h
  isplitl [H0]; · iexact H0
  isplitl [H1]; · iexact H1
  isplitl [HF]; · iexact HF
  iexact HC

theorem st_tg {a0 a1 : BS} {n : ℕ} {r : LoadRect S128} {hl} {Q : _ → sProp 𝕄}
    (h : St X T d L q O W R a0 a1 n ⊢ Q (tgM.view.readAt (Elt F) r (tgV (F := F) T L))) :
    St X T d L q O W R a0 a1 n ⊢ WP d (Prog.lift (.load tgM r hl) : PT F L _) Q := by
  refine liftC ?_ h
  unfold Com
  iintro ⟨HM, HT, HC⟩ Hk
  iapply (wp_load 𝒱₀ (thr d L) none Set.univ (defs := defs₀ (F := F)) (m := tgM) (S := Finset.univ) (f := tgV (F := F) T L) (Finset.subset_univ _)) $$ [HT]
  · iexact HT
  iintro HT
  iapply (ret_of (Entails.refl _))
  iapply Hk
  isplitl [HM]; · iexact HM
  isplitl [HT]; · iexact HT
  iexact HC

theorem st_row {a0 a1 : BS} {n : ℕ} {r : LoadRect S128x128} {hl} {Q : _ → sProp 𝕄} (h : ∀ v, St X T d L q O W R a0 a1 n ⊢ Q v) :
    St X T d L q O W R a0 a1 n ⊢ WP d (Prog.lift (.load rwM r hl) : PT F L _) Q := by
  unfold St Com rowsSt
  iintro ⟨H0, H1, HF, HM, HT, ⟨%f, %hf, HR⟩, HO⟩
  iapply (wp_load 𝒱₀ (thr d L) none Set.univ (defs := defs₀ (F := F)) (m := rwM) (S := Finset.univ) (f := f) (Finset.subset_univ _)) $$ [HR]
  · iexact HR
  iintro HR
  iapply (ret_of (h _))
  unfold St Com rowsSt
  isplitl [H0]; · iexact H0
  isplitl [H1]; · iexact H1
  isplitl [HF]; · iexact HF
  isplitl [HM]; · iexact HM
  isplitl [HT]; · iexact HT
  isplitl [HR]
  · iexists f
    isplitr; · ipureintro; exact hf
    iexact HR
  iexact HO

theorem st_store {a0 a1 : BS} {n j c k b jj r c' : ℕ} {inb inb' h1 h2 hx hm} (ok : pieceOk n j c k jj r c' = true) {Q : PUnit → sProp 𝕄}
    (h : St X T d L q O W R a0 a1 (j * 8 + c / 16 + 1) ⊢ Q ⟨⟩) :
    St X T d L q O W R a0 a1 n ⊢ WP d (Prog.lift (.store rwM (Rect.unit (s := S128x128) ![j, c] S1x16.size inb)
      (shapeCast S1x16 (shapeCast S16 (slM.view.readAt (Elt F) (Rect.unit (s := S2x32x8x128) ![b, jj, r, c'] S1x1x1x16.size inb').toLoadRect (chunkV X T L k)) h1) h2)
      Finset.univ hx hm) : PT F L PUnit) Q := by
  refine liftC ?_ h
  unfold Com rowsSt
  iintro ⟨HM, HT, ⟨%f, %hf, HR⟩, HO⟩ Hk
  iapply (wp_store 𝒱₀ (thr d L) none Set.univ (defs := defs₀ (F := F)) (m := rwM) (S := Finset.univ) (f := f) (Finset.subset_univ _)) $$ [HR]
  · iexact HR
  iintro HR
  iapply (ret_of (Entails.refl _))
  iapply Hk
  isplitl [HM]; · iexact HM
  isplitl [HT]; · iexact HT
  isplitl [HR]
  · iexists (rwM.access (Rect.unit (s := S128x128) ![j, c] S1x16.size inb)).write (Elt F) f
      (shapeCast S1x16 (shapeCast S16 (slM.view.readAt (Elt F) (Rect.unit (s := S2x32x8x128) ![b, jj, r, c'] S1x1x1x16.size inb').toLoadRect (chunkV X T L k)) h1) h2) Finset.univ
    isplitr [HR]
    · ipureintro; exact copied ok f hf
    iexact HR
  iexact HO

/-! ## The steps on the state, half by half -/

theorem st_fire0 {a1 : BS} {n k jj jj' : ℕ} {off inb hs inb' hs' hq hw1 hw2 ht} (hj : jj = jj') (hlt : Nat.ble (jj' + 1) 32 = true)
    (hoff : off = srcOff T L (32 * k + jj')) {Q : PUnit → sProp 𝕄} (h : St X T d L q O W R (.firing k (jj' + 1)) a1 n ⊢ Q ⟨⟩) :
    St X T d L q O W R (.firing k jj) a1 n ⊢ WP d (Prog.lift (.enqueueDma (boxM off inb hs) (.here (slotM 0 jj' inb' hs' hq)) (.dma cc0_scratch3.sem) hw1 hw2 ht) : PT F L PUnit) Q := by
  subst hj
  exact lift0 (fire_core 0 (Nat.le_of_ble_eq_true hlt) hoff) (ret_of h)

theorem st_fire1 {a0 : BS} {n k jj jj' : ℕ} {off inb hs inb' hs' hq hw1 hw2 ht} (hj : jj = jj') (hlt : Nat.ble (jj' + 1) 32 = true)
    (hoff : off = srcOff T L (32 * k + jj')) {Q : PUnit → sProp 𝕄} (h : St X T d L q O W R a0 (.firing k (jj' + 1)) n ⊢ Q ⟨⟩) :
    St X T d L q O W R a0 (.firing k jj) n ⊢ WP d (Prog.lift (.enqueueDma (boxM off inb hs) (.here (slotM 1 jj' inb' hs' hq)) (.dma cc0_scratch4.sem) hw1 hw2 ht) : PT F L PUnit) Q := by
  subst hj
  exact lift1 (fire_core 1 (Nat.le_of_ble_eq_true hlt) hoff) (ret_of h)

theorem st_wait0 {a1 : BS} {n k u u' : ℕ} {s₀ : Shape} {e₀ : EltTy} {sp₀ : Space} {srcw : Memref sig .scVector sp₀ s₀ e₀} {inb' hs' hq hw1 hw2}
    (hu : u = u') (hlt : Nat.ble (u' + 1) 32 = true) {Q : PUnit → sProp 𝕄} (h : St X T d L q O W R (.waiting k (u' + 1)) a1 n ⊢ Q ⟨⟩) :
    St X T d L q O W R (.waiting k u) a1 n ⊢ WP d (Prog.lift (.waitDma2 cc0_scratch3.sem srcw (slotM 0 u' inb' hs' hq) hw1 hw2) : PT F L PUnit) Q := by
  subst hu
  unfold St at h ⊢
  iintro ⟨H0, H1, HF, HC⟩
  iapply (wait_core (b := 0) (u := u) (Nat.le_of_ble_eq_true hlt) (srcw := srcw) (dstw := slotM 0 u inb' hs' hq) (by rfl)) $$ [H0 HC]
  · isplitl [H0]; · iexact H0
    iexact HC
  iintro ⟨H0, HC⟩
  iapply (ret_of h)
  isplitl [H0]; · iexact H0
  isplitl [H1]; · iexact H1
  isplitl [HF]; · iexact HF
  iexact HC

theorem st_wait1 {a0 : BS} {n k u u' : ℕ} {s₀ : Shape} {e₀ : EltTy} {sp₀ : Space} {srcw : Memref sig .scVector sp₀ s₀ e₀} {inb' hs' hq hw1 hw2}
    (hu : u = u') (hlt : Nat.ble (u' + 1) 32 = true) {Q : PUnit → sProp 𝕄} (h : St X T d L q O W R a0 (.waiting k (u' + 1)) n ⊢ Q ⟨⟩) :
    St X T d L q O W R a0 (.waiting k u) n ⊢ WP d (Prog.lift (.waitDma2 cc0_scratch4.sem srcw (slotM 1 u' inb' hs' hq) hw1 hw2) : PT F L PUnit) Q := by
  subst hu
  unfold St at h ⊢
  iintro ⟨H0, H1, HF, HC⟩
  iapply (wait_core (b := 1) (u := u) (Nat.le_of_ble_eq_true hlt) (srcw := srcw) (dstw := slotM 1 u inb' hs' hq) (by rfl)) $$ [H1 HC]
  · isplitl [H1]; · iexact H1
    iexact HC
  iintro ⟨H1, HC⟩
  iapply (ret_of h)
  isplitl [H0]; · iexact H0
  isplitl [H1]; · iexact H1
  isplitl [HF]; · iexact HF
  iexact HC

theorem st_ld0 {a1 : BS} {n k jj r c : ℕ} {inb hl} {Q : _ → sProp 𝕄}
    (h : St X T d L q O W R (.ready k) a1 n ⊢ Q (slM.view.readAt (Elt F) (Rect.unit (s := S2x32x8x128) ![0, jj, r, c] S1x1x1x16.size inb).toLoadRect (chunkV X T L k))) :
    St X T d L q O W R (.ready k) a1 n ⊢ WP d (Prog.lift (.load slM (Rect.unit (s := S2x32x8x128) ![0, jj, r, c] S1x1x1x16.size inb).toLoadRect hl) : PT F L _) Q :=
  lift0 (ld_core 0) h

theorem st_ld1 {a0 : BS} {n k jj r c : ℕ} {inb hl} {Q : _ → sProp 𝕄}
    (h : St X T d L q O W R a0 (.ready k) n ⊢ Q (slM.view.readAt (Elt F) (Rect.unit (s := S2x32x8x128) ![1, jj, r, c] S1x1x1x16.size inb).toLoadRect (chunkV X T L k))) :
    St X T d L q O W R a0 (.ready k) n ⊢ WP d (Prog.lift (.load slM (Rect.unit (s := S2x32x8x128) ![1, jj, r, c] S1x1x1x16.size inb).toLoadRect hl) : PT F L _) Q :=
  lift1 (ld_core 1) h

/-! ## A chunk from idle to firing, from fired to waited, from waited to ready -/

instance dlv_storable (b : Fin 2) (k : ℕ) (t : Fin 32) : Storable (upEmb : UEmb _ 𝕄) (dlv X T d L q b k t) := by
  unfold dlv; infer_instance

theorem half_slots (b : ℕ) : halfSet b = Finset.univ.biUnion fun t : Fin 32 => slotSet b t.val := by
  ext i
  simp only [mem_halfSet, Finset.mem_biUnion, Finset.mem_univ, true_and, mem_slotSet]
  exact ⟨fun h => ⟨⟨(i 1).val, (i 1).isLt⟩, h, rfl⟩, fun ⟨_, h, _⟩ => h⟩

theorem slots_disj (b : ℕ) : ∀ t ∈ (Finset.univ : Finset (Fin 32)), ∀ t' ∈ (Finset.univ : Finset (Fin 32)), t ≠ t' → Disjoint (slotSet b t.val) (slotSet b t'.val) := by
  intro t _ t' _ h
  rw [Finset.disjoint_left]
  intro i hi hi'
  rw [mem_slotSet] at hi hi'
  exact h (Fin.ext (hi.2.symm.trans hi'.2))

theorem x_split (q : PosShare TreeShare) (S : Fin 32 → Finset S4096x8192.Idx) :
    (xAt X d L Finset.univ q : sProp 𝕄) ⊣⊢ iprop(xAt X d L Finset.univ (shareDrop q 32)
      ∗ bigSep Finset.univ (fun t : Fin 32 => xAt X d L (S t) (shareTokN q t.val))
      ∗ bigSep Finset.univ (fun t : Fin 32 => xAt X d L (Finset.univ \ S t) (shareTokN q t.val))) := by
  have e : bigSep Finset.univ (fun t : Fin 32 => (xAt X d L Finset.univ (shareTok q 32 t) : sProp 𝕄))
      = iprop(bigSep Finset.univ (fun t : Fin 32 => xAt X d L (S t) (shareTokN q t.val))
      ∗ bigSep Finset.univ (fun t : Fin 32 => xAt X d L (Finset.univ \ S t) (shareTokN q t.val))) := by
    refine Eq.trans ?_ (BI.bigSep_sep _ _ _)
    congr 1; funext t
    exact BI.equiv_iff.mp ⟨(pointsTo_split_subset (Finset.subset_univ _)).1, (pointsTo_split_subset (Finset.subset_univ _)).2⟩
  have h := pointsTo_toks (nD := nD) (τ := τ) (sig := sig) (ℓ := xM.view.loc (thr d L)) (S := Finset.univ) (f := X) (Ix := HIx 1) (Lvl := ℕ) (Name := ℕ) (U := UU) q 32
  rw [e] at h
  exact h

theorem idle_core (b : Fin 2) {k : ℕ} : bufSt X T d L q b (.idle k) ⊢ |={Set.univ}=> bufSt X T d L q b (.firing k 0) := by
  dsimp only [bufSt]
  iintro ⟨HV, HX, ⟨%f, HS⟩⟩
  imod (batch_alloc' EC (c := thr d L) (default : HIx 1) NS (dlv X T d L q b k) (E := Set.univ)) $$ HV with HB
  imodintro
  ihave HX' := (x_split (qB q b) fun t => srcSet T L (32 * k + t.val)).1 $$ HX
  icases HX' with ⟨HD, HS1, HS2⟩
  isplitl [HB]; · iexact HB
  unfold keep
  isplitl [HD HS2]
  · isplitl [HD]; · iexact HD
    iexact HS2
  rw [pending_zero]
  iapply (show iprop(bigSep Finset.univ (fun t : Fin 32 => xAt X d L (srcSet T L (32 * k + t.val)) (shareTokN (qB q b) t.val))
      ∗ bigSep Finset.univ (fun t : Fin 32 => iprop(∃ f, slAt d L (slotSet b.val t.val) f))) ⊢ _ from Entails.of_eq (BI.bigSep_sep _ _ _).symm)
  isplitl [HS1]; · iexact HS1
  ihave HS' := (show (slAt d L (halfSet b.val) f : sProp 𝕄) ⊢ bigSep Finset.univ fun t : Fin 32 => slAt d L (slotSet b.val t.val) f
    from Entails.of_eq (by rw [slAt, half_slots, pointsTo_biUnion _ _ (slots_disj _)])) $$ HS
  iapply (show bigSep Finset.univ (fun t : Fin 32 => slAt d L (slotSet b.val t.val) f) ⊢ bigSep Finset.univ fun t : Fin 32 => iprop(∃ f, slAt d L (slotSet b.val t.val) f : sProp 𝕄)
    from BI.bigSep_mono fun t _ => show (slAt d L (slotSet b.val t.val) f : sProp 𝕄) ⊢ iprop(∃ f, slAt d L (slotSet b.val t.val) f) by
      iintro H; iexists f; iexact H) $$ HS'

theorem full_core (b : Fin 2) {k : ℕ} : bufSt X T d L q b (.firing k 32) ⊢ bufSt X T d L q b (.waiting k 0) := by
  dsimp only [bufSt]
  rw [Nat.zero_mul]
  iintro ⟨HB, HK, -⟩
  isplitl [HB]; · iexact HB
  iexact HK

theorem collect_core (b : Fin 2) {k : ℕ} : bufSt X T d L q b (.waiting k 32) ⊢ |={Set.univ}=> bufSt X T d L q b (.ready k) := by
  dsimp only [bufSt]
  rw [Nat.mul_comm 32 NS]
  iintro ⟨HB, HK⟩
  imod (batch_collect' EC (thr d L) NS_pos) $$ HB with ⟨HD, HV⟩
  imodintro
  isplitl [HV]; · iexact HV
  ihave HD' := (show bigSep Finset.univ (dlv X T d L q b k) ⊢ iprop(bigSep Finset.univ (fun t : Fin 32 => slAt d L (slotSet b.val t.val) (chunkV X T L k))
      ∗ bigSep Finset.univ (fun t : Fin 32 => xAt X d L (srcSet T L (32 * k + t.val)) (shareTokN (qB q b) t.val)) : sProp 𝕄)
    from Entails.of_eq (BI.bigSep_sep _ _ _)) $$ HD
  icases HD' with ⟨HS, HX⟩
  unfold keep
  icases HK with ⟨HD, HX2⟩
  isplitl [HX HX2 HD]
  · iapply (x_split (qB q b) fun t => srcSet T L (32 * k + t.val)).2
    isplitl [HD]; · iexact HD
    isplitl [HX]; · iexact HX
    iexact HX2
  iapply (show bigSep Finset.univ (fun t : Fin 32 => slAt d L (slotSet b.val t.val) (chunkV X T L k)) ⊢ (slAt d L (halfSet b.val) (chunkV X T L k) : sProp 𝕄)
    from Entails.of_eq (by rw [slAt, half_slots, pointsTo_biUnion _ _ (slots_disj _)])) $$ HS

theorem again_core (b : Fin 2) {k k' : ℕ} : bufSt X T d L q b (.ready k) ⊢ bufSt X T d L q b (.idle k') := by
  dsimp only [bufSt]
  iintro ⟨HV, HX, HS⟩
  isplitl [HV]; · iexact HV
  isplitl [HX]; · iexact HX
  iexists _
  iexact HS

theorem go0 {a a' a1 : BS} {n : ℕ} {α : Type} {p : PT F L α} {Q : α → sProp 𝕄} (core : bufSt X T d L q 0 a ⊢ |={Set.univ}=> bufSt X T d L q 0 a')
    (h : St X T d L q O W R a' a1 n ⊢ WP d p Q) : St X T d L q O W R a a1 n ⊢ WP d p Q := by
  unfold St at h ⊢
  iintro ⟨H0, H1, HF, HC⟩
  imod core $$ H0 with H0
  iapply h
  isplitl [H0]; · iexact H0
  isplitl [H1]; · iexact H1
  isplitl [HF]; · iexact HF
  iexact HC

theorem go1 {a0 a a' : BS} {n : ℕ} {α : Type} {p : PT F L α} {Q : α → sProp 𝕄} (core : bufSt X T d L q 1 a ⊢ |={Set.univ}=> bufSt X T d L q 1 a')
    (h : St X T d L q O W R a0 a' n ⊢ WP d p Q) : St X T d L q O W R a0 a n ⊢ WP d p Q := by
  unfold St at h ⊢
  iintro ⟨H0, H1, HF, HC⟩
  imod core $$ H1 with H1
  iapply h
  isplitl [H0]; · iexact H0
  isplitl [H1]; · iexact H1
  isplitl [HF]; · iexact HF
  iexact HC

end Cert.Proof.KernelIdeal
-- ==== Proof.KernelIdeal.ScEnds.lean ====
module

public import proofs.«01_k».proof.Proof.KernelIdeal.ScSteps

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

/-! # The task's first copy and its last

The targets come in by one copy and its wait, the rows go out by one copy and its wait. -/

variable {F : FTy → Type} [FloatOps F] [Named F]

local notation "𝕄" => MT nD τ sig (HIx 1) (Elt F) ℕ UU ℕ

variable {X : S4096x8192.Idx → Elt F .f32} {T : S4096.Idx → BitVec 32} {d : Dev nD} {L : grid0.Coords}
variable {q : PosShare TreeShare} {R : sProp (MT nD τ sig (HIx 1) (Elt F) ℕ UU ℕ)} {O : CellTallies nD τ sig (HIx 1)} {W : Waits sig (HIx 1)}

/-- The task's targets among all. -/
def blkT (L : grid0.Coords) : Finset S4096.Idx := Finset.univ.filter fun i => base L ≤ (i 0).val ∧ (i 0).val < base L + 128
/-- The task's rows of the result. -/
def blkO (L : grid0.Coords) : Finset S4096x128.Idx := Finset.univ.filter fun i => base L ≤ (i 0).val ∧ (i 0).val < base L + 128
/-- What the call leaves: of every row the 128 columns around its target. -/
def gath (X : S4096x8192.Idx → Elt F .f32) (T : S4096.Idx → BitVec 32) : S4096x128.Idx → Elt F .f32 := fun i =>
  X (ix2 (i 0).val ((T (ix1 (i 0).val)).toNat / 128 * 128 + (i 1).val))

abbrev tSl (L : grid0.Coords) : Memref sig .scVector .hbm S128 .i32 := tM.slice (Rect.unit (s := S4096) (k0_off1 L) S128.size (k0_off1_inb L)) (fun _ => rfl)
abbrev oSl (L : grid0.Coords) : Memref sig .scVector .hbm S128x128 .f32 :=
  oM.slice (Rect.unit (s := S4096x128) (k0_off257 L) S128x128.size (k0_off257_inb L)) (fun _ => rfl)

theorem off1_base : k0_off1 L 0 = base L := by
  rw [k0_off1_eq]; show 256 * (L 1).val + 128 * (L 0).val = _; unfold base; omega
theorem off257_base : k0_off257 L 0 = base L := by
  rw [k0_off257_eq]; show 256 * (L 1).val + 128 * (L 0).val = _; unfold base; omega
theorem off257_one : k0_off257 L 1 = 0 := by
  rw [k0_off257_eq]; rfl

theorem tSl_set : (tSl L).view.set = blkT L := by
  show ((View.whole main_v1_scv).slice _).set = _
  rw [View.set_slice_whole]
  ext i
  rw [Rect.mem_set_unit]
  simp only [blkT, Finset.mem_filter, Finset.mem_univ, true_and]
  rw [← off1_base]
  exact Fin.forall_fin_one

theorem oSl_set : (oSl L).view.set = blkO L := by
  show ((View.whole main_v3_scv).slice _).set = _
  rw [View.set_slice_whole]
  ext i
  rw [Rect.mem_set_unit]
  simp only [blkO, Finset.mem_filter, Finset.mem_univ, true_and]
  have h1 : (i 1).val < 128 := (i 1).isLt
  constructor
  · intro h
    have h0 : k0_off257 L 0 ≤ (i 0).val ∧ (i 0).val < k0_off257 L 0 + 128 := h 0
    rwa [off257_base] at h0
  · intro h a
    match a with
    | 0 => show k0_off257 L 0 ≤ (i 0).val ∧ (i 0).val < k0_off257 L 0 + 128; rw [off257_base]; exact h
    | 1 => show k0_off257 L 1 ≤ (i 1).val ∧ (i 1).val < k0_off257 L 1 + 128; rw [off257_one]; omega

theorem tg_lands (f : S128.Idx → Elt F .i32) :
    tgM.view.write (Elt F) f (ReadAs.same.apply ((tSl L).view.read (Elt F) T)) Finset.univ = tgV (F := F) T L := by
  rw [show tgM.view.write (Elt F) f (ReadAs.same.apply ((tSl L).view.read (Elt F) T)) Finset.univ
    = ReadAs.same.apply ((tSl L).view.read (Elt F) T) from View.write_whole_univ _ _ _]
  funext x
  show T _ = T _
  congr 1
  funext a
  apply Fin.ext
  have hb := base_lt L
  have hx : (x 0).val < 128 := (x 0).isLt
  match a with
  | 0 =>
    show k0_off1 L 0 + 1 * (x 0).val = (base L + (x 0).val) % 4096
    rw [off1_base, Nat.mod_eq_of_lt] <;> omega

theorem rows_land (hT : ∀ i, (T i).toNat < 8192) (g : S128x128.Idx → Elt F .f32) (hg : ∀ i, g i = rowV X T L i) (f : S4096x128.Idx → Elt F .f32) (i : S4096x128.Idx) (hi : i ∈ blkO L) :
    (oSl L).view.write (Elt F) f (ReadAs.same.apply (rwM.view.read (Elt F) g)) Finset.univ i = gath X T i := by
  rw [← oSl_set] at hi
  obtain ⟨x, -, rfl⟩ := Finset.mem_map.1 hi
  rw [View.write_emb_of_mem (h := Finset.mem_univ _)]
  show g x = _
  rw [hg]
  have e0 : (((oSl L).view.emb x) 0).val = base L + (x 0).val := by
    show k0_off257 L 0 + 1 * (x 0).val = _; rw [off257_base]; omega
  have e1 : (((oSl L).view.emb x) 1).val = (x 1).val := by
    show k0_off257 L 1 + 1 * (x 1).val = _; rw [off257_one]; omega
  unfold rowV gath tw
  rw [e0, e1]

abbrev tAt (T : S4096.Idx → BitVec 32) (d : Dev nD) (L : grid0.Coords) : sProp 𝕄 :=
  tM.view.loc (thr d L) ↦[blkT L]{fullShare} (T : Buf (Elt F) (tM.view.loc (thr d L)))
abbrev oAt (d : Dev nD) (L : grid0.Coords) (f : S4096x128.Idx → Elt F .f32) : sProp 𝕄 := oM.view.loc (thr d L) ↦[blkO L]{fullShare} f

variable (X T d L q R O W)

/-- Before the first copy: the targets' scratch at anything. -/
def Beg : sProp 𝕄 :=
  iprop(tAt (F := F) T d L ∗ (∃ f : S128.Idx → Elt F .i32, tgM.view.loc (thr d L) ↦{fullShare} f) ∗ semVal (thr d L, .dma cc0_scoped0.sem) 0
    ∗ bufSt X T d L q 0 (.idle 0) ∗ bufSt X T d L q 1 (.idle 1) ∗ R ∗ MayWaits (thr d L) (default : HIx 1) O ∗ rowsSt X T d L 0 ∗ owesSt d L O W)
/-- While it flies. -/
def Beg' : sProp 𝕄 :=
  iprop(Flight EC (thr d L) (.dma cc0_scoped0.sem) (default : HIx 1) (tgM.view.dmaCredit)
      iprop((tgM.view.loc (thr d L) ↦{fullShare} tgV (F := F) T L) ∗ tAt (F := F) T d L)
    ∗ bufSt X T d L q 0 (.idle 0) ∗ bufSt X T d L q 1 (.idle 1) ∗ R ∗ MayWaits (thr d L) (default : HIx 1) O ∗ rowsSt X T d L 0 ∗ owesSt d L O W)

variable {X T d L q R O W}

theorem st_beg {hw1 hw2 ht} {Q : PUnit → sProp 𝕄} (h : Beg' X T d L q R O W ⊢ Q ⟨⟩) :
    Beg X T d L q R O W ⊢ WP d (Prog.lift (.enqueueDma (tSl L) (.here tgM) (.dma cc0_scoped0.sem) hw1 hw2 ht) : PT F L PUnit) Q := by
  unfold Beg
  iintro ⟨HT, ⟨%f, HG⟩, HV, HF⟩
  iapply (wp_dmaLocal EC 𝒱₀ (thr d L) none (defs := defs₀ (F := F)) (src := tSl L) (dst := tgM) (fs := T) (fd := f) (Sd := Finset.univ) (q := fullShare)
    (default : HIx 1) tgM.view.dmaCredit (by rfl) (View.dmaCredit_pos _ (by decide)) (Finset.subset_univ _)) $$ [HT HG HV]
  · isplitl [HT]
    · rw [tSl_set]; iexact HT
    isplitl [HG]; · iexact HG
    iexact HV
  iintro HD
  iapply (ret_of h)
  unfold Beg'
  rw [tg_lands, tSl_set]
  isplitl [HD]; · iexact HD
  iexact HF

theorem st_beg' {hw1 hw2} {Q : PUnit → sProp 𝕄}
    (h : St X T d L q O W iprop(tAt (F := F) T d L ∗ semVal (thr d L, .dma cc0_scoped0.sem) 0 ∗ R) (.idle 0) (.idle 1) 0 ⊢ Q ⟨⟩) :
    Beg' X T d L q R O W ⊢ WP d (Prog.lift (.waitDma2 cc0_scoped0.sem (tSl L) tgM hw1 hw2) : PT F L PUnit) Q := by
  unfold Beg' owesSt
  iintro ⟨HD, H0, H1, HR, #HM, HF, ⟨%W', %hW', HO⟩⟩
  ihave HMW := (show (MayWaits (thr d L) (default : HIx 1) O : sProp 𝕄) ⊢ MayWait (thr d L) (.dma cc0_scoped0.sem) default O from MayWaits.elim _) $$ HM
  iapply (wp_waitLocalO EC 𝒱₀ (thr d L) none (defs := defs₀ (F := F)) (srcw := tSl L) (dstw := tgM) (default : HIx 1) (N := tgM.view.dmaCredit) rfl
    (O := O) (W := W')) $$ [HD HO HMW]
  · isplitl [HD]; · iexact HD
    isplitl [HO]; · iexact HO
    iexact HMW
  iintro ⟨⟨HG, HT⟩, HV, HO⟩
  iapply (ret_of h)
  unfold St Com owesSt
  isplitl [H0]; · iexact H0
  isplitl [H1]; · iexact H1
  isplitl [HR HT HV]
  · isplitl [HT]; · iexact HT
    isplitl [HV]; · iexact HV
    iexact HR
  isplitr; · iexact HM
  isplitl [HG]; · iexact HG
  isplitl [HF]; · iexact HF
  iexists insert (SemLoc.dma cc0_scoped0.sem, default) W'
  isplitr
  · ipureintro
    intro p hp
    rcases Finset.mem_insert.1 hp with rfl | hp
    · exact .inr rfl
    · exact hW' p hp
  iexact HO

variable (X T d L q R O W)

/-- After the last copy's start. -/
def End' (a0 a1 : BS) : sProp 𝕄 :=
  iprop(∃ g : S128x128.Idx → Elt F .f32, Flight EC (thr d L) (.dma cc0_scoped1.sem) (default : HIx 1) (oSl L).view.dmaCredit
      iprop(oAt d L (gath X T) ∗ (rwM.view.loc (thr d L) ↦{fullShare} g))
    ∗ bufSt X T d L q 0 a0 ∗ bufSt X T d L q 1 a1 ∗ R ∗ MayWaits (thr d L) (default : HIx 1) O
    ∗ (tgM.view.loc (thr d L) ↦{fullShare} tgV (F := F) T L) ∗ owesSt d L O W)
/-- After it has landed. -/
def End (a0 a1 : BS) : sProp 𝕄 :=
  iprop(oAt d L (gath X T) ∗ (∃ f : S128x128.Idx → Elt F .f32, rwM.view.loc (thr d L) ↦{fullShare} f) ∗ semVal (thr d L, .dma cc0_scoped1.sem) 0
    ∗ bufSt X T d L q 0 a0 ∗ bufSt X T d L q 1 a1 ∗ R
    ∗ (tgM.view.loc (thr d L) ↦{fullShare} tgV (F := F) T L) ∗ owesSt d L O W)

variable {X T d L q R O W}

theorem st_end (hT : ∀ i, (T i).toNat < 8192) {a0 a1 : BS} {n : ℕ} (hn : n = 1024) {hw1 hw2 ht} {Q : PUnit → sProp 𝕄} (h : End' X T d L q R O W a0 a1 ⊢ Q ⟨⟩) :
    St X T d L q O W iprop((∃ f, oAt d L f) ∗ semVal (thr d L, .dma cc0_scoped1.sem) 0 ∗ R) a0 a1 n
      ⊢ WP d (Prog.lift (.enqueueDma rwM (.here (oSl L)) (.dma cc0_scoped1.sem) hw1 hw2 ht) : PT F L PUnit) Q := by
  unfold St Com rowsSt
  iintro ⟨H0, H1, ⟨⟨%f, HO⟩, HV, HR⟩, HM, HT, ⟨%g, %hg, HG⟩, HW⟩
  have hg' : ∀ i, g i = rowV X T L i := fun i => hg i (by
    have h0 : (i 0).val < 128 := (i 0).isLt
    have h1 : (i 1).val < 128 := (i 1).isLt
    omega)
  have hrs : rwM.view.set = Finset.univ := View.set_whole _
  iapply (wp_dmaLocal EC 𝒱₀ (thr d L) none (defs := defs₀ (F := F)) (src := rwM) (dst := oSl L) (fs := g) (fd := f) (Sd := blkO L) (q := fullShare)
    (default : HIx 1) (oSl L).view.dmaCredit (by rfl) (View.dmaCredit_pos _ (by decide)) (subset_of_eq oSl_set)) $$ [HO HG HV]
  · isplitl [HG]
    · rw [hrs]; iexact HG
    isplitl [HO]; · iexact HO
    iexact HV
  iintro HD
  iapply (ret_of h)
  unfold End'
  iexists g
  isplitl [HD]
  · iapply (show Flight EC (thr d L) (.dma cc0_scoped1.sem) (default : HIx 1) (oSl L).view.dmaCredit
        iprop(oAt d L ((oSl L).view.write (Elt F) f (ReadAs.same.apply (rwM.view.read (Elt F) g)) Finset.univ) ∗ (rwM.view.loc (thr d L) ↦[rwM.view.set]{fullShare} g))
      ⊢ Flight EC (thr d L) (.dma cc0_scoped1.sem) (default : HIx 1) (oSl L).view.dmaCredit
        iprop(oAt d L (gath X T) ∗ (rwM.view.loc (thr d L) ↦{fullShare} g)) from
      Entails.of_eq (by rw [hrs, oAt, pointsTo_congr fun i hi => rows_land hT g hg' f i hi])) $$ HD
  isplitl [H0]; · iexact H0
  isplitl [H1]; · iexact H1
  isplitl [HR]; · iexact HR
  isplitl [HM]; · iexact HM
  isplitl [HT]; · iexact HT
  iexact HW

theorem st_end' {a0 a1 : BS} {hw1 hw2} {Q : PUnit → sProp 𝕄} (h : End X T d L q R O W a0 a1 ⊢ Q ⟨⟩) :
    End' X T d L q R O W a0 a1 ⊢ WP d (Prog.lift (.waitDma2 cc0_scoped1.sem rwM (oSl L) hw1 hw2) : PT F L PUnit) Q := by
  unfold End' owesSt
  iintro ⟨%g, HD, H0, H1, HR, HM, HF, ⟨%W', %hW', HO⟩⟩
  iapply (wp_waitLocalO EC 𝒱₀ (thr d L) none (defs := defs₀ (F := F)) (srcw := rwM) (dstw := oSl L) (default : HIx 1) (N := (oSl L).view.dmaCredit) rfl
    (O := O) (W := W')) $$ [HD HO HM]
  · isplitl [HD]; · iexact HD
    isplitl [HO]; · iexact HO
    iapply (show (MayWaits (thr d L) (default : HIx 1) O : sProp 𝕄) ⊢ MayWait (thr d L) (.dma cc0_scoped1.sem) default O from MayWaits.elim _) $$ HM
  iintro ⟨⟨HG, HT⟩, HV, HO⟩
  iapply (ret_of h)
  unfold End owesSt
  isplitl [HG]; · iexact HG
  isplitl [HT]; · iexists g; iexact HT
  isplitl [HV]; · iexact HV
  isplitl [H0]; · iexact H0
  isplitl [H1]; · iexact H1
  isplitl [HR]; · iexact HR
  isplitl [HF]; · iexact HF
  iexists insert (SemLoc.dma cc0_scoped1.sem, default) W'
  isplitr
  · ipureintro
    intro p hp
    rcases Finset.mem_insert.1 hp with rfl | hp
    · exact .inr rfl
    · exact hW' p hp
  iexact HO

/-! ## From one kind of operation to the next -/

theorem st_frame {R' : sProp 𝕄} {a0 a1 : BS} {n : ℕ} {P : sProp 𝕄} (hR : R ⊢ R') (h : St X T d L q O W R' a0 a1 n ⊢ P) :
    St X T d L q O W R a0 a1 n ⊢ P := by
  refine BIBase.Entails.trans ?_ h
  unfold St
  iintro ⟨H0, H1, HF, HC⟩
  isplitl [H0]; · iexact H0
  isplitl [H1]; · iexact H1
  isplitl [HF]; · iapply hR $$ HF
  iexact HC

theorem beg_frame :
    iprop(tAt (F := F) T d L ∗ semVal (thr d L, .dma cc0_scoped0.sem) 0 ∗ (∃ f, oAt d L f) ∗ semVal (thr d L, .dma cc0_scoped1.sem) 0)
      ⊢ (iprop((∃ f, oAt d L f) ∗ semVal (thr d L, .dma cc0_scoped1.sem) 0 ∗ tAt (F := F) T d L ∗ semVal (thr d L, .dma cc0_scoped0.sem) 0) : sProp 𝕄) := by
  iintro ⟨H0, H1, H2, H3⟩
  isplitl [H2]; · iexact H2
  isplitl [H3]; · iexact H3
  isplitl [H0]; · iexact H0
  iexact H1

theorem upd (P : sProp 𝕄) : P ⊢ |={Set.univ}=> P := fupd_intro

/-- The first copy of a chunk finds its half of the slots idle, -/
theorem st_open0 {a1 : BS} {n k : ℕ} {s₀ : Shape} {e₀ : EltTy} {sp₀ : Space} {src : Memref sig .scVector sp₀ s₀ e₀}
    {sp₁ : Space} {tgt : DmaTarget nD τ sig (pV L) sp₁ s₀ e₀} {hw1 hw2 ht} {Q : PUnit → sProp 𝕄}
    (h : St X T d L q O W R (.firing k 0) a1 n ⊢ WP d (Prog.lift (.enqueueDma src tgt (.dma cc0_scratch3.sem) hw1 hw2 ht) : PT F L PUnit) Q) :
    St X T d L q O W R (.idle k) a1 n ⊢ WP d (Prog.lift (.enqueueDma src tgt (.dma cc0_scratch3.sem) hw1 hw2 ht) : PT F L PUnit) Q :=
  go0 (idle_core 0) h
theorem st_open1 {a0 : BS} {n k : ℕ} {s₀ : Shape} {e₀ : EltTy} {sp₀ : Space} {src : Memref sig .scVector sp₀ s₀ e₀}
    {sp₁ : Space} {tgt : DmaTarget nD τ sig (pV L) sp₁ s₀ e₀} {hw1 hw2 ht} {Q : PUnit → sProp 𝕄}
    (h : St X T d L q O W R a0 (.firing k 0) n ⊢ WP d (Prog.lift (.enqueueDma src tgt (.dma cc0_scratch4.sem) hw1 hw2 ht) : PT F L PUnit) Q) :
    St X T d L q O W R a0 (.idle k) n ⊢ WP d (Prog.lift (.enqueueDma src tgt (.dma cc0_scratch4.sem) hw1 hw2 ht) : PT F L PUnit) Q :=
  go1 (idle_core 1) h
/-- or done with the chunk before. -/
theorem st_again0 {a1 : BS} {n : ℕ} {s₀ : Shape} {e₀ : EltTy} {sp₀ : Space} {src : Memref sig .scVector sp₀ s₀ e₀}
    {sp₁ : Space} {tgt : DmaTarget nD τ sig (pV L) sp₁ s₀ e₀} {hw1 hw2 ht} {Q : PUnit → sProp 𝕄}
    (h : St X T d L q O W R (.firing 2 0) a1 n ⊢ WP d (Prog.lift (.enqueueDma src tgt (.dma cc0_scratch3.sem) hw1 hw2 ht) : PT F L PUnit) Q) :
    St X T d L q O W R (.ready 0) a1 n ⊢ WP d (Prog.lift (.enqueueDma src tgt (.dma cc0_scratch3.sem) hw1 hw2 ht) : PT F L PUnit) Q :=
  go0 ((again_core 0).trans (idle_core 0)) h
theorem st_again1 {a0 : BS} {n : ℕ} {s₀ : Shape} {e₀ : EltTy} {sp₀ : Space} {src : Memref sig .scVector sp₀ s₀ e₀}
    {sp₁ : Space} {tgt : DmaTarget nD τ sig (pV L) sp₁ s₀ e₀} {hw1 hw2 ht} {Q : PUnit → sProp 𝕄}
    (h : St X T d L q O W R a0 (.firing 3 0) n ⊢ WP d (Prog.lift (.enqueueDma src tgt (.dma cc0_scratch4.sem) hw1 hw2 ht) : PT F L PUnit) Q) :
    St X T d L q O W R a0 (.ready 1) n ⊢ WP d (Prog.lift (.enqueueDma src tgt (.dma cc0_scratch4.sem) hw1 hw2 ht) : PT F L PUnit) Q :=
  go1 ((again_core 1).trans (idle_core 1)) h
/-- The first wait of a chunk finds all its copies started, -/
theorem st_full0 {a1 : BS} {n k : ℕ} {s₀ s₁ : Shape} {e₀ e₁ : EltTy} {sp₀ sp₁ : Space} {srcw : Memref sig .scVector sp₀ s₀ e₀}
    {dstw : Memref sig .scVector sp₁ s₁ e₁} {hw1 hw2} {Q : PUnit → sProp 𝕄}
    (h : St X T d L q O W R (.waiting k 0) a1 n ⊢ WP d (Prog.lift (.waitDma2 cc0_scratch3.sem srcw dstw hw1 hw2) : PT F L PUnit) Q) :
    St X T d L q O W R (.firing k (31 + 1)) a1 n ⊢ WP d (Prog.lift (.waitDma2 cc0_scratch3.sem srcw dstw hw1 hw2) : PT F L PUnit) Q :=
  go0 ((full_core 0).trans (upd _)) h
theorem st_full1 {a0 : BS} {n k : ℕ} {s₀ s₁ : Shape} {e₀ e₁ : EltTy} {sp₀ sp₁ : Space} {srcw : Memref sig .scVector sp₀ s₀ e₀}
    {dstw : Memref sig .scVector sp₁ s₁ e₁} {hw1 hw2} {Q : PUnit → sProp 𝕄}
    (h : St X T d L q O W R a0 (.waiting k 0) n ⊢ WP d (Prog.lift (.waitDma2 cc0_scratch4.sem srcw dstw hw1 hw2) : PT F L PUnit) Q) :
    St X T d L q O W R a0 (.firing k (31 + 1)) n ⊢ WP d (Prog.lift (.waitDma2 cc0_scratch4.sem srcw dstw hw1 hw2) : PT F L PUnit) Q :=
  go1 ((full_core 1).trans (upd _)) h
/-- its last wait leaves it ready. -/
theorem st_coll0 {a1 : BS} {n k : ℕ} {α : Type} {p : PT F L α} {Q : α → sProp 𝕄} (h : St X T d L q O W R (.ready k) a1 n ⊢ WP d p Q) :
    St X T d L q O W R (.waiting k (31 + 1)) a1 n ⊢ WP d p Q := go0 (collect_core 0) h
theorem st_coll1 {a0 : BS} {n k : ℕ} {α : Type} {p : PT F L α} {Q : α → sProp 𝕄} (h : St X T d L q O W R a0 (.ready k) n ⊢ WP d p Q) :
    St X T d L q O W R a0 (.waiting k (31 + 1)) n ⊢ WP d p Q := go1 (collect_core 1) h

/-- A run of steps cut off from those after it. -/
theorem cut {P G : Prop} (h : P → G) (p : P) : G := h p

end Cert.Proof.KernelIdeal
-- ==== Proof.KernelIdeal.ScTile.lean ====
module

public import proofs.«01_k».proof.Proof.KernelIdeal.ScEnds

@[expose] public section

noncomputable section

namespace Cert.Proof.KernelIdeal

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers

/-! # The task as the launch wants it

From the task's pieces of the operands and the subcore's own scratch, to its pieces of the results and the scratch back. -/

variable {F : FTy → Type} [FloatOps F] [Named F]

local notation "𝕄" => MT nD τ sig (HIx 1) (Elt F) ℕ UU ℕ

variable (X : S4096x8192.Idx → Elt F .f32) (T : S4096.Idx → BitVec 32) (d : Dev nD) (L : grid0.Coords)

/-- The task's number among the 32. -/
def wid (L : grid0.Coords) : ℕ := (L 1).val * 2 + (L 0).val
/-- The task's share of the operand every task reads. -/
def shT (L : grid0.Coords) : PosShare TreeShare := shareTokN fullShare (wid L)

/-- What a task takes, -/
def goP : sProp 𝕄 := iprop(tAt (F := F) T d L ∗ xAt X d L Finset.univ (shT L) ∗ ∃ f, oAt d L f)
/-- and what it brings back. -/
def tdP : sProp 𝕄 := iprop(tAt (F := F) T d L ∗ xAt X d L Finset.univ (shT L) ∗ oAt d L (gath X T))

instance goP_storable : BI.Storable (upEmb : UEmb _ 𝕄) (goP X T d L) := by unfold goP; infer_instance
instance tdP_storable : BI.Storable (upEmb : UEmb _ 𝕄) (tdP X T d L) := by unfold tdP; infer_instance

abbrev cell (s : DmaSem sig) : GSem nD τ sig := (V d (cV L) (jV L), .dma s)

theorem sems_own :
    (ownSems0 (V d (cV L) (jV L)) : sProp 𝕄)
      = iprop(semVal (cell d L cc0_scratch3.sem) 0 ∗ semVal (cell d L cc0_scratch4.sem) 0 ∗ semVal (cell d L cc0_scoped0.sem) 0 ∗ semVal (cell d L cc0_scoped1.sem) 0
          ∗ bigSep (((((ownCells (V d (cV L) (jV L))).erase (cell d L cc0_scratch3.sem)).erase (cell d L cc0_scratch4.sem)).erase (cell d L cc0_scoped0.sem)).erase (cell d L cc0_scoped1.sem))
              fun g => semVal g 0) := by
  have own : ∀ s : DmaSem sig, (SemLoc.dma s : SemLoc sig).isScoped .scVector = true → cell d L s ∈ ownCells (V d (cV L) (jV L)) :=
    fun s h => mem_ownCells.mpr ⟨rfl, h⟩
  have ne : ∀ s s' : DmaSem sig, s ≠ s' → cell d L s ≠ cell d L s' := fun s s' h e => h (SemLoc.dma.inj (Prod.mk.inj e).2)
  unfold SparseCore.Cfg.ownSems0
  rw [SparseCore.bigSep_erase' (own cc0_scratch3.sem (by decide)),
    SparseCore.bigSep_erase' (Finset.mem_erase.mpr ⟨ne cc0_scratch4.sem cc0_scratch3.sem (by decide), own _ (by decide)⟩),
    SparseCore.bigSep_erase' (Finset.mem_erase.mpr ⟨ne cc0_scoped0.sem cc0_scratch4.sem (by decide),
      Finset.mem_erase.mpr ⟨ne cc0_scoped0.sem cc0_scratch3.sem (by decide), own _ (by decide)⟩⟩),
    SparseCore.bigSep_erase' (Finset.mem_erase.mpr ⟨ne cc0_scoped1.sem cc0_scoped0.sem (by decide),
      Finset.mem_erase.mpr ⟨ne cc0_scoped1.sem cc0_scratch4.sem (by decide), Finset.mem_erase.mpr ⟨ne cc0_scoped1.sem cc0_scratch3.sem (by decide), own _ (by decide)⟩⟩⟩)]

abbrev scr (b : Ref sig .scVector) : DevRef τ sig := (Proc.scVector (cV L) (jV L)).devRef b

theorem bufs_own :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (scr L cc0_scratch0)).erase (scr L cc0_scratch1)).erase (scr L cc0_scratch2))
              fun b => iprop(∃ f, ((d, b) : Loc nD τ sig) ↦{fullShare} f)) := by
  have own : ∀ b : Ref sig .scVector, (scr L b).owner = (scr L cc0_scratch0).owner → scr L b ∈ ownRefs (τ := τ) (.scVector (cV L) (jV L)) :=
    fun b h => SparseCore.Cfg.mem_ownRefs_of_owner (p := Proc.scVector (cV L) (jV L)) (b := scr L b) h
  have ne : ∀ b b' : Ref sig .scVector, b ≠ b' → scr L b ≠ scr L b' := fun b b' h e => h (Proc.devRef_injective _ e)
  unfold SparseCore.Cfg.ownBufs
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide),
      Finset.mem_erase.mpr ⟨ne cc0_scratch2 cc0_scratch0 (by decide), own cc0_scratch2 rfl⟩⟩)]

theorem halves : (Finset.univ : Finset S2x32x8x128.Idx) = halfSet 0 ∪ halfSet 1 := by
  ext i
  have h : (i 0).val < 2 := (i 0).isLt
  simp only [Finset.mem_univ, Finset.mem_union, mem_halfSet, true_iff]
  omega
theorem halves_disj : Disjoint (halfSet 0) (halfSet 1) := by
  rw [Finset.disjoint_left]
  intro i h0 h1
  rw [mem_halfSet] at h0 h1
  omega

theorem slots_halve (f : S2x32x8x128.Idx → Elt F .f32) :
    (slAt d L Finset.univ f : sProp 𝕄) ⊢ iprop(slAt d L (halfSet 0) f ∗ slAt d L (halfSet 1) f) := by
  unfold slAt
  rw [halves]
  exact (pointsTo_union halves_disj).1
theorem slots_whole (f g : S2x32x8x128.Idx → Elt F .f32) :
    iprop(slAt d L (halfSet 0) f ∗ slAt d L (halfSet 1) g) ⊢ (iprop(∃ f, slAt d L Finset.univ f) : sProp 𝕄) := by
  iintro H
  iexists (halfSet 1).piecewise g f
  iapply (show (iprop(slAt d L (halfSet 0) f ∗ slAt d L (halfSet 1) g) : sProp 𝕄) ⊢ slAt d L Finset.univ ((halfSet 1).piecewise g f) from by
    unfold slAt
    rw [halves]
    exact pointsTo_join halves_disj) $$ H

/-- What the task never touches. -/
def Rest (d : Dev nD) (L : grid0.Coords) : sProp 𝕄 :=
  iprop((bigSep ((((ownRefs (τ := τ) (.scVector (cV L) (jV L))).erase (scr L cc0_scratch0)).erase (scr L cc0_scratch1)).erase (scr L cc0_scratch2))
      fun b => iprop(∃ f, ((d, b) : Loc nD τ sig) ↦{fullShare} f))
    ∗ bigSep (((((ownCells (V d (cV L) (jV L))).erase (cell d L cc0_scratch3.sem)).erase (cell d L cc0_scratch4.sem)).erase (cell d L cc0_scoped0.sem)).erase (cell d L cc0_scoped1.sem))
      fun g => semVal g 0)

/-- Before and after the task, in the pieces the walk goes by. -/
abbrev BegT (O : CellTallies nD τ sig (HIx 1)) (W : Waits sig (HIx 1)) : sProp 𝕄 :=
  Beg X T d L (shT L) iprop((∃ f, oAt d L f) ∗ semVal (thr d L, .dma cc0_scoped1.sem) 0) O W
abbrev EndT (O : CellTallies nD τ sig (HIx 1)) (W : Waits sig (HIx 1)) : sProp 𝕄 :=
  End X T d L (shT L) iprop(tAt (F := F) T d L ∗ semVal (thr d L, .dma cc0_scoped0.sem) 0) O W (.ready 2) (.ready 3)

theorem tile_in (hF : (K (F := F)).Facts) (O : CellTallies nD τ sig (HIx 1)) (W : Waits sig (HIx 1)) (hO : ∀ g, O g none = 0) :
    iprop(levAts (K (F := F)).L (K (F := F)).lev ∗ emp ∗ goP X T d L
        ∗ scopedBufs (V d (cV L) (jV L)) ∗ scopedSems0 (V d (cV L) (jV L)) ∗ owes (V d (cV L) (jV L)) O W)
      ⊢ (iprop(BegT X T d L O W ∗ Rest d L) : sProp 𝕄) := by
  rw [(K (F := F)).scopedBufs_V hF d (cV L) (jV L), SparseCore.Cfg.scopedSems0_V (Val := Elt F) d (cV L) (jV L), sems_own, bufs_own]
  iintro ⟨Hlv, -, Hgo, ⟨⟨%fg, HG⟩, ⟨%fs, HS⟩, ⟨%fr, HR⟩, Hbufs⟩, ⟨Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  unfold goP
  icases Hgo with ⟨Ht, Hx, Ho⟩
  ihave Hx' := (show (xAt X d L Finset.univ (shT L) : sProp 𝕄) ⊢ iprop(xAt X d L Finset.univ (shT L).left ∗ xAt X d L Finset.univ (shT L).right) from
    (pointsTo_share (PosShare.mem_left_op_right (shT L))).1) $$ Hx
  icases Hx' with ⟨Hx0, Hx1⟩
  ihave HS' := (slots_halve d L fs) $$ HS
  icases HS' with ⟨HS0, HS1⟩
  unfold BegT Beg Rest rowsSt owesSt
  dsimp only [bufSt, qB]
  isplitr [Hbufs Hsems]
  · isplitl [Ht]; · iexact Ht
    isplitl [HG]; · iexists fg; iexact HG
    isplitl [Hs2]; · iexact Hs2
    isplitl [Hs0 Hx0 HS0]
    · isplitl [Hs0]; · iexact Hs0
      isplitl [Hx0]; · iexact Hx0
      iexists fs; iexact HS0
    isplitl [Hs1 Hx1 HS1]
    · isplitl [Hs1]; · iexact Hs1
      isplitl [Hx1]; · iexact Hx1
      iexists fs; iexact HS1
    isplitl [Ho Hs3]
    · isplitl [Ho]; · iexact Ho
      iexact Hs3
    isplitl [Hmw]; · iexact Hmw
    isplitl [HR]
    · iexists fr
      isplitr
      · ipureintro; intro i hi; omega
      iexact HR
    iexists W
    isplitr
    · ipureintro; exact fun p hp => .inl hp
    iexact HO
  isplitl [Hbufs]; · iexact Hbufs
  iexact Hsems

theorem tile_out (hF : (K (F := F)).Facts) (O : CellTallies nD τ sig (HIx 1)) (W : Waits sig (HIx 1)) :
    (iprop(EndT X T d L O W ∗ Rest d L) : sProp 𝕄)
      ⊢ iprop(tdP X T d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), sems_own, bufs_own]
  unfold EndT End Rest tdP owesSt
  dsimp only [bufSt, qB]
  iintro ⟨⟨Ho, HR, Hs3, ⟨Hs0, Hx0, HS0⟩, ⟨Hs1, Hx1, HS1⟩, ⟨Ht, Hs2⟩, HG, HO⟩, Hbufs, Hsems⟩
  ihave Hx := (show iprop(xAt X d L Finset.univ (shT L).left ∗ xAt X d L Finset.univ (shT L).right) ⊢ (xAt X d L Finset.univ (shT L) : sProp 𝕄) from
    (pointsTo_share (PosShare.mem_left_op_right (shT L))).2) $$ [Hx0 Hx1]
  · isplitl [Hx0]; · iexact Hx0
    iexact Hx1
  ihave HS := (slots_whole d L _ _) $$ [HS0 HS1]
  · isplitl [HS0]; · iexact HS0
    iexact HS1
  isplitl [Ht Hx Ho]
  · isplitl [Ht]; · iexact Ht
    isplitl [Hx]; · iexact Hx
    iexact Ho
  isplitl [HG HS HR Hbufs]
  · isplitl [HG]; · iexists (tgV (F := F) T L); iexact HG
    isplitl [HS]; · iexact HS
    isplitl [HR]; · iexact HR
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HO

end Cert.Proof.KernelIdeal
-- ==== Proof.KernelIdeal.ScPay.lean ====
module

public import proofs.«01_k».proof.Proof.KernelIdeal.ScTile

@[expose] public section

noncomputable section

namespace Cert.Proof.KernelIdeal

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

/-! # What the call's handshakes carry

A SparseCore takes its sixteen tasks' pieces at once and gives them back at once, so handing them to the tasks
is no work; `@main` cuts the operands into the pieces and puts the results together. -/

variable {F : FTy → Type} [FloatOps F] [Named F]

local notation "𝕄" => MT nD τ sig (HIx 1) (Elt F) ℕ UU ℕ

variable (X : Dev nD → S4096x8192.Idx → Elt F .f32) (T : Dev nD → S4096.Idx → BitVec 32)

abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The grid point of task `s` of SparseCore `c`. -/
def at' (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = grid0.bound 0 := rfl
theorem nSub_zero : (K (F := F)).nSub 0 = grid0.bound 1 := rfl

def P : (K (F := F)).Pay (nD := nD) (Val := Elt F) (Name := ℕ) (U := UU) where
  st := fun q d c => match q with | 0 => bigSep Finset.univ fun i : Fin (grid0.bound 1) => goP (X d) (T d) d (at' (Fin.cast nCore_zero c) i)
  dn := fun q d c => match q with | 0 => bigSep Finset.univ fun i : Fin (grid0.bound 1) => tdP (X d) (T d) d (at' (Fin.cast nCore_zero c) i)
  go := fun q d c i => match q with | 0 => goP (X d) (T d) d (at' (Fin.cast nCore_zero c) (Fin.cast nSub_zero i))
  td := fun q d c i => match q with | 0 => tdP (X d) (T d) d (at' (Fin.cast nCore_zero c) (Fin.cast nSub_zero i))
  x := fun _ _ => iprop(emp)

instance P_storable : (P (F := F) X T).IsStorable where
  st q d c := match q with
    | 0 => (inferInstance : BI.Storable (upEmb : UEmb _ 𝕄) (bigSep Finset.univ fun i : Fin (grid0.bound 1) => goP (X d) (T d) d (at' (Fin.cast nCore_zero c) i)))
  dn q d c := match q with
    | 0 => (inferInstance : BI.Storable (upEmb : UEmb _ 𝕄) (bigSep Finset.univ fun i : Fin (grid0.bound 1) => tdP (X d) (T d) d (at' (Fin.cast nCore_zero c) i)))
  go q d c i := match q with
    | 0 => (inferInstance : BI.Storable (upEmb : UEmb _ 𝕄) (goP (X d) (T d) d (at' (Fin.cast nCore_zero c) (Fin.cast nSub_zero i))))
  td q d c i := match q with
    | 0 => (inferInstance : BI.Storable (upEmb : UEmb _ 𝕄) (tdP (X d) (T d) d (at' (Fin.cast nCore_zero c) (Fin.cast nSub_zero i))))

theorem tasks_cast (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P X T) 0 := by
  intro d c
  show (bigSep Finset.univ fun i : Fin (grid0.bound 1) => goP (X d) (T d) d (at' (Fin.cast nCore_zero c) i)) ⊢ |={Set.univ}=> iprop(
      (bigSep Finset.univ fun i : Fin ((K (F := F)).nSub 0) => goP (X d) (T d) d (at' (Fin.cast nCore_zero c) (Fin.cast nSub_zero i)))
      ∗ ((bigSep Finset.univ fun i : Fin ((K (F := F)).nSub 0) => tdP (X d) (T d) d (at' (Fin.cast nCore_zero c) (Fin.cast nSub_zero i)))
          -∗ (bigSep Finset.univ fun i : Fin (grid0.bound 1) => tdP (X d) (T d) d (at' (Fin.cast nCore_zero c) i))))
  rw [tasks_cast (F := F) (fun i => goP (X d) (T d) d (at' (Fin.cast nCore_zero c) i)), tasks_cast (F := F) (fun i => tdP (X d) (T d) d (at' (Fin.cast nCore_zero c) i))]
  iintro H
  imodintro
  isplitl [H]; · iexact H
  iintro H
  iexact H

/-! ## The pieces of the operands -/

/-- The tasks' grid points, by their numbers. -/
def tasks : Fin (grid0.bound 1) × Fin (grid0.bound 0) ≃ Fin 32 := finProdFinEquiv

theorem wid_at (c : Fin (grid0.bound 0)) (s : Fin (grid0.bound 1)) : wid (at' c s) = (tasks (s, c)).val := by
  show s.val * 2 + c.val = c.val + 2 * s.val
  omega

theorem base_wid (L : grid0.Coords) : base L = wid L * 128 := rfl

def rowsT (t : Fin 32) : Finset S4096.Idx := Finset.univ.filter fun i => t.val * 128 ≤ (i 0).val ∧ (i 0).val < t.val * 128 + 128
def rowsO (t : Fin 32) : Finset S4096x128.Idx := Finset.univ.filter fun i => t.val * 128 ≤ (i 0).val ∧ (i 0).val < t.val * 128 + 128

theorem rowsT_disj : ∀ t ∈ (Finset.univ : Finset (Fin 32)), ∀ t' ∈ (Finset.univ : Finset (Fin 32)), t ≠ t' → Disjoint (rowsT t) (rowsT t') := by
  intro t _ t' _ h
  rw [Finset.disjoint_left]
  intro i hi hi'
  simp only [rowsT, Finset.mem_filter, Finset.mem_univ, true_and] at hi hi'
  exact h (Fin.ext (by omega))
theorem rowsO_disj : ∀ t ∈ (Finset.univ : Finset (Fin 32)), ∀ t' ∈ (Finset.univ : Finset (Fin 32)), t ≠ t' → Disjoint (rowsO t) (rowsO t') := by
  intro t _ t' _ h
  rw [Finset.disjoint_left]
  intro i hi hi'
  simp only [rowsO, Finset.mem_filter, Finset.mem_univ, true_and] at hi hi'
  exact h (Fin.ext (by omega))
theorem rowsT_cover : (Finset.univ : Finset S4096.Idx) = Finset.univ.biUnion rowsT := by
  ext i
  have h : (i 0).val < 4096 := (i 0).isLt
  simp only [rowsT, Finset.mem_biUnion, Finset.mem_filter, Finset.mem_univ, true_and, true_iff]
  exact ⟨⟨(i 0).val / 128, by omega⟩, by show (i 0).val / 128 * 128 ≤ _ ∧ _; constructor <;> first | omega | (show _ < (i 0).val / 128 * 128 + 128; omega)⟩
theorem rowsO_cover : (Finset.univ : Finset S4096x128.Idx) = Finset.univ.biUnion rowsO := by
  ext i
  have h : (i 0).val < 4096 := (i 0).isLt
  simp only [rowsO, Finset.mem_biUnion, Finset.mem_filter, Finset.mem_univ, true_and, true_iff]
  exact ⟨⟨(i 0).val / 128, by omega⟩, by show (i 0).val / 128 * 128 ≤ _ ∧ _; constructor <;> first | omega | (show _ < (i 0).val / 128 * 128 + 128; omega)⟩

theorem blkT_at (c : Fin (grid0.bound 0)) (s : Fin (grid0.bound 1)) : blkT (at' c s) = rowsT (tasks (s, c)) := by
  unfold blkT rowsT
  rw [base_wid, wid_at]
theorem blkO_at (c : Fin (grid0.bound 0)) (s : Fin (grid0.bound 1)) : blkO (at' c s) = rowsO (tasks (s, c)) := by
  unfold blkO rowsO
  rw [base_wid, wid_at]

/-- A sum over the SparseCores' tasks is one over the 32 numbers. -/
theorem by_number (Φ : Fin 32 → sProp 𝕄) :
    (bigSep Finset.univ fun c : Fin (grid0.bound 0) => bigSep Finset.univ fun s : Fin (grid0.bound 1) => Φ (tasks (s, c))) = bigSep Finset.univ Φ := by
  rw [bigSep_univ_equiv tasks Φ, bigSep_univ_prod, BI.bigSep_univ_comm]

abbrev tL (d : Dev nD) : Loc nD τ sig := (SparseCore.T d).loc main_v1
abbrev xL (d : Dev nD) : Loc nD τ sig := (SparseCore.T d).loc main_v0
abbrev oL (d : Dev nD) : Loc nD τ sig := (SparseCore.T d).loc main_v3

variable (d : Dev nD)

theorem t_pieces (f : S4096.Idx → BitVec 32) :
    (tL d ↦{fullShare} (f : Buf (Elt F) (tL d)) : sProp 𝕄) = bigSep Finset.univ fun t : Fin 32 => tL d ↦[rowsT t]{fullShare} (f : Buf (Elt F) (tL d)) := by
  refine Eq.trans ?_ (pointsTo_biUnion Finset.univ (ℓ := tL d) rowsT rowsT_disj)
  exact congrArg (fun S => (tL d ↦[S]{fullShare} (f : Buf (Elt F) (tL d)) : sProp 𝕄)) rowsT_cover
theorem o_pieces (f : S4096x128.Idx → Elt F .f32) :
    (oL d ↦{fullShare} (f : Buf (Elt F) (oL d)) : sProp 𝕄) = bigSep Finset.univ fun t : Fin 32 => oL d ↦[rowsO t]{fullShare} (f : Buf (Elt F) (oL d)) := by
  refine Eq.trans ?_ (pointsTo_biUnion Finset.univ (ℓ := oL d) rowsO rowsO_disj)
  exact congrArg (fun S => (oL d ↦[S]{fullShare} (f : Buf (Elt F) (oL d)) : sProp 𝕄)) rowsO_cover

/-- What `@main` keeps of the operand every task reads. -/
def xKeep (f : S4096x8192.Idx → Elt F .f32) : sProp 𝕄 := xL d ↦{shareDrop fullShare 32} (f : Buf (Elt F) (xL d))

theorem x_pieces (f : S4096x8192.Idx → Elt F .f32) :
    (xL d ↦{fullShare} (f : Buf (Elt F) (xL d)) : sProp 𝕄)
      ⊣⊢ iprop(xKeep d f ∗ bigSep Finset.univ fun t : Fin 32 => xL d ↦{shareTokN fullShare t.val} (f : Buf (Elt F) (xL d))) := by
  unfold xKeep
  exact pointsTo_toks (nD := nD) (τ := τ) (sig := sig) (ℓ := xL d) (S := Finset.univ) (f := f) (Ix := HIx 1) (Lvl := ℕ) (Name := ℕ) (U := UU) fullShare 32

theorem goP_at (c : Fin (grid0.bound 0)) (s : Fin (grid0.bound 1)) :
    goP (X d) (T d) d (at' c s) = iprop((tL d ↦[rowsT (tasks (s, c))]{fullShare} (T d : Buf (Elt F) (tL d)))
      ∗ (xL d ↦{shareTokN fullShare (tasks (s, c)).val} (X d : Buf (Elt F) (xL d))) ∗ ∃ f : S4096x128.Idx → Elt F .f32, oL d ↦[rowsO (tasks (s, c))]{fullShare} (f : Buf (Elt F) (oL d))) := by
  unfold goP shT
  rw [tAt, blkT_at, wid_at]
  unfold oAt
  rw [blkO_at]
theorem tdP_at (c : Fin (grid0.bound 0)) (s : Fin (grid0.bound 1)) :
    tdP (X d) (T d) d (at' c s) = iprop((tL d ↦[rowsT (tasks (s, c))]{fullShare} (T d : Buf (Elt F) (tL d)))
      ∗ (xL d ↦{shareTokN fullShare (tasks (s, c)).val} (X d : Buf (Elt F) (xL d))) ∗ oL d ↦[rowsO (tasks (s, c))]{fullShare} (gath (X d) (T d) : Buf (Elt F) (oL d))) := by
  unfold tdP shT
  rw [tAt, blkT_at, wid_at]
  unfold oAt
  rw [blkO_at]

theorem st_all : (bigSep Finset.univ fun c : Fin ((K (F := F)).nCore 0) => (P X T).st 0 d c)
    = iprop((bigSep Finset.univ fun t : Fin 32 => tL d ↦[rowsT t]{fullShare} (T d : Buf (Elt F) (tL d)))
      ∗ (bigSep Finset.univ fun t : Fin 32 => xL d ↦{shareTokN fullShare t.val} (X d : Buf (Elt F) (xL d)))
      ∗ (bigSep Finset.univ fun t : Fin 32 => iprop(∃ f : S4096x128.Idx → Elt F .f32, oL d ↦[rowsO t]{fullShare} (f : Buf (Elt F) (oL d))))) := by
  rw [← bigSep_sep', ← bigSep_sep', ← by_number]
  refine bigSep_congr fun c _ => ?_
  show (bigSep Finset.univ fun i : Fin (grid0.bound 1) => goP (X d) (T d) d (at' (Fin.cast nCore_zero c) i)) = _
  exact bigSep_congr fun s _ => goP_at X T d c s
theorem dn_all : (bigSep Finset.univ fun c : Fin ((K (F := F)).nCore 0) => (P X T).dn 0 d c)
    = iprop((bigSep Finset.univ fun t : Fin 32 => tL d ↦[rowsT t]{fullShare} (T d : Buf (Elt F) (tL d)))
      ∗ (bigSep Finset.univ fun t : Fin 32 => xL d ↦{shareTokN fullShare t.val} (X d : Buf (Elt F) (xL d)))
      ∗ (bigSep Finset.univ fun t : Fin 32 => oL d ↦[rowsO t]{fullShare} (gath (X d) (T d) : Buf (Elt F) (oL d)))) := by
  rw [← bigSep_sep', ← bigSep_sep', ← by_number]
  refine bigSep_congr fun c _ => ?_
  show (bigSep Finset.univ fun i : Fin (grid0.bound 1) => tdP (X d) (T d) d (at' (Fin.cast nCore_zero c) i)) = _
  exact bigSep_congr fun s _ => tdP_at X T d c s

theorem o_any (f : S4096x128.Idx → Elt F .f32) :
    (bigSep Finset.univ fun t : Fin 32 => (oL d ↦[rowsO t]{fullShare} (f : Buf (Elt F) (oL d)) : sProp 𝕄))
      ⊢ bigSep Finset.univ fun t : Fin 32 => iprop(∃ f : S4096x128.Idx → Elt F .f32, oL d ↦[rowsO t]{fullShare} (f : Buf (Elt F) (oL d))) := by
  have h : ∀ t : Fin 32, (oL d ↦[rowsO t]{fullShare} (f : Buf (Elt F) (oL d)) : sProp 𝕄)
      ⊢ iprop(∃ f : S4096x128.Idx → Elt F .f32, oL d ↦[rowsO t]{fullShare} (f : Buf (Elt F) (oL d))) := by
    intro t
    iintro H
    iexists f
    iexact H
  exact BI.bigSep_mono fun t _ => h t

/-- The operands whole are the call's operands and what stays; -/
theorem st_of (f : S4096x128.Idx → Elt F .f32) :
    iprop((tL d ↦{fullShare} (T d : Buf (Elt F) (tL d))) ∗ (xL d ↦{fullShare} (X d : Buf (Elt F) (xL d))) ∗ (oL d ↦{fullShare} (f : Buf (Elt F) (oL d))))
      ⊢ (iprop((bigSep Finset.univ fun c : Fin ((K (F := F)).nCore 0) => (P X T).st 0 d c) ∗ xKeep d (X d)) : sProp 𝕄) := by
  rw [st_all, t_pieces d (T d), o_pieces d f]
  iintro ⟨HT, HX, HO⟩
  ihave HX' := (x_pieces d (X d)).1 $$ HX
  icases HX' with ⟨HK, HX⟩
  isplitr [HK]
  · isplitl [HT]; · iexact HT
    isplitl [HX]; · iexact HX
    iapply (o_any d f) $$ HO
  iexact HK
/-- the call's results and what stayed are the results whole. -/
theorem of_dn :
    iprop((bigSep Finset.univ fun c : Fin ((K (F := F)).nCore 0) => (P X T).dn 0 d c) ∗ xKeep d (X d))
      ⊢ (iprop((tL d ↦{fullShare} (T d : Buf (Elt F) (tL d))) ∗ (xL d ↦{fullShare} (X d : Buf (Elt F) (xL d)))
          ∗ (oL d ↦{fullShare} (gath (X d) (T d) : Buf (Elt F) (oL d)))) : sProp 𝕄) := by
  rw [dn_all, t_pieces d (T d), o_pieces d (gath (X d) (T d))]
  iintro ⟨⟨HT, HX, HO⟩, HK⟩
  isplitl [HT]; · iexact HT
  isplitl [HX HK]
  · iapply (x_pieces d (X d)).2
    isplitl [HK]; · iexact HK
    iexact HX
  iexact HO

end Cert.Proof.KernelIdeal
-- ==== Proof.KernelIdeal.ScBody.lean ====
module

public import proofs.«01_k».proof.Proof.KernelIdeal.ScEnds

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

/-! # The task's whole body, in the order it is written -/

variable {F : FTy → Type} [FloatOps F] [Named F]

local notation "𝕄" => MT nD τ sig (HIx 1) (Elt F) ℕ UU ℕ

variable {X : S4096x8192.Idx → Elt F .f32} {T : S4096.Idx → BitVec 32} {d : Dev nD} {L : grid0.Coords}
variable {q : PosShare TreeShare} {R : sProp (MT nD τ sig (HIx 1) (Elt F) ℕ UU ℕ)} {O : CellTallies nD τ sig (HIx 1)} {W : Waits sig (HIx 1)}

set_option maxRecDepth 100000
set_option maxHeartbeats 0

theorem body (hT : ∀ i, (T i).toNat < 8192) :
    Beg X T d L q iprop((∃ f, oAt d L f) ∗ semVal (thr d L, .dma cc0_scoped1.sem) 0) O W
      ⊢ WP d (cc0_gather_kernel (F := F) L xM (Memref.isWhole_whole _) tM (Memref.isWhole_whole _) oM (Memref.isWhole_whole _) tgM (Memref.isWhole_whole _)
          slM (Memref.isWhole_whole _) rwM (Memref.isWhole_whole _) cc0_scratch3 cc0_scratch4 cc0_scoped0 cc0_scoped1 : PT F L PUnit)
        (fun _ => End X T d L q iprop(tAt (F := F) T d L ∗ semVal (thr d L, .dma cc0_scoped0.sem) 0) O W (.ready 2) (.ready 3)) := by
  refine st_bind (F := F) ?_
  refine st_bind (F := F) ?_
  iterate 3 (first
    | (with_reducible refine st_beg (F := F) ?_)
    | with_reducible refine st_bind (F := F) ?_
    | refine st_bind (F := F) ?_)
  with_reducible refine st_beg' (F := F) ?_
  refine st_frame (F := F) beg_frame ?_
  iterate 131
    apply cut
    · intro h
      iterate 50 (first
        | done
        | with_reducible refine st_coll0 (F := F) ?_
        | with_reducible refine st_coll1 (F := F) ?_
        | with_reducible refine st_bind (F := F) ?_
        | with_reducible refine st_ld0 (F := F) ?_
        | with_reducible refine st_ld1 (F := F) ?_
        | ((with_reducible refine st_row (F := F) fun _ => ?_); first | (with_reducible refine st_bind (F := F) ?_) | with_reducible refine st_pure (F := F) ?_)
        | ((with_reducible refine st_store (F := F) ?_ ?_); · rfl)
        | ((with_reducible refine st_fire0 (F := F) ?_ rfl ?_ ?_); (· rfl); · exact off_ok rfl rfl rfl)
        | ((with_reducible refine st_fire1 (F := F) ?_ rfl ?_ ?_); (· rfl); · exact off_ok rfl rfl rfl)
        | ((with_reducible refine st_wait0 (F := F) ?_ rfl ?_); · rfl)
        | ((with_reducible refine st_wait1 (F := F) ?_ rfl ?_); · rfl)
        | with_reducible refine st_pure (F := F) ?_
        | ((with_reducible refine st_assume (F := F) ?_ ?_); · first | (refine chk_ok3 hT ?_ ?_ <;> decide) | (refine chk_ok2 hT ?_; decide))
        | with_reducible refine st_tg (F := F) ?_
        | with_reducible refine st_open0 (F := F) ?_
        | with_reducible refine st_open1 (F := F) ?_
        | with_reducible refine st_full0 (F := F) ?_
        | with_reducible refine st_full1 (F := F) ?_
        | with_reducible refine st_again0 (F := F) ?_
        | with_reducible refine st_again1 (F := F) ?_
        | ((with_reducible refine st_end (F := F) hT ?_ ?_); · rfl)
        | with_reducible refine st_end' (F := F) ?_
        | refine st_bind (F := F) ?_)
      exact h
  iterate 140 (first
    | done
    | with_reducible refine st_coll0 (F := F) ?_
    | with_reducible refine st_coll1 (F := F) ?_
    | with_reducible refine st_bind (F := F) ?_
    | with_reducible refine st_ld0 (F := F) ?_
    | with_reducible refine st_ld1 (F := F) ?_
    | ((with_reducible refine st_row (F := F) fun _ => ?_); first | (with_reducible refine st_bind (F := F) ?_) | with_reducible refine st_pure (F := F) ?_)
    | ((with_reducible refine st_store (F := F) ?_ ?_); · rfl)
    | ((with_reducible refine st_fire0 (F := F) ?_ rfl ?_ ?_); (· rfl); · exact off_ok rfl rfl rfl)
    | ((with_reducible refine st_fire1 (F := F) ?_ rfl ?_ ?_); (· rfl); · exact off_ok rfl rfl rfl)
    | ((with_reducible refine st_wait0 (F := F) ?_ rfl ?_); · rfl)
    | ((with_reducible refine st_wait1 (F := F) ?_ rfl ?_); · rfl)
    | with_reducible refine st_pure (F := F) ?_
    | ((with_reducible refine st_assume (F := F) ?_ ?_); · first | (refine chk_ok3 hT ?_ ?_ <;> decide) | (refine chk_ok2 hT ?_; decide))
    | with_reducible refine st_tg (F := F) ?_
    | with_reducible refine st_open0 (F := F) ?_
    | with_reducible refine st_open1 (F := F) ?_
    | with_reducible refine st_full0 (F := F) ?_
    | with_reducible refine st_full1 (F := F) ?_
    | with_reducible refine st_again0 (F := F) ?_
    | with_reducible refine st_again1 (F := F) ?_
    | ((with_reducible refine st_end (F := F) hT ?_ ?_); · rfl)
    | ((with_reducible refine st_end' (F := F) ?_); refine st_pure (F := F) ?_; exact Entails.rfl)
    | refine st_bind (F := F) ?_)

end Cert.Proof.KernelIdeal
-- ==== Proof.KernelIdeal.ScObl.lean ====
module

public import proofs.«01_k».proof.Proof.KernelIdeal.ScPay
public import proofs.«01_k».proof.Proof.KernelIdeal.ScBody

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

/-! # What every vector subcore owes the launch: its task run -/

variable {F : FTy → Type} [FloatOps F] [Named F]

local notation "𝕄" => MT nD τ sig (HIx 1) (Elt F) ℕ UU ℕ

theorem tile_body (X : S4096x8192.Idx → Elt F .f32) (T : S4096.Idx → BitVec 32) (hT : ∀ i, (T i).toNat < 8192) (d : Dev nD) (L : grid0.Coords)
    (hF : (K (F := F)).Facts) (O : CellTallies nD τ sig (HIx 1)) (W : Waits sig (HIx 1)) (hO : ∀ g, O g none = 0) :
    iprop(levAts (K (F := F)).L (K (F := F)).lev ∗ emp ∗ goP X T d L
        ∗ scopedBufs (V d (cV L) (jV L)) ∗ scopedSems0 (V d (cV L) (jV L)) ∗ owes (V d (cV L) (jV L)) O W)
      ⊢ WP d (cc0_gather_kernel (F := F) L xM (Memref.isWhole_whole _) tM (Memref.isWhole_whole _) oM (Memref.isWhole_whole _) tgM (Memref.isWhole_whole _)
          slM (Memref.isWhole_whole _) rwM (Memref.isWhole_whole _) cc0_scratch3 cc0_scratch4 cc0_scoped0 cc0_scoped1 : PT F L PUnit)
        (fun _ => iprop(tdP X T d L ∗ scopedBufs (V d (cV L) (jV L)) ∗ scopedSems0 (V d (cV L) (jV L))
            ∗ ∃ W', ⌜∀ p ∈ W', p ∈ W ∨ p.2 = none⌝ ∗ owes (V d (cV L) (jV L)) O W')) :=
  (tile_in X T d L hF O W hO).trans ((sep_mono_left (body hT)).trans ((wp_frame_r _ _ _).trans (wp_mono _ _ _ fun _ => tile_out X T d L hF O W)))

theorem defs₀_vector (c : Fin τ.nSC) (s : Fin τ.nSub) :
    defs₀ (F := F) (.scVector c s) 0 ()
      = SparseCore.onTile hcore0 hsub0 (fun c s => cc0_gather_kernel (at' c s)
          xM (Memref.isWhole_whole _) tM (Memref.isWhole_whole _) oM (Memref.isWhole_whole _) tgM (Memref.isWhole_whole _)
          slM (Memref.isWhole_whole _) rwM (Memref.isWhole_whole _) cc0_scratch3 cc0_scratch4 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (X : Dev nD → S4096x8192.Idx → Elt F .f32) (T : Dev nD → S4096.Idx → BitVec 32)

theorem WP_post {d : Dev nD} {L : grid0.Coords} {A : sProp 𝕄} {α : Type} {p : PT F L α} {Q Q' : α → sProp 𝕄} (h : A ⊢ WP d p Q) (hQ : ∀ a, Q a ⊢ Q' a) :
    A ⊢ wp frame (wpE (defs₀ (F := F)) 𝒱₀ (V d (cV L) (jV L)) none) Set.univ p Q' :=
  BIBase.Entails.trans h (wp_mono _ _ _ hQ)

theorem tile_prog (c : Fin (grid0.bound 0)) (s : Fin (grid0.bound 1)) :
    defs₀ (F := F) (.scVector (cV (at' c s)) (jV (at' c s))) 0 ()
      = cc0_gather_kernel (at' c s)
          xM (Memref.isWhole_whole _) tM (Memref.isWhole_whole _) oM (Memref.isWhole_whole _) tgM (Memref.isWhole_whole _)
          slM (Memref.isWhole_whole _) rwM (Memref.isWhole_whole _) cc0_scratch3 cc0_scratch4 cc0_scoped0 cc0_scoped1 := by
  have hci : (cV (at' c s)).val < grid0.bound 0 ∧ (jV (at' c s)).val < grid0.bound 1 := ⟨c.isLt, s.isLt⟩
  rw [defs₀_vector]
  exact dif_pos hci

/-- The tile at coordinates `L`, as the body table has it. -/
theorem tile_call (hT : ∀ d i, (T d i).toNat < 8192) (d : Dev nD) (L : grid0.Coords)
    (O : CellTallies nD τ sig (HIx 1)) (W : Waits sig (HIx 1)) (hO : ∀ g, O g none = 0) :
    iprop(levAts (K (F := F)).L (K (F := F)).lev ∗ emp ∗ goP (X d) (T d) d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (defs₀ (F := F) (.scVector (cV L) (jV L)) 0 ())
        (fun _ => iprop(tdP (X d) (T d) d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')) := by
  obtain ⟨c, s, rfl⟩ : ∃ c s, L = at' c s := ⟨L 0, L 1, by
    funext k; match k with
    | 0 => rfl
    | 1 => rfl⟩
  rw [tile_prog c s]
  have h := tile_body (X d) (T d) (hT d) d (at' c s) facts O W hO
  refine BIBase.Entails.trans ?_ (wp_mono frame _ _ fun _ => obl_post)
  unfold WP at h
  refine (Entails.of_eq ?_).trans (BIBase.Entails.trans h (Entails.of_eq ?_))
  · with_reducible rfl
  congr 1

theorem tileObl (hT : ∀ d i, (T d i).toNat < 8192) : (K (F := F)).TileObl (D (F := F)) 𝒱 (P X T) v₀ 0 := by
  intro d c i O W hO _ _
  simp only [show (P X T).ox = fun _ _ => 0 from rfl, add_zero]
  exact (tile_call X T hT d (at' (Fin.cast nCore_zero c) (Fin.cast nSub_zero i)) O W hO).trans
    (Pipeline.wp_liftProg (D (F := F)) (Pipeline.defs_kernel pcfgs defs₀) 𝒱₀ _ Set.univ none _ _)

end Cert.Proof.KernelIdeal
-- ==== Proof.KernelIdeal.Cc1.lean ====
module

public import proofs.«01_k».proof.Proof.KernelIdeal.ScBase
public import proofs.«01_k».proof.Proof.Gen.KernelIdeal.Skeleton

@[expose] public section

noncomputable section

namespace Cert.Proof.KernelIdeal

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

/-! # The streamed sum: 32 blocks of 128 rows through a ring of 8 slots -/

variable {F : FTy → Type}

local notation "𝕄" => MT nD τ sig (HIx 1) (Elt F) ℕ UU ℕ

abbrev wX : Memref sig .tc .hbm S4096x8192 .f32 := Memref.whole main_v0
abbrev wT : Memref sig .tc .vmem S32x1x128 .i32 := win1_0.stage 0
abbrev wO : Memref sig .tc .vmem S1x1 .f32 := win1_1.stage 0
abbrev wB : Memref sig .tc .vmem S8x128x8192 .f32 := Memref.whole cc1_scratch0

variable (X : S4096x8192.Idx → Elt F .f32) (Tg : S32x1x128.Idx → BitVec 32) (c : Dev nD)

/-! ## The slots, the blocks, and what a copy leaves -/

def ringSet (s : ℕ) : Finset S8x128x8192.Idx := Finset.univ.filter fun i => (i 0).val = s
def rowsSet (b : ℕ) : Finset S4096x8192.Idx := Finset.univ.filter fun i => (i 0).val / 128 = b
def ringV (b : ℕ) : S8x128x8192.Idx → Elt F .f32 := fun i => X (ix2 (128 * b + (i 1).val) (i 2).val)

theorem mem_ringSet {s : ℕ} {i : S8x128x8192.Idx} : i ∈ ringSet s ↔ (i 0).val = s := by simp [ringSet]
theorem mem_rowsSet {b : ℕ} {i : S4096x8192.Idx} : i ∈ rowsSet b ↔ (i 0).val / 128 = b := by simp [rowsSet]

abbrev srcM (off : Fin 2 → ℕ) (inb : ∀ a, off a + S128x8192.size a ≤ S4096x8192.size a) (hs : ∀ a, (Rect.unit (s := S4096x8192) off S128x8192.size inb).stride a = 1) :
    Memref sig .tc .hbm S128x8192 .f32 := wX.slice (Rect.unit (s := S4096x8192) off S128x8192.size inb) hs
abbrev ringM (off : Fin 3 → ℕ) (inb : ∀ a, off a + S1x128x8192.size a ≤ S8x128x8192.size a)
    (hs : ∀ a, (Rect.unit (s := S8x128x8192) off S1x128x8192.size inb).stride a = 1) (hq : S1x128x8192.Squeezes S128x8192) :
    Memref sig .tc .vmem S128x8192 .f32 := (wB.slice (Rect.unit (s := S8x128x8192) off S1x128x8192.size inb) hs).squeeze S128x8192 hq
abbrev ringSem (off : Fin 1 → ℕ) (inb : ∀ a, off a + S1.size a ≤ S8.size a) : DmaSem sig :=
  ((cc1_scratch1.slice (Rect.unit (s := S8) off S1.size inb)).squeeze S_ squeezes_S1_S_).sem
theorem ring_inb (s : Fin 8) (a : Fin 1) : (![s.val] : Fin 1 → ℕ) a + S1.size a ≤ S8.size a := by
  match a with | 0 => show s.val + 1 ≤ 8; omega
/-- Slot `s`'s semaphore. -/
def rsem (s : Fin 8) : DmaSem sig := ringSem ![s.val] (ring_inb s)
theorem ringSem_eq {off : Fin 1 → ℕ} {inb} (s : Fin 8) (h : off = ![s.val]) : ringSem off inb = rsem s := by subst h; rfl

theorem src_set {b : ℕ} {off inb hs} (hoff : off = ![128 * b, 0]) : (srcM off inb hs).view.set = rowsSet b := by
  subst hoff
  show ((View.whole main_v0).slice _).set = _
  rw [View.set_slice_whole]
  ext i
  rw [Rect.mem_set_unit, mem_rowsSet]
  have h1 : (i 1).val < 8192 := (i 1).isLt
  constructor
  · intro h
    have h0 : 128 * b ≤ (i 0).val ∧ (i 0).val < 128 * b + 128 := h 0
    omega
  · intro h a
    match a with
    | 0 => show 128 * b ≤ (i 0).val ∧ (i 0).val < 128 * b + 128; omega
    | 1 => show 0 ≤ (i 1).val ∧ (i 1).val < 0 + 8192; omega

theorem unit_ring {s : ℕ} {off inb} (hoff : off = ![s, 0, 0]) : (Rect.unit (s := S8x128x8192) off S1x128x8192.size inb).set = ringSet s := by
  subst hoff
  ext i
  rw [Rect.mem_set_unit, mem_ringSet]
  have h1 : (i 1).val < 128 := (i 1).isLt
  have h2 : (i 2).val < 8192 := (i 2).isLt
  constructor
  · intro h
    have h0 : s ≤ (i 0).val ∧ (i 0).val < s + 1 := h 0
    omega
  · intro h a
    match a with
    | 0 => show s ≤ (i 0).val ∧ (i 0).val < s + 1; omega
    | 1 => show 0 ≤ (i 1).val ∧ (i 1).val < 0 + 128; omega
    | 2 => show 0 ≤ (i 2).val ∧ (i 2).val < 0 + 8192; omega

theorem ring_set {s : ℕ} {off inb hs hq} (hoff : off = ![s, 0, 0]) : (ringM off inb hs hq).view.set = ringSet s :=
  ((View.set_reshape _ _).trans (View.set_slice_whole cc1_scratch0 _)).trans (unit_ring hoff)

def sq3 (x : S128x8192.Idx) : S1x128x8192.Idx := fun a => match a with
  | ⟨0, _⟩ => ⟨0, Nat.one_pos⟩ | ⟨1, _⟩ => ⟨(x 0).val, (x 0).isLt⟩ | ⟨2, _⟩ => ⟨(x 1).val, (x 1).isLt⟩

theorem sq3_eq (h : S128x8192.numel = S1x128x8192.numel) (x : S128x8192.Idx) : Shape.reshapeEquiv h x = sq3 x := by
  refine Shape.reshapeEquiv_eq_of_rowMajor h ?_
  rw [Shape.rowMajor_val_two, Shape.rowMajor_val_three]
  show (0 * 128 + (x 0).val) * 8192 + (x 1).val = (x 0).val * 8192 + (x 1).val
  omega

theorem ring_land {b s : ℕ} {off inb hs off' inb' hs' hq} (hoff : off = ![128 * b, 0]) (hoff' : off' = ![s, 0, 0]) (f : S8x128x8192.Idx → Elt F .f32)
    (i : S8x128x8192.Idx) (hi : i ∈ ringSet s) :
    (ringM off' inb' hs' hq).view.write (Elt F) f (ReadAs.same.apply ((srcM off inb hs).view.read (Elt F) X)) Finset.univ i = ringV X b i := by
  rw [← ring_set (inb := inb') (hs := hs') (hq := hq) hoff'] at hi
  subst hoff hoff'
  obtain ⟨x, -, rfl⟩ := Finset.mem_map.1 hi
  rw [View.write_emb_of_mem (h := Finset.mem_univ _)]
  show X _ = X _
  have hx : (ringM ![s, 0, 0] inb' hs' hq).view.emb x = (Rect.unit (s := S8x128x8192) ![s, 0, 0] S1x128x8192.size inb').emb (sq3 x) :=
    congrArg (Rect.unit (s := S8x128x8192) ![s, 0, 0] S1x128x8192.size inb').emb (sq3_eq _ x)
  rw [hx]
  congr 1
  have i0 : 128 * b + 128 ≤ 4096 := inb 0
  have x0 : (x 0).val < 128 := (x 0).isLt
  have x1 : (x 1).val < 8192 := (x 1).isLt
  funext a
  apply Fin.ext
  match a with
  | 0 =>
    show 128 * b + 1 * (x 0).val = (128 * b + (0 + 1 * (x 0).val)) % 4096
    rw [Nat.mod_eq_of_lt] <;> omega
  | 1 =>
    show 0 + 1 * (x 1).val = (0 + 1 * (x 1).val) % 8192
    rw [Nat.mod_eq_of_lt]; omega

/-! ## The state between statements -/

/-- What a copy into a slot credits: the same for every slot. -/
def NR : ℕ := (ringM ![0, 0, 0] inb_S8x128x8192_S1x128x8192_0_0_0 (fun _ => rfl) squeezes_S1x128x8192_S128x8192).view.dmaCredit
theorem NR_pos : 0 < NR := View.dmaCredit_pos _ (by decide)

abbrev xR (b : ℕ) : sProp 𝕄 := wX.view.loc (c : Thread nD τ) ↦[rowsSet b]{fullShare} X
abbrev rAt (s : ℕ) (f : S8x128x8192.Idx → Elt F .f32) : sProp 𝕄 := wB.view.loc (c : Thread nD τ) ↦[ringSet s]{fullShare} f
abbrev sl8 (b : ℕ) : Fin 8 := ⟨b % 8, Nat.mod_lt _ (by decide)⟩
/-- Slot `s` idle. -/
def free (s : Fin 8) : sProp 𝕄 := iprop((∃ f : S8x128x8192.Idx → Elt F .f32, rAt c s.val f) ∗ semVal ((c : Thread nD τ), .dma (rsem s)) 0)
/-- Block `b` on its way into its slot. -/
def FL (b : ℕ) : sProp 𝕄 := Flight EC (c : Thread nD τ) (.dma (rsem (sl8 b))) (default : HIx 1) NR iprop(rAt c (b % 8) (ringV X b) ∗ xR X c b)
/-- Block `b` while those from `lo` on and before `hi` are on their way. -/
def bst (lo hi : ℕ) (b : Fin 32) : sProp 𝕄 :=
  if b.val < lo then iprop(xR X c b.val ∗ if 24 ≤ b.val then free c (sl8 b.val) else BI.emp)
  else if b.val < hi then FL X c b.val
  else iprop(xR X c b.val ∗ if b.val < 8 then free c (sl8 b.val) else BI.emp)
abbrev ring (lo hi : ℕ) : sProp 𝕄 := bigSep Finset.univ (bst X c lo hi)

theorem upd_one {Φ Φ' : Fin 32 → sProp 𝕄} (k : Fin 32) (h : ∀ b, b ≠ k → Φ b = Φ' b) :
    bigSep Finset.univ Φ ⊢ iprop(Φ k ∗ (Φ' k -∗ bigSep Finset.univ Φ')) := by
  rw [bigSep_univ_split (Φ := Φ) k, bigSep_univ_split (Φ := Φ') k, bigSep_congr (Φ := Φ) (Ψ := Φ') fun b hb => h b (Finset.ne_of_mem_erase hb)]
  change iprop(Φ k ∗ bigSep (Finset.univ.erase k) Φ') ⊢ iprop(Φ k ∗ (Φ' k -∗ (Φ' k ∗ bigSep (Finset.univ.erase k) Φ')))
  iintro ⟨HA, HB⟩
  isplitl [HA]; · iexact HA
  iintro HA
  isplitl [HA]; · iexact HA
  iexact HB

variable [FloatOps F] [Named F]

abbrev WT {α : Type} (p : Prog (TpuEff nD τ sig (Elt F) Λ₀ .tc) α) (Q : α → sProp 𝕄) : sProp 𝕄 :=
  wp Idealize.ShloMosaic.frame (wpE (defs₀ (F := F)) 𝒱₀ (c : Thread nD τ) none) Set.univ p Q

/-- A copy of block `b` into its slot. -/
theorem fire_ring {b : ℕ} {off inb hs off' inb' hs' hq so si hw1 hw2 ht} (hoff : off = ![128 * b, 0]) (hoff' : off' = ![b % 8, 0, 0])
    (hso : so = ![b % 8]) {Q : PUnit → sProp 𝕄} :
    iprop(xR X c b ∗ free c (sl8 b)) ⊢ iprop((FL X c b -∗ Q ⟨⟩)
      -∗ WT c (Prog.lift (.enqueueDma (srcM off inb hs) (.here (ringM off' inb' hs' hq)) (.dma (ringSem so si)) hw1 hw2 ht)) Q) := by
  unfold free FL
  rw [← ringSem_eq (inb := si) (sl8 b) hso]
  iintro ⟨Hx, ⟨%f, Hs⟩, Hv⟩ Hk
  iapply (wp_dmaLocal EC 𝒱₀ (c : Thread nD τ) none (defs := defs₀ (F := F)) (src := srcM off inb hs) (dst := ringM off' inb' hs' hq)
    (fs := X) (fd := f) (Sd := ringSet (b % 8)) (q := fullShare) (default : HIx 1) NR (by subst hoff'; rfl) NR_pos (subset_of_eq (ring_set hoff'))) $$ [Hx Hs Hv]
  · isplitl [Hx]
    · rw [src_set hoff]; iexact Hx
    isplitl [Hs]; · iexact Hs
    iexact Hv
  iintro HF
  rw [wp_ret]
  imodintro
  iapply Hk
  iapply (Flight_mono EC (c : Thread nD τ) ?_) $$ HF
  rw [src_set hoff]
  refine sep_mono_left ?_
  exact Entails.of_eq (pointsTo_congr fun i hi => ring_land X hoff hoff' f i hi)

/-- The core's waits so far, within `B`; it owes nothing. -/
def owesIn (B : SemLoc sig × HIx 1 → Prop) : sProp 𝕄 := iprop(∃ W, ⌜∀ p ∈ W, B p⌝ ∗ owes (c : Thread nD τ) (0 : CellTallies nD τ sig (HIx 1)) W)

theorem wait_ring {B : SemLoc sig × HIx 1 → Prop} (hB : ∀ s, B (s, default)) {b : ℕ} {srcw : Memref sig .tc .hbm S128x8192 .f32} {off' inb' hs' hq so si hw1 hw2}
    (hoff' : off' = ![b % 8, 0, 0]) (hso : so = ![b % 8]) {Q : PUnit → sProp 𝕄} :
    iprop(FL X c b ∗ owesIn c B) ⊢ iprop((iprop(xR X c b ∗ rAt c (b % 8) (ringV X b) ∗ semVal ((c : Thread nD τ), .dma (rsem (sl8 b))) 0 ∗ owesIn c B) -∗ Q ⟨⟩)
      -∗ WT c (Prog.lift (.waitDma2 (ringSem so si) srcw (ringM off' inb' hs' hq) hw1 hw2)) Q) := by
  unfold FL owesIn
  rw [← ringSem_eq (inb := si) (sl8 b) hso]
  iintro ⟨HF, %W, %hW, HO⟩ Hk
  iapply (wp_waitLocalO EC 𝒱₀ (c : Thread nD τ) none (defs := defs₀ (F := F)) (dstw := ringM off' inb' hs' hq) (srcw := srcw)
    (default : HIx 1) (N := NR) (by subst hoff'; rfl) (O := 0) (W := W)) $$ [HF HO]
  · isplitl [HF]; · iexact HF
    isplitl [HO]; · iexact HO
    rw [MayWait_zero]; iempintro
  iintro ⟨⟨Hs, Hx⟩, Hv, HO⟩
  rw [wp_ret]
  imodintro
  iapply Hk
  isplitl [Hx]; · iexact Hx
  isplitl [Hs]; · iexact Hs
  isplitl [Hv]; · iexact Hv
  iexists insert (SemLoc.dma (ringSem so si), default) W
  isplitr
  · ipureintro
    intro p hp
    rcases Finset.mem_insert.1 hp with rfl | hp
    · exact hB _
    · exact hW p hp
  iexact HO

/-! ## The loop -/

/-- Block `b` as the loop reads it, and its targets. -/
def xBlk (b : ℕ) : S1x128x8192.Idx → Elt F .f32 := fun y => X (ix2 (128 * b + (y 1).val) (y 2).val)
def tIx (b j : ℕ) : S32x1x128.Idx := fun a => match a with
  | ⟨0, _⟩ => ⟨b % 32, Nat.mod_lt _ (by decide)⟩ | ⟨1, _⟩ => ⟨0, Nat.one_pos⟩ | ⟨2, _⟩ => ⟨j % 128, Nat.mod_lt _ (by decide)⟩
def tBlk (b : ℕ) : S1x1x128.Idx → BitVec 32 := fun y => Tg (tIx b (y 2).val)
/-- The sum over the first `n` blocks. -/
def accV : ℕ → F .f32
  | 0 => Scalar.ofBits .f32 0x00000000#32
  | n + 1 => k1_pay1 (accV n) (xBlk X n) (tBlk Tg n)

theorem trips_32 : k1_t1_loop.trips = 32 := by decide
theorem kOff1 (k : Fin k1_t1_loop.trips) : k1_off1 k = ![k.val % 8] := by revert k; decide
theorem kOff2 (k : Fin k1_t1_loop.trips) : k1_off2 k = ![k.val % 8, 0, 0] := by revert k; decide
theorem kOff3 (k : Fin k1_t1_loop.trips) : k1_off3 k = ![k.val % 8, 0, 0] := by revert k; decide
theorem kOff4 (k : Fin k1_t1_loop.trips) : k1_off4 k = ![k.val, 0, 0] := by revert k; decide
theorem kOff5 (k : Fin k1_t1_loop.trips) : k1_off5 k = ![(k.val + 8) % 8] := by revert k; decide
theorem kOff6 (k : Fin k1_t1_loop.trips) : k1_off6 k = ![(k.val + 8) % 8, 0, 0] := by revert k; decide
theorem kOff7 (k : Fin k1_t1_loop.trips) : k1_off7 k = ![128 * (k.val + 8), 0] := by revert k; decide
theorem kCond (k : Fin k1_t1_loop.trips) : k1_cond1 k = 1#1 ↔ k.val + 8 < 32 := by revert k; decide

theorem read_ring {b : ℕ} {off inb} (hoff : off = ![b % 8, 0, 0]) :
    wB.view.readAt (Elt F) (Rect.unit (s := S8x128x8192) off S1x128x8192.size inb).toLoadRect (ringV X b) = xBlk X b := by
  subst hoff
  funext y
  show X (ix2 (128 * b + (0 + 1 * (y 1).val)) (0 + 1 * (y 2).val)) = X (ix2 (128 * b + (y 1).val) (y 2).val)
  simp only [Nat.zero_add, Nat.one_mul]

theorem read_tgt {b : ℕ} {off inb} (hoff : off = ![b, 0, 0]) :
    wT.view.readAt (Elt F) (Rect.unit (s := S32x1x128) off S1x1x128.size inb).toLoadRect Tg = tBlk Tg b := by
  subst hoff
  funext y
  show Tg _ = Tg _
  congr 1
  have i0 : b + 1 ≤ 32 := inb 0
  have y0 : (y 0).val < 1 := (y 0).isLt
  have y1 : (y 1).val < 1 := (y 1).isLt
  have y2 : (y 2).val < 128 := (y 2).isLt
  funext a
  apply Fin.ext
  match a with
  | 0 => show b + 1 * (y 0).val = b % 32; omega
  | 1 => show 0 + 1 * (y 1).val = 0; omega
  | 2 => show 0 + 1 * (y 2).val = (y 2).val % 128; omega

theorem piece_ring {n : ℕ} {off inb} (hoff : off = ![n, 0, 0]) :
    wB.view.setOn (Rect.unit (s := S8x128x8192) off S1x128x8192.size inb).set ⊆ ringSet n := by
  have h : (wB.access (Rect.unit (s := S8x128x8192) off S1x128x8192.size inb)).set = (Rect.unit (s := S8x128x8192) off S1x128x8192.size inb).set :=
    View.set_slice_whole cc1_scratch0 _
  rw [View.set_slice] at h
  exact subset_of_eq (h.trans (unit_ring hoff))

abbrev tgt : sProp 𝕄 := wT.view.loc (c : Thread nD τ) ↦{fullShare} Tg

/-- Before trip `n`. -/
def inv (B : SemLoc sig × HIx 1 → Prop) (n : ℕ) (acc : F .f32) : sProp 𝕄 :=
  iprop(⌜acc = accV X Tg n⌝ ∗ ring X c n (n + 8) ∗ tgt Tg c ∗ owesIn c B)

theorem bst_lo {k : ℕ} {b : Fin 32} (h : b.val ≠ k) (hi : ℕ) : bst X c k hi b = bst X c (k + 1) hi b := by
  unfold bst
  rcases Nat.lt_or_ge b.val k with h1 | h1
  · rw [if_pos h1, if_pos (show b.val < k + 1 by omega)]
  · rw [if_neg (show ¬ b.val < k by omega), if_neg (show ¬ b.val < k + 1 by omega)]

theorem bst_hi {k : ℕ} {b : Fin 32} (h : b.val ≠ k) (lo : ℕ) : bst X c lo k b = bst X c lo (k + 1) b := by
  unfold bst
  rcases Nat.lt_or_ge b.val k with h1 | h1
  · rw [if_pos h1, if_pos (show b.val < k + 1 by omega)]
  · rw [if_neg (by omega : ¬ b.val < k), if_neg (by omega : ¬ b.val < k + 1)]

theorem ring_mid (k : ℕ) (hk : k < 32) :
    ring X c k (k + 8) ⊢ iprop(FL X c k ∗ (iprop(xR X c k ∗ if 24 ≤ k then free c (sl8 k) else BI.emp) -∗ ring X c (k + 1) (k + 8))) := by
  refine (upd_one (Φ' := bst X c (k + 1) (k + 8)) ⟨k, hk⟩ fun b hb => bst_lo X c (fun h => hb (Fin.ext h)) _).trans ?_
  rw [show bst X c k (k + 8) ⟨k, hk⟩ = FL X c k from (by unfold bst; rw [if_neg (Nat.lt_irrefl k), if_pos (by show k < k + 8; omega)]),
    show bst X c (k + 1) (k + 8) ⟨k, hk⟩ = iprop(xR X c k ∗ if 24 ≤ k then free c (sl8 k) else BI.emp) from (by unfold bst; rw [if_pos (Nat.lt_succ_self k)])]

theorem ring_next (lo k : ℕ) (hl : lo ≤ k) (hk : k < 32) :
    ring X c lo k ⊢ iprop((xR X c k ∗ if k < 8 then free c (sl8 k) else BI.emp) ∗ (FL X c k -∗ ring X c lo (k + 1))) := by
  refine (upd_one (Φ' := bst X c lo (k + 1)) ⟨k, hk⟩ fun b hb => bst_hi X c (fun h => hb (Fin.ext h)) _).trans ?_
  rw [show bst X c lo (k + 1) ⟨k, hk⟩ = FL X c k from (by unfold bst; rw [if_neg (by show ¬ k < lo; omega), if_pos (Nat.lt_succ_self k)]),
    show bst X c lo k ⟨k, hk⟩ = iprop(xR X c k ∗ if k < 8 then free c (sl8 k) else BI.emp) from
      (by unfold bst; rw [if_neg (by show ¬ k < lo; omega), if_neg (Nat.lt_irrefl k)])]

theorem ring_over (lo k : ℕ) (hk : 32 ≤ k) : ring X c lo k = ring X c lo (k + 1) :=
  bigSep_congr fun b _ => bst_hi X c (by have := b.isLt; omega) lo

theorem wt_bind {α β : Type} {P : sProp 𝕄} {p : Prog (TpuEff nD τ sig (Elt F) Λ₀ .tc) α} {k : α → Prog (TpuEff nD τ sig (Elt F) Λ₀ .tc) β} {Q : β → sProp 𝕄}
    (h : P ⊢ WT c p fun a => WT c (k a) Q) : P ⊢ WT c (p >>= k) Q := by
  unfold WT; rw [wp_bind]; exact h
theorem wt_pure {α : Type} {P : sProp 𝕄} {a : α} {Q : α → sProp 𝕄} (h : P ⊢ Q a) : P ⊢ WT c (pure a) Q := by
  unfold WT; rw [show (pure a : Prog (TpuEff nD τ sig (Elt F) Λ₀ .tc) α) = .ret a from rfl, wp_ret]; exact h.trans fupd_intro

theorem sl8_add (k : ℕ) : sl8 (k + 8) = sl8 k := Fin.ext (by show (k + 8) % 8 = k % 8; omega)

set_option maxHeartbeats 4000000 in
theorem trip {B : SemLoc sig × HIx 1 → Prop} (hB : ∀ s, B (s, default)) (k : Fin k1_t1_loop.trips) (acc : F .f32) :
    inv X Tg c B k.val acc ⊢ WT c (k1_t1_body wX (Memref.isWhole_whole _) wT (hstage1_0 0) wO (hstage1_1 0) wB (Memref.isWhole_whole _) cc1_scratch1 k acc)
      (inv X Tg c B (k.val + 1)) := by
  have hk : k.val < 32 := k.isLt
  unfold inv k1_t1_body
  iintro ⟨%hacc, HR, HT, HO⟩
  ihave HR := (ring_mid X c k.val hk) $$ HR
  icases HR with ⟨HF, HR⟩
  iapply (wt_bind c (Entails.refl _))
  iapply (wait_ring X c hB (kOff2 k) (kOff1 k)) $$ [HF HO]
  · isplitl [HF]; · iexact HF
    iexact HO
  iintro ⟨Hx, Hs, Hv, HO⟩
  iapply (wt_bind c (Entails.refl _))
  iapply (wp_load 𝒱₀ (c : Thread nD τ) none Set.univ (defs := defs₀ (F := F)) (m := wB) (S := ringSet (k.val % 8)) (f := ringV X k.val)
    (piece_ring (kOff3 k))) $$ [Hs]
  · iexact Hs
  iintro Hs
  rw [wp_ret]
  imodintro
  rw [read_ring X (kOff3 k)]
  iapply (wt_bind c (Entails.refl _))
  iapply (wp_load 𝒱₀ (c : Thread nD τ) none Set.univ (defs := defs₀ (F := F)) (m := wT) (S := Finset.univ) (f := Tg) (Finset.subset_univ _)) $$ [HT]
  · iexact HT
  iintro HT
  rw [wp_ret]
  imodintro
  rw [read_tgt Tg (kOff4 k)]
  dsimp only
  by_cases hc : k1_cond1 k = 1#1
  · have hk' := (kCond k).1 hc
    rw [dif_pos hc]
    ihave HR := HR $$ [Hx]
    · isplitl [Hx]; · iexact Hx
      rw [if_neg (by omega)]; iempintro
    ihave HR := (ring_next X c (k.val + 1) (k.val + 8) (by omega) hk') $$ HR
    icases HR with ⟨⟨Hx, -⟩, HR⟩
    iapply (wt_bind c (Entails.refl _))
    iapply (fire_ring X c (kOff7 k) (kOff6 k) (kOff5 k)) $$ [Hx Hs Hv]
    · isplitl [Hx]; · iexact Hx
      rw [sl8_add]
      unfold free
      isplitl [Hs]
      · iexists ringV X k.val; iexact Hs
      iexact Hv
    iintro HF
    iapply (wt_pure c (Entails.refl _))
    isplitr
    · ipureintro; rw [hacc]; rfl
    isplitl [HR HF]
    · iapply HR $$ HF
    isplitl [HT]; · iexact HT
    iexact HO
  · have hk' : 24 ≤ k.val := by have := mt (kCond k).2 hc; omega
    rw [dif_neg hc]
    iapply (wt_pure c (Entails.refl _))
    isplitr
    · ipureintro; rw [hacc]; rfl
    isplitl [HR Hx Hs Hv]
    · rw [show k.val + 1 + 8 = (k.val + 8) + 1 by omega, ← ring_over X c _ (k.val + 8) (by omega)]
      iapply HR
      isplitl [Hx]; · iexact Hx
      rw [if_pos hk']
      unfold free
      isplitl [Hs]
      · iexists ringV X k.val; iexact Hs
      iexact Hv
    isplitl [HT]; · iexact HT
    iexact HO

end Cert.Proof.KernelIdeal
-- ==== Proof.KernelIdeal.Cc1b.lean ====
module

public import proofs.«01_k».proof.Proof.KernelIdeal.Cc1

@[expose] public section

noncomputable section

namespace Cert.Proof.KernelIdeal

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

/-! # The streamed sum's body: the first eight copies, the loop, the result's store -/

variable {F : FTy → Type}

local notation "𝕄" => MT nD τ sig (HIx 1) (Elt F) ℕ UU ℕ

variable (X : S4096x8192.Idx → Elt F .f32) (Tg : S32x1x128.Idx → BitVec 32) (c : Dev nD)

/-! ## The ring before the first copy and after the last -/

def run8 (q : Fin 4) : Fin 8 ↪ Fin 32 := ⟨fun s => ⟨8 * q.val + s.val, by omega⟩, fun a b h => Fin.ext (by have := Fin.ext_iff.1 h; simp only at this; omega)⟩

theorem pick8 (q : Fin 4) (Φ : Fin 8 → sProp 𝕄) :
    (bigSep Finset.univ fun b : Fin 32 => if b.val / 8 = q.val then Φ (sl8 b.val) else BI.emp) = bigSep Finset.univ Φ := by
  rw [← bigSep_filter Finset.univ (fun b : Fin 32 => b.val / 8 = q.val) (fun b => Φ (sl8 b.val)),
    show (Finset.univ.filter fun b : Fin 32 => b.val / 8 = q.val) = Finset.univ.map (run8 q) from by revert q; decide, bigSep_map]
  refine bigSep_congr fun s _ => congrArg Φ (Fin.ext ?_)
  show (8 * q.val + s.val) % 8 = s.val
  omega

theorem x_rows : (wX.view.loc (c : Thread nD τ) ↦{fullShare} (X : Buf (Elt F) (wX.view.loc (c : Thread nD τ))) : sProp 𝕄)
    = bigSep Finset.univ fun b : Fin 32 => xR X c b.val := by
  refine Eq.trans ?_ (pointsTo_biUnion Finset.univ (ℓ := wX.view.loc (c : Thread nD τ)) (fun b : Fin 32 => rowsSet b.val) fun b _ b' _ h => ?_)
  · refine congrArg (fun S => (wX.view.loc (c : Thread nD τ) ↦[S]{fullShare} (X : Buf (Elt F) (wX.view.loc (c : Thread nD τ))) : sProp 𝕄)) ?_
    ext i
    have h : (i 0).val < 4096 := (i 0).isLt
    simp only [Finset.mem_biUnion, mem_rowsSet, Finset.mem_univ, true_and, true_iff]
    exact ⟨⟨(i 0).val / 128, by omega⟩, mem_rowsSet.2 rfl⟩
  · rw [Finset.disjoint_left]
    intro i hi hi'
    rw [mem_rowsSet] at hi hi'
    exact h (Fin.ext (hi.symm.trans hi'))

theorem slots_all (f : S8x128x8192.Idx → Elt F .f32) : (wB.view.loc (c : Thread nD τ) ↦{fullShare} (f : Buf (Elt F) (wB.view.loc (c : Thread nD τ))) : sProp 𝕄)
    = bigSep Finset.univ fun s : Fin 8 => rAt c s.val f := by
  refine Eq.trans ?_ (pointsTo_biUnion Finset.univ (ℓ := wB.view.loc (c : Thread nD τ)) (fun s : Fin 8 => ringSet s.val) fun b _ b' _ h => ?_)
  · refine congrArg (fun S => (wB.view.loc (c : Thread nD τ) ↦[S]{fullShare} (f : Buf (Elt F) (wB.view.loc (c : Thread nD τ))) : sProp 𝕄)) ?_
    ext i
    simp only [Finset.mem_biUnion, mem_ringSet, Finset.mem_univ, true_and, true_iff]
    exact ⟨i 0, mem_ringSet.2 rfl⟩
  · rw [Finset.disjoint_left]
    intro i hi hi'
    rw [mem_ringSet] at hi hi'
    exact h (Fin.ext (hi.symm.trans hi'))

/-- The kernel's eight semaphores at zero. -/
def sems8 : sProp 𝕄 := bigSep Finset.univ fun s : Fin 8 => semVal ((c : Thread nD τ), .dma (rsem s)) 0
/-- The slots at something. -/
def slots : sProp 𝕄 := iprop(∃ f : S8x128x8192.Idx → Elt F .f32, wB.view.loc (c : Thread nD τ) ↦{fullShare} (f : Buf (Elt F) (wB.view.loc (c : Thread nD τ))))

theorem free_all : (bigSep Finset.univ fun s : Fin 8 => free (F := F) c s)
    = iprop((bigSep Finset.univ fun s : Fin 8 => iprop(∃ f : S8x128x8192.Idx → Elt F .f32, rAt c s.val f)) ∗ sems8 c) := by
  unfold free sems8
  exact bigSep_sep' _ _ _

theorem free_in : iprop(slots (F := F) c ∗ sems8 c) ⊢ (bigSep Finset.univ fun s : Fin 8 => free (F := F) c s) := by
  rw [free_all]
  refine sep_mono_left ?_
  unfold slots
  refine exists_elim fun f => ?_
  rw [slots_all]
  exact BI.bigSep_mono fun s _ => exists_intro (Φ := fun f : S8x128x8192.Idx → Elt F .f32 => (rAt c s.val f : sProp 𝕄)) f

variable [FloatOps F] [Named F]

theorem free_out : (bigSep Finset.univ fun s : Fin 8 => free (F := F) c s) ⊢ iprop(slots (F := F) c ∗ sems8 c) := by
  rw [free_all]
  refine sep_mono_left ?_
  haveI : Nonempty (S8x128x8192.Idx → Elt F .f32) := ⟨fun _ => (Scalar.ofBits .f32 0x00000000#32 : F .f32)⟩
  refine BIBase.Entails.trans (bigSep_exists_pi (Y := fun _ : Fin 8 => S8x128x8192.Idx → Elt F .f32) Finset.univ fun s f => rAt c s.val f) ?_
  refine exists_elim fun y => ?_
  have e : slots (F := F) c = iprop(∃ f : S8x128x8192.Idx → Elt F .f32, bigSep Finset.univ fun s : Fin 8 => rAt c s.val f) := by
    unfold slots
    congr 1; funext f
    exact slots_all c f
  rw [e]
  refine BIBase.Entails.trans (BI.bigSep_mono fun s _ => ?_) (exists_intro (Φ := fun f : S8x128x8192.Idx → Elt F .f32 => bigSep Finset.univ fun s : Fin 8 => (rAt c s.val f : sProp 𝕄)) fun i => y (i 0) i)
  exact Entails.of_eq (pointsTo_congr fun i hi => by
      have e : i 0 = s := Fin.ext (mem_ringSet.1 hi)
      show y s i = y (i 0) i
      rw [e])

theorem ring_start : iprop((wX.view.loc (c : Thread nD τ) ↦{fullShare} (X : Buf (Elt F) (wX.view.loc (c : Thread nD τ)))) ∗ slots c ∗ sems8 c) ⊢ ring X c 0 0 := by
  have e : (ring X c 0 0) = iprop((bigSep Finset.univ fun b : Fin 32 => xR X c b.val) ∗ bigSep Finset.univ fun b : Fin 32 => if b.val / 8 = (0 : Fin 4).val then free (F := F) c (sl8 b.val) else BI.emp) := by
    refine Eq.trans (bigSep_congr fun b _ => ?_) (bigSep_sep' _ _ _)
    unfold bst
    rw [if_neg (Nat.not_lt_zero _), if_neg (Nat.not_lt_zero _)]
    by_cases h : b.val < 8
    · rw [if_pos h, if_pos (show b.val / 8 = (0 : Fin 4).val by change b.val / 8 = 0; omega)]
    · rw [if_neg h, if_neg (show ¬ b.val / 8 = (0 : Fin 4).val by change ¬ b.val / 8 = 0; omega)]
  rw [e, pick8 0 fun s => free (F := F) c s, x_rows]
  iintro ⟨HX, HS⟩
  isplitl [HX]; · iexact HX
  iapply (free_in (F := F) c) $$ HS

theorem ring_end : ring X c 32 40 ⊢ iprop((wX.view.loc (c : Thread nD τ) ↦{fullShare} (X : Buf (Elt F) (wX.view.loc (c : Thread nD τ)))) ∗ slots c ∗ sems8 c) := by
  have e : (ring X c 32 40) = iprop((bigSep Finset.univ fun b : Fin 32 => xR X c b.val) ∗ bigSep Finset.univ fun b : Fin 32 => if b.val / 8 = (3 : Fin 4).val then free (F := F) c (sl8 b.val) else BI.emp) := by
    refine Eq.trans (bigSep_congr fun b _ => ?_) (bigSep_sep' _ _ _)
    unfold bst
    have hb := b.isLt
    rw [if_pos hb]
    by_cases h : 24 ≤ b.val
    · rw [if_pos h, if_pos (show b.val / 8 = (3 : Fin 4).val by change b.val / 8 = 3; omega)]
    · rw [if_neg h, if_neg (show ¬ b.val / 8 = (3 : Fin 4).val by change ¬ b.val / 8 = 3; omega)]
  rw [e, pick8 3 fun s => free (F := F) c s, x_rows]
  iintro ⟨HX, HS⟩
  isplitl [HX]; · iexact HX
  iapply (free_out (F := F) c) $$ HS

theorem fire_step {n : ℕ} {off inb hs off' inb' hs' hq so si hw1 hw2 ht} (hoff : off = ![128 * n, 0]) (hoff' : off' = ![n % 8, 0, 0])
    (hso : so = ![n % 8]) (hn : Nat.ble (n + 1) 8 = true) {R : sProp 𝕄} {Q : PUnit → sProp 𝕄} (h : iprop(ring X c 0 (n + 1) ∗ R) ⊢ Q ⟨⟩) :
    iprop(ring X c 0 n ∗ R) ⊢ WT c (Prog.lift (.enqueueDma (srcM off inb hs) (.here (ringM off' inb' hs' hq)) (.dma (ringSem so si)) hw1 hw2 ht)) Q := by
  have hn' := Nat.le_of_ble_eq_true hn
  have hr := ring_next X c 0 n (Nat.zero_le _) (by omega)
  rw [if_pos (by omega)] at hr
  iintro ⟨HR, HH⟩
  ihave HR := hr $$ HR
  icases HR with ⟨HF, HR⟩
  iapply (fire_ring X c hoff hoff' hso) $$ [HF]
  · iexact HF
  iintro HF
  iapply h
  isplitl [HR HF]
  · iapply HR $$ HF
  iexact HH

/-- The region's result. -/
abbrev outV : S1x1.Idx → Elt F .f32 := k1_pay2 (accV X Tg 32)

abbrev oAt1 (f : S1x1.Idx → Elt F .f32) : sProp 𝕄 := wO.view.loc (c : Thread nD τ) ↦{fullShare} (f : Buf (Elt F) (wO.view.loc (c : Thread nD τ)))
abbrev xAt1 : sProp 𝕄 := wX.view.loc (c : Thread nD τ) ↦{fullShare} (X : Buf (Elt F) (wX.view.loc (c : Thread nD τ)))

theorem cc1_run {B : SemLoc sig × HIx 1 → Prop} (hB : ∀ s, B (s, default)) (f : S1x1.Idx → Elt F .f32) :
    iprop((xAt1 X c ∗ slots c ∗ sems8 c) ∗ tgt Tg c ∗ oAt1 c f ∗ owesIn c B)
      ⊢ WT c (cc1_body wX (Memref.isWhole_whole _) wT (hstage1_0 0) wO (hstage1_1 0) wB (Memref.isWhole_whole _) cc1_scratch1)
        fun _ => iprop((xAt1 X c ∗ slots c ∗ sems8 c) ∗ tgt Tg c ∗ oAt1 c (outV X Tg) ∗ owesIn c B) := by
  rw [cc1_body_eq_skeleton]
  unfold cc1_body_skel k1_part1
  refine BIBase.Entails.trans (sep_mono_left (ring_start X c)) ?_
  refine wt_bind c ?_
  iterate 5 (refine wt_bind c (fire_step X c rfl rfl rfl rfl ?_))
  refine wt_pure c ?_
  iterate 3 (refine wt_bind c (fire_step X c rfl rfl rfl rfl ?_))
  iintro ⟨HR, HT, HO, HW⟩
  iapply (wt_bind c (Entails.refl _))
  iapply (Scf.wp_for Idealize.ShloMosaic.frame (wpE (defs₀ (F := F)) 𝒱₀ (c : Thread nD τ) none) Set.univ k1_t1_loop.lb k1_t1_loop.ub k1_t1_loop.st k1_t1_ok
    (Scalar.ofBits .f32 0x00000000#32) _ (inv X Tg c B) (fun k acc => trip X Tg c hB k acc))
  isplitl [HR HT HW]
  · unfold inv
    isplitr; · ipureintro; rfl
    isplitl [HR]; · iexact HR
    isplitl [HT]; · iexact HT
    iexact HW
  iintro %acc HI
  rw [show Scf.trips k1_t1_loop.lb k1_t1_loop.ub k1_t1_loop.st = 32 from trips_32]
  unfold inv
  icases HI with ⟨%hacc, HR, HT, HW⟩
  subst hacc
  iapply (wt_bind c (Entails.refl _))
  iapply (wp_load 𝒱₀ (c : Thread nD τ) none Set.univ (defs := defs₀ (F := F)) (m := wO) (S := Finset.univ) (f := f) (Finset.subset_univ _)) $$ [HO]
  · iexact HO
  iintro HO
  rw [wp_ret]
  imodintro
  iapply (wt_bind c (Entails.refl _))
  iapply (wp_store 𝒱₀ (c : Thread nD τ) none Set.univ (defs := defs₀ (F := F)) (m := wO) (S := Finset.univ) (f := f) (Finset.subset_univ _)) $$ [HO]
  · iexact HO
  iintro HO
  rw [wp_ret]
  imodintro
  iapply (wt_pure c (Entails.refl _))
  isplitl [HR]
  · iapply (ring_end X c) $$ HR
  isplitl [HT]; · iexact HT
  isplitl [HO]
  · have e : (wO.access (Rect.unit (s := S1x1) ![0, 0] S1x1.size inb_S1x1_S1x1_0_0)).write (Elt F) f (outV X Tg) Finset.univ = outV X Tg :=
      Memref.write_access_unit_zero_univ (Elt F) cc1_stg1_0 (by funext a; fin_cases a <;> rfl) _ f (outV X Tg)
    rw [← e]
    iexact HO
  iexact HW

end Cert.Proof.KernelIdeal
-- ==== Proof.KernelIdeal.Cc2.lean ====
module

public import proofs.«01_k».proof.Proof.KernelIdeal.Cc1b

@[expose] public section

noncomputable section

namespace Cert.Proof.KernelIdeal

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

/-! # The second kernel of the TensorCore: one straight run -/

variable {F : FTy → Type} [FloatOps F] [Named F]

local notation "𝕄" => MT nD τ sig (HIx 1) (Elt F) ℕ UU ℕ

variable (Tg : S32x1x128.Idx → BitVec 32) (G : S32x128x128.Idx → Elt F .f32) (A : S1x1.Idx → Elt F .f32) (c : Dev nD)

abbrev zT : Memref sig .tc .vmem S32x1x128 .i32 := win2_0.stage 0
abbrev zG : Memref sig .tc .vmem S32x128x128 .f32 := win2_1.stage 0
abbrev zA : Memref sig .tc .vmem S1x1 .f32 := win2_2.stage 0
abbrev zO : Memref sig .tc .vmem S1x1 .f32 := win2_3.stage 0

abbrev zTAt : sProp 𝕄 := zT.view.loc (c : Thread nD τ) ↦{fullShare} (Tg : Buf (Elt F) (zT.view.loc (c : Thread nD τ)))
abbrev zGAt : sProp 𝕄 := zG.view.loc (c : Thread nD τ) ↦{fullShare} (G : Buf (Elt F) (zG.view.loc (c : Thread nD τ)))
abbrev zAAt : sProp 𝕄 := zA.view.loc (c : Thread nD τ) ↦{fullShare} (A : Buf (Elt F) (zA.view.loc (c : Thread nD τ)))
abbrev zOAt (f : S1x1.Idx → Elt F .f32) : sProp 𝕄 := zO.view.loc (c : Thread nD τ) ↦{fullShare} (f : Buf (Elt F) (zO.view.loc (c : Thread nD τ)))

/-- A load of a whole buffer held whole. -/
theorem ld_whole {sh : Shape} {e : EltTy} {sp : CoreSpace} {m : Memref sig .tc sp sh e} {r : LoadRect sh} {hl : m.view.LoadsAt r}
    {f : Buf (Elt F) (m.view.loc (c : Thread nD τ))} {v : r.shape.Idx → Elt F e} (hv : m.view.readAt (Elt F) r f = v)
    {Q : (r.shape.Idx → Elt F e) → sProp 𝕄} :
    (m.view.loc (c : Thread nD τ) ↦{fullShare} f : sProp 𝕄)
      ⊢ iprop(((m.view.loc (c : Thread nD τ) ↦{fullShare} f) -∗ Q v) -∗ WT c (Prog.lift (TpuEff.load (nD := nD) (τ := τ) (Λ := Λ₀) (p := .tc) m r hl)) Q) := by
  subst hv
  iintro H Hk
  iapply (wp_load 𝒱₀ (c : Thread nD τ) none Set.univ (defs := defs₀ (F := F)) (m := m) (S := Finset.univ) (f := f) (Finset.subset_univ _)) $$ [H]
  · iexact H
  iintro H
  rw [wp_ret]
  imodintro
  iapply Hk
  iexact H

/-- A store of a whole buffer held whole. -/
theorem st_whole {sh : Shape} {e : EltTy} {sp : CoreSpace} {m : Memref sig .tc sp sh e} {r : Rect sh} {v : r.shape.Idx → Elt F e} {hx : (m.access r).Stores Finset.univ} {hm}
    {f w : Buf (Elt F) (m.view.loc (c : Thread nD τ))} (hv : (m.access r).write (Elt F) f v Finset.univ = w)
    {Q : PUnit → sProp 𝕄} :
    (m.view.loc (c : Thread nD τ) ↦{fullShare} f : sProp 𝕄)
      ⊢ iprop(((m.view.loc (c : Thread nD τ) ↦{fullShare} w) -∗ Q ⟨⟩) -∗ WT c (Prog.lift (TpuEff.store (nD := nD) (τ := τ) (Λ := Λ₀) (p := .tc) m r v Finset.univ hx hm)) Q) := by
  subst hv
  iintro H Hk
  iapply (wp_store 𝒱₀ (c : Thread nD τ) none Set.univ (defs := defs₀ (F := F)) (m := m) (S := Finset.univ) (f := f) (Finset.subset_univ _)) $$ [H]
  · iexact H
  iintro H
  rw [wp_ret]
  imodintro
  iapply Hk
  iexact H

theorem z3 : (![0, 0, 0] : Fin 3 → ℕ) = fun _ => 0 := by funext a; fin_cases a <;> rfl
theorem z2 : (![0, 0] : Fin 2 → ℕ) = fun _ => 0 := by funext a; fin_cases a <;> rfl

theorem cc2_run (f : S1x1.Idx → Elt F .f32) :
    iprop(zTAt (F := F) Tg c ∗ zGAt G c ∗ zAAt A c ∗ zOAt c f)
      ⊢ WT c (cc2_body (win2_0.stage 0) (hstage2_0 0) (win2_1.stage 0) (hstage2_1 0) (win2_2.stage 0) (hstage2_2 0) (win2_3.stage 0) (hstage2_3 0))
        fun _ => iprop(zTAt Tg c ∗ zGAt G c ∗ zAAt A c ∗ zOAt c (k2_pay1 Tg G A)) := by
  rw [cc2_body_eq_skeleton]
  unfold cc2_body_skel
  iintro ⟨HT, HG, HA, HO⟩
  iapply (wt_bind c (Entails.refl _))
  iapply (ld_whole c (m := zT) (f := Tg) (Memref.readAt_unit_zero (Elt F) cc2_stg0_0 z3 _ Tg)) $$ HT
  iintro HT
  iapply (wt_bind c (Entails.refl _))
  iapply (ld_whole c (m := zG) (f := G) (Memref.readAt_unit_zero (Elt F) cc2_stg1_0 z3 _ G)) $$ HG
  iintro HG
  iapply (wt_bind c (Entails.refl _))
  iapply (ld_whole c (m := zA) (f := A) (Memref.readAt_unit_zero (Elt F) cc2_stg2_0 z2 _ A)) $$ HA
  iintro HA
  iapply (wt_bind c (Entails.refl _))
  iapply (ld_whole c (m := zO) (f := f) (Memref.readAt_unit_zero (Elt F) cc2_stg3_0 z2 _ f)) $$ HO
  iintro HO
  iapply (wt_bind c (Entails.refl _))
  iapply (st_whole c (m := zO) (f := f) (w := k2_pay1 Tg G A) (Memref.write_access_unit_zero_univ (Elt F) cc2_stg3_0 z2 _ f (k2_pay1 Tg G A))) $$ HO
  iintro HO
  iapply (wt_pure c (Entails.refl _))
  isplitl [HT]; · iexact HT
  isplitl [HG]; · iexact HG
  isplitl [HA]; · iexact HA
  iexact HO

end Cert.Proof.KernelIdeal
-- ==== Proof.KernelIdeal.TcReg.lean ====
module

public import proofs.«01_k».proof.Proof.KernelIdeal.Cc2
public import proofs.«01_k».proof.Proof.Gen.KernelIdeal.Launch
public import Idealize.ShloMosaic.Lib.Pipeline.Value

@[expose] public section

noncomputable section

namespace Cert.Proof.KernelIdeal

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

/-! # The two regions of the TensorCore over the buffers they use -/

variable {F : FTy → Type} [FloatOps F] [Named F]

local notation "𝕄" => MT nD τ sig (HIx 1) (Elt F) ℕ UU ℕ

open Idealize.ShloMosaic.Pipeline (Dat Cfg Window BodyObligation cellOf)

variable (X : S4096x8192.Idx → Elt F .f32) (Tg : S32x1x128.Idx → BitVec 32) (f4 : S1x1.Idx → Elt F .f32)
  (G : S32x128x128.Idx → Elt F .f32) (A : S1x1.Idx → Elt F .f32) (f8 : S1x1.Idx → Elt F .f32)

/-- The waits a core may have behind it by the time of the regions. -/
def Bd (c : Dev nD) : Set (SemLoc sig × HIx 1) := {p | (K (F := F)).lev ((c : Thread nD τ), p.1) p.2 ≤ 8}

theorem Bd_none (c : Dev nD) (s : SemLoc sig) : (s, (none : HIx 1)) ∈ Bd (F := F) c := Nat.zero_le 8

/-- What the core owes: nothing, whatever it waited for. -/
def owesB (c : Dev nD) : sProp 𝕄 := Pipeline.owesWithin c (0 : CellTallies nD τ sig (HIx 1)) (Bd (F := F) c)

def junk {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- A run used inside another. -/
theorem wt_use {c : Dev nD} {p : Prog (TpuEff nD τ sig (Elt F) Λ₀ .tc) PUnit} {P P' : sProp 𝕄} {Q : PUnit → sProp 𝕄}
    (h : P ⊢ WT c p fun _ => P') : P ⊢ iprop((P' -∗ Q ⟨⟩) -∗ WT c p Q) := by
  iintro HP Hk
  ihave H := h $$ HP
  unfold WT
  iapply (wp_wand Idealize.ShloMosaic.frame (wpE (defs₀ (F := F)) 𝒱₀ (c : Thread nD τ) none) Set.univ) $$ H
  iintro %a HP'
  iapply Hk
  iexact HP'

/-! ## The first region -/

/-- What the kernel holds beside its windows. -/
def Φ1 (c : Dev nD) : sProp 𝕄 :=
  iprop(xAt1 X c ∗ sems8 (F := F) c ∗ Pipeline.scopedRest (Ix := HIx 1) (Name := ℕ) (U := UU) (Lvl := ℕ) (Val := Elt F) spec1 c)

def stg1 : (cfg1.win 0).block.Idx → Elt F (cfg1.win 0).elt := ((cfg1.win 0).blk t1_0).view.read (Elt F) Tg

theorem stg1_eq : stg1 (F := F) Tg = Tg := by
  unfold stg1
  exact Memref.read_access_unit_zero (Elt F) main_v2 (by funext a; fin_cases a <;> rfl) _ Tg

/-- What the region leaves in its result. -/
def o1 : S1x1.Idx → Elt F .f32 := outV X Tg

/-- The scoped buffers of the other region. -/
def R1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f))

theorem rest1 (c : Dev nD) : (Pipeline.scopedRest (Ix := HIx 1) (Name := ℕ) (U := UU) (Lvl := ℕ) (Val := Elt F) spec1 c : sProp 𝕄) = iprop(slots (F := F) c ∗ R1 (F := F) c) :=
  scopedRest1_eq c

def dat1 (c : Dev nD) : Dat τ (Elt F) (HIx 1) ℕ UU ℕ cfg1 c where
  A w := match w with
    | ⟨0, _⟩ => Tg
    | ⟨1, _⟩ => f4
  after w _ := match w with
    | ⟨0, _⟩ => Tg
    | ⟨1, _⟩ => o1 X Tg
  Φ _ := Φ1 X c
  q _ := fullShare
  owed _ := 0
  recorded _ := Bd (F := F) c

theorem before1 (c : Dev nD) (d : (cfg1.win 0).block.Idx → Elt F (cfg1.win 0).elt) : (dat1 X Tg f4 c).before 0 t1_0 d = Tg := by
  unfold Dat.before; rw [if_pos (by decide)]; exact stg1_eq (F := F) Tg

def Bw (c : Dev nD) : SemLoc sig × HIx 1 → Prop := fun p => p ∈ Bd (F := F) c ∪ cfg1.waitPairs (none : HIx 1)

theorem owes1 (c : Dev nD) (t) : (dat1 X Tg f4 c).owesAt none t = owesIn c (Bw (F := F) c) := rfl

theorem body1 (c : Dev nD) : BodyObligation (dat1 X Tg f4 c) (defs₀ (F := F)) 𝒱₀ (none : HIx 1) Set.univ := fun t => by
  obtain rfl := fin_N1 t
  rw [bigSep_W1, bigSep_W1]
  simp only [owns_whole_eq]
  rw [show (dat1 X Tg f4 c).Φ t1_0.castSucc = Φ1 X c from rfl, show (dat1 X Tg f4 c).Φ t1_0.succ = Φ1 X c from rfl,
    show (dat1 X Tg f4 c).owesAt none t1_0.succ = (dat1 X Tg f4 c).owesAt none t1_0.castSucc from rfl]
  unfold Φ1
  rw [rest1, owes1]
  have run : ∀ f, iprop((xAt1 X c ∗ slots c ∗ sems8 c) ∗ tgt Tg c ∗ oAt1 c f ∗ owesIn c (Bw (F := F) c))
      ⊢ WT c (cc1_body wX (Memref.isWhole_whole _) wT (hstage1_0 0) wO (hstage1_1 0) wB (Memref.isWhole_whole _) cc1_scratch1)
        fun _ => iprop((xAt1 X c ∗ slots c ∗ sems8 c) ∗ tgt Tg c ∗ oAt1 c (o1 X Tg) ∗ owesIn c (Bw (F := F) c)) :=
    fun f => cc1_run X Tg c (fun s => Or.inl (Bd_none c _)) f
  iintro ⟨⟨HX, HB, HS'⟩, HO, ⟨%d0, %f0, %hf0, H0⟩, ⟨%d1, %f1, -, H1⟩⟩
  rw [before1] at hf0
  subst hf0
  icases HS' with ⟨HS, HR⟩
  iapply (wt_use (run f1)) $$ [HX HS HB H0 H1 HO]
  · isplitl [HX HS HB]
    · isplitl [HX]; · iexact HX
      isplitl [HS]; · iexact HS
      iexact HB
    isplitl [H0]; · iexact H0
    isplitl [H1]; · iexact H1
    iexact HO
  iintro ⟨⟨HX, HS, HB⟩, H0, H1, HO⟩
  isplitl [HX HS HB HR]
  · isplitl [HX]; · iexact HX
    isplitl [HB]; · iexact HB
    isplitl [HS]; · iexact HS
    iexact HR
  isplitl [HO]; · iexact HO
  isplitl [H0]
  · iexists _; isplitr; swap; (· iexact H0); ipureintro; rfl
  iexists _; isplitr; swap; (· iexact H1); ipureintro; rfl

theorem arr1_last (c : Dev nD) : (dat1 X Tg f4 c).arrAt 1 cfg1.N = o1 X Tg := by
  refine Dat.arrAt_eq_of_cover (dat1 X Tg f4 c) 1 (o1 X Tg) (fun t _ => ?_) (fun i => ⟨t1_0, by decide, ?_⟩)
  · obtain rfl := fin_N1 t
    exact (Memref.read_access_unit_zero (Elt F) main_v4 (by funext a; fin_cases a <;> rfl) _ (o1 X Tg)).symm
  · rw [show ((cfg1.win 1).blk t1_0).view.set = _ from View.set_slice_whole main_v4 _, Rect.mem_set_unit]
    intro a
    exact ⟨by fin_cases a <;> exact Nat.zero_le _, by fin_cases a <;> exact (i _).isLt⟩

abbrev adm : (p : Fin 2) → (pcfgs (F := F) p).Adm := fun p => (cfgs p).toPCfg_adm

def pdats1 : (p : Fin 2) → (c : Dev nD) → Dat τ (Elt F) (HIx 1) ℕ UU ℕ (Pipeline.pin (pcfgs (F := F)) adm p) c
  | ⟨0, _⟩ => fun c => dat1 X Tg f4 c
  | ⟨1, _⟩ => fun c => junk c

abbrev hAt2 (c : Dev nD) : sProp 𝕄 := ((c : Thread nD τ).loc main_v2) ↦{fullShare} (Tg : Buf (Elt F) ((c : Thread nD τ).loc main_v2))
abbrev hAt4 (c : Dev nD) (f : S1x1.Idx → Elt F .f32) : sProp 𝕄 := ((c : Thread nD τ).loc main_v4) ↦{fullShare} (f : Buf (Elt F) ((c : Thread nD τ).loc main_v4))

theorem arrays1 (c : Dev nD) (Fs) : (pdats1 X Tg f4 0 c).arrays Fs = iprop((((c : Thread nD τ).loc main_v2) ↦{fullShare} Fs 0) ∗ (((c : Thread nD τ).loc main_v4) ↦{fullShare} Fs 1)) := by
  have h := Pipeline.arrays_eq (Pipeline.pin (pcfgs (F := F)) adm) (pdats1 X Tg f4) 0 c (launch1).arr_whole ((pdats1 X Tg f4 0 c).share_full fun _ => rfl) Fs
  rw [h]
  exact bigSep_W1 _

theorem own1 : Pipeline.OwnSemFacts spec1 (fun s : Fin 8 => SemLoc.dma (rsem s)) := by decide

theorem owns1 (c : Dev nD) : (Pipeline.ownSems0 (Ix := HIx 1) (Name := ℕ) (U := UU) (Lvl := ℕ) (Val := Elt F) (τ := τ) (fun s : Fin 8 => SemLoc.dma (rsem s)) c : sProp 𝕄) = sems8 (F := F) c := rfl
theorem owesAt1 (c : Dev nD) (t) : (pdats1 X Tg f4 0 c).owesAt none t = owesIn c (Bw (F := F) c) := rfl

set_option backward.isDefEq.respectTransparency.types false in
def reg1 : Pipeline.RegionSeg (pcfgs (F := F)) adm (pdats1 X Tg f4) (none : HIx 1) defs₀ 𝒱₀ (K (F := F)).L (K (F := F)).lev 0 where
  win := (launch1).win.to₀
  block_pos := (launch1).block_pos
  stage_whole := (launch1).stage_whole
  K := Fin 8
  osem s := .dma (rsem s)
  ho := own1
  hbody c := (body1 X Tg f4 c).loose
  hwaits := Pipeline.hwaits_of_owed_zero _ _ _ _ (K (F := F)).L (K (F := F)).lev 0 fun _ _ => rfl
  pre c := iprop(hAt2 (F := F) Tg c ∗ hAt4 c f4 ∗ xAt1 X c ∗ owesIn c (Bw (F := F) c))
  post c := iprop(hAt2 (F := F) Tg c ∗ hAt4 c (o1 X Tg) ∗ xAt1 X c ∗ owesIn c (Bw (F := F) c))
  X c := iprop(xAt1 X c ∗ sems8 (F := F) c)
  Y c := xAt1 X c
  Z _ := BI.emp
  hentry c := by
    rw [arrays1, owns1, owesAt1]
    iintro ⟨⟨H2, H4, HX, HO⟩, HS, -⟩
    imodintro
    isplitl [H2 H4]
    · isplitl [H2]; · iexact H2
      iexact H4
    isplitr; · unfold Pipeline.prefHeld; rw [show (Finset.univ : Finset (Fin 0)) = ∅ from rfl, BI.bigSep_empty]; iempintro
    isplitl [HO]; · iexact HO
    isplitl [HX HS]
    · isplitl [HX]; · iexact HX
      iexact HS
    iempintro
  hin c := by
    rw [show (pdats1 X Tg f4 0 c).Φ 0 = Φ1 X c from rfl]
    unfold Φ1
    iintro ⟨⟨HX, HS⟩, -, Hr⟩
    isplitl [HX]; · iexact HX
    isplitl [HS]; · iexact HS
    iexact Hr
  hout c := by
    rw [show (pdats1 X Tg f4 0 c).Φ (Fin.last _) = Φ1 X c from rfl]
    unfold Φ1
    rw [owns1]
    iintro ⟨HX, HS, Hr⟩
    isplitl [HX]; · iexact HX
    isplitl [HS]; · iexact HS
    iexact Hr
  hexit c := by
    rw [arrays1, owesAt1]
    rw [show (pdats1 X Tg f4 0 c).arrAt 1 (Pipeline.pin (pcfgs (F := F)) adm 0).N = o1 X Tg from arr1_last X Tg f4 c,
      show (pdats1 X Tg f4 0 c).arrAt 0 (Pipeline.pin (pcfgs (F := F)) adm 0).N = Tg from (dat1 X Tg f4 c).arrAt_in 0 rfl _]
    iintro ⟨⟨H2, H4⟩, HO, HX, -⟩
    imodintro
    isplitl [H2]; · iexact H2
    isplitl [H4]; · iexact H4
    isplitl [HX]; · iexact HX
    iexact HO

/-! ## The second region -/

/-- What the kernel holds beside its windows: the other region's scoped buffers. -/
def Φ2 (c : Dev nD) : sProp 𝕄 := Pipeline.scopedRest (Ix := HIx 1) (Name := ℕ) (U := UU) (Lvl := ℕ) (Val := Elt F) spec2 c

/-- What the region leaves in its result. -/
def o2 : S1x1.Idx → Elt F .f32 := k2_pay1 Tg G A

def dat2 (c : Dev nD) : Dat τ (Elt F) (HIx 1) ℕ UU ℕ cfg2 c where
  A w := match w with
    | ⟨0, _⟩ => Tg
    | ⟨1, _⟩ => G
    | ⟨2, _⟩ => A
    | ⟨3, _⟩ => f8
  after w _ := match w with
    | ⟨0, _⟩ => Tg
    | ⟨1, _⟩ => G
    | ⟨2, _⟩ => A
    | ⟨3, _⟩ => o2 Tg G A
  Φ _ := Φ2 (F := F) c
  q _ := fullShare
  owed _ := 0
  recorded _ := Bd (F := F) c

theorem stg2_0 : ((cfg2.win 0).blk t2_0).view.read (Elt F) Tg = Tg :=
  Memref.read_access_unit_zero (Elt F) main_v2 (by funext a; fin_cases a <;> rfl) _ Tg
theorem stg2_1 : ((cfg2.win 1).blk t2_0).view.read (Elt F) G = G :=
  Memref.read_access_unit_zero (Elt F) main_v6 (by funext a; fin_cases a <;> rfl) _ G
theorem stg2_2 : ((cfg2.win 2).blk t2_0).view.read (Elt F) A = A :=
  Memref.read_access_unit_zero (Elt F) main_v7 (by funext a; fin_cases a <;> rfl) _ A
theorem before2_0 (c : Dev nD) (d : (cfg2.win 0).block.Idx → Elt F (cfg2.win 0).elt) : (dat2 Tg G A f8 c).before 0 t2_0 d = Tg := by
  unfold Dat.before; rw [if_pos (by decide)]; exact stg2_0 (F := F) Tg
theorem before2_1 (c : Dev nD) (d : (cfg2.win 1).block.Idx → Elt F (cfg2.win 1).elt) : (dat2 Tg G A f8 c).before 1 t2_0 d = G := by
  unfold Dat.before; rw [if_pos (by decide)]; exact stg2_1 G
theorem before2_2 (c : Dev nD) (d : (cfg2.win 2).block.Idx → Elt F (cfg2.win 2).elt) : (dat2 Tg G A f8 c).before 2 t2_0 d = A := by
  unfold Dat.before; rw [if_pos (by decide)]; exact stg2_2 A

theorem body2 (c : Dev nD) : BodyObligation (dat2 Tg G A f8 c) (defs₀ (F := F)) 𝒱₀ (none : HIx 1) Set.univ := fun t => by
  obtain rfl := fin_N2 t
  rw [bigSep_W2, bigSep_W2]
  simp only [owns_whole_eq]
  rw [show (dat2 Tg G A f8 c).Φ t2_0.castSucc = Φ2 (F := F) c from rfl, show (dat2 Tg G A f8 c).Φ t2_0.succ = Φ2 (F := F) c from rfl,
    show (dat2 Tg G A f8 c).owesAt none t2_0.succ = (dat2 Tg G A f8 c).owesAt none t2_0.castSucc from rfl]
  have run : ∀ f, iprop(zTAt (F := F) Tg c ∗ zGAt G c ∗ zAAt A c ∗ zOAt c f)
      ⊢ WT c (cc2_body (win2_0.stage 0) (hstage2_0 0) (win2_1.stage 0) (hstage2_1 0) (win2_2.stage 0) (hstage2_2 0) (win2_3.stage 0) (hstage2_3 0))
        fun _ => iprop(zTAt Tg c ∗ zGAt G c ∗ zAAt A c ∗ zOAt c (o2 Tg G A)) := fun f => cc2_run Tg G A c f
  iintro ⟨HΦ, HO, ⟨%d0, %f0, %hf0, H0⟩, ⟨%d1, %f1, %hf1, H1⟩, ⟨%d2, %f2, %hf2, H2⟩, ⟨%d3, %f3, -, H3⟩⟩
  rw [before2_0] at hf0
  rw [before2_1] at hf1
  rw [before2_2] at hf2
  subst hf0 hf1 hf2
  iapply (wt_use (run f3)) $$ [H0 H1 H2 H3]
  · isplitl [H0]; · iexact H0
    isplitl [H1]; · iexact H1
    isplitl [H2]; · iexact H2
    iexact H3
  iintro ⟨H0, H1, H2, H3⟩
  isplitl [HΦ]; · iexact HΦ
  isplitl [HO]; · iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  iexists _; isplitr; swap; (· iexact H3); ipureintro; rfl

theorem arr2_last (c : Dev nD) : (dat2 Tg G A f8 c).arrAt 3 cfg2.N = o2 Tg G A := by
  refine Dat.arrAt_eq_of_cover (dat2 Tg G A f8 c) 3 (o2 Tg G A) (fun t _ => ?_) (fun i => ⟨t2_0, by decide, ?_⟩)
  · obtain rfl := fin_N2 t
    exact (Memref.read_access_unit_zero (Elt F) main_v8 (by funext a; fin_cases a <;> rfl) _ (o2 Tg G A)).symm
  · rw [show ((cfg2.win 3).blk t2_0).view.set = _ from View.set_slice_whole main_v8 _, Rect.mem_set_unit]
    intro a
    exact ⟨by fin_cases a <;> exact Nat.zero_le _, by fin_cases a <;> exact (i _).isLt⟩

def pdats2 : (p : Fin 2) → (c : Dev nD) → Dat τ (Elt F) (HIx 1) ℕ UU ℕ (Pipeline.pin (pcfgs (F := F)) adm p) c
  | ⟨0, _⟩ => fun c => junk c
  | ⟨1, _⟩ => fun c => dat2 Tg G A f8 c

abbrev hAt6 (c : Dev nD) : sProp 𝕄 := ((c : Thread nD τ).loc main_v6) ↦{fullShare} (G : Buf (Elt F) ((c : Thread nD τ).loc main_v6))
abbrev hAt7 (c : Dev nD) : sProp 𝕄 := ((c : Thread nD τ).loc main_v7) ↦{fullShare} (A : Buf (Elt F) ((c : Thread nD τ).loc main_v7))
abbrev hAt8 (c : Dev nD) (f : S1x1.Idx → Elt F .f32) : sProp 𝕄 := ((c : Thread nD τ).loc main_v8) ↦{fullShare} (f : Buf (Elt F) ((c : Thread nD τ).loc main_v8))

theorem arrays2 (c : Dev nD) (Fs) : (pdats2 Tg G A f8 1 c).arrays Fs = iprop((((c : Thread nD τ).loc main_v2) ↦{fullShare} Fs 0) ∗ (((c : Thread nD τ).loc main_v6) ↦{fullShare} Fs 1)
    ∗ (((c : Thread nD τ).loc main_v7) ↦{fullShare} Fs 2) ∗ (((c : Thread nD τ).loc main_v8) ↦{fullShare} Fs 3)) := by
  have h := Pipeline.arrays_eq (Pipeline.pin (pcfgs (F := F)) adm) (pdats2 Tg G A f8) 1 c launch2.arr_whole ((pdats2 Tg G A f8 1 c).share_full fun _ => rfl) Fs
  rw [h]
  exact bigSep_W2 _

def Bw2 (c : Dev nD) : SemLoc sig × HIx 1 → Prop := fun p => p ∈ Bd (F := F) c ∪ cfg2.waitPairs (none : HIx 1)
theorem owesAt2 (c : Dev nD) (t) : (pdats2 Tg G A f8 1 c).owesAt none t = owesIn c (Bw2 (F := F) c) := rfl

set_option backward.isDefEq.respectTransparency.types false in
def reg2 : Pipeline.RegionSeg (pcfgs (F := F)) adm (pdats2 Tg G A f8) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 Tg G A f8 c).loose
  hwaits := Pipeline.hwaits_of_owed_zero _ _ _ _ (K (F := F)).L (K (F := F)).lev 1 fun _ _ => rfl
  pre c := iprop(hAt2 (F := F) Tg c ∗ hAt6 G c ∗ hAt7 A c ∗ hAt8 c f8 ∗ owesIn c (Bw2 (F := F) c))
  post c := iprop(hAt2 (F := F) Tg c ∗ hAt6 G c ∗ hAt7 A c ∗ hAt8 c (o2 Tg G A) ∗ owesIn c (Bw2 (F := F) c))
  X _ := BI.emp
  Y _ := BI.emp
  Z _ := BI.emp
  hentry c := by
    rw [arrays2, Pipeline.ownSems0_none, owesAt2]
    iintro ⟨⟨H2, H6, H7, H8, HO⟩, -, -⟩
    imodintro
    isplitl [H2 H6 H7 H8]
    · isplitl [H2]; · iexact H2
      isplitl [H6]; · iexact H6
      isplitl [H7]; · iexact H7
      iexact H8
    isplitr; · unfold Pipeline.prefHeld; rw [show (Finset.univ : Finset (Fin 0)) = ∅ from rfl, BI.bigSep_empty]; iempintro
    isplitl [HO]; · iexact HO
    isplitr <;> iempintro
  hin c := by
    rw [show (pdats2 Tg G A f8 1 c).Φ 0 = Φ2 (F := F) c from rfl]
    unfold Φ2
    iintro ⟨-, -, Hr⟩
    iexact Hr
  hout c := by
    rw [Pipeline.ownSems0_none, show (pdats2 Tg G A f8 1 c).Φ (Fin.last _) = Φ2 (F := F) c from rfl]
    unfold Φ2
    iintro Hr
    isplitr; · iempintro
    isplitr; · iempintro
    iexact Hr
  hexit c := by
    rw [arrays2, owesAt2]
    rw [show (pdats2 Tg G A f8 1 c).arrAt 3 (Pipeline.pin (pcfgs (F := F)) adm 1).N = o2 Tg G A from arr2_last Tg G A f8 c,
      show (pdats2 Tg G A f8 1 c).arrAt 0 (Pipeline.pin (pcfgs (F := F)) adm 1).N = Tg from (dat2 Tg G A f8 c).arrAt_in 0 rfl _,
      show (pdats2 Tg G A f8 1 c).arrAt 1 (Pipeline.pin (pcfgs (F := F)) adm 1).N = G from (dat2 Tg G A f8 c).arrAt_in 1 rfl _,
      show (pdats2 Tg G A f8 1 c).arrAt 2 (Pipeline.pin (pcfgs (F := F)) adm 1).N = A from (dat2 Tg G A f8 c).arrAt_in 2 rfl _]
    iintro ⟨⟨H2, H6, H7, H8⟩, HO, -, -⟩
    imodintro
    isplitl [H2]; · iexact H2
    isplitl [H6]; · iexact H6
    isplitl [H7]; · iexact H7
    isplitl [H8]; · iexact H8
    iexact HO

end Cert.Proof.KernelIdeal
-- ==== Proof.KernelIdeal.Host.lean ====
module

public import proofs.«01_k».proof.Proof.KernelIdeal.ScObl
public import proofs.«01_k».proof.Proof.KernelIdeal.TcReg
public import Idealize.ShloMosaic.Lib.SparseCore.Quiescent
public import Idealize.ShloMosaic.Lib.StableHlo.Run

@[expose] public section

noncomputable section

namespace Cert.Proof.KernelIdeal

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

/-! # The steps of `@main`: a reshape, a region, what the core owes between them -/

variable {F : FTy → Type} [FloatOps F] [Named F]

local notation "𝕄" => MT nD τ sig (HIx 1) (Elt F) ℕ UU ℕ

/-- A run of `@main`'s effects on device `d`'s TensorCore. -/
abbrev WM (d : Dev nD) {α : Type} (p : Prog (TpuEff nD τ sig (Elt F) (SparseCore.Sig (ΛP (F := F)) 1) .tc) α) (Q : α → sProp 𝕄) : sProp 𝕄 :=
  wp frame (wpE ((K (F := F)).defs (D (F := F))) 𝒱 (SparseCore.T d) none) Set.univ p Q

theorem wm_bind (d : Dev nD) {α β : Type} {p : Prog (TpuEff nD τ sig (Elt F) (SparseCore.Sig (ΛP (F := F)) 1) .tc) α}
    {k : α → Prog (TpuEff nD τ sig (Elt F) (SparseCore.Sig (ΛP (F := F)) 1) .tc) β} {Q : β → sProp 𝕄} {A : sProp 𝕄}
    (h : A ⊢ WM d p fun a => WM d (k a) Q) : A ⊢ WM d (p >>= k) Q := by
  unfold WM; rw [wp_bind]; exact h

theorem wm_pure (d : Dev nD) {α : Type} {a : α} {Q : α → sProp 𝕄} {A : sProp 𝕄} (h : A ⊢ Q a) : A ⊢ WM (F := F) d (pure a) Q := by
  unfold WM; rw [wp_pure]; exact h.trans fupd_intro

/-- The buffer `x` whole at contents `f`. -/
abbrev at1 (d : Dev nD) (x : Ref sig .tc) (f : x.ty.Contents (Elt F)) : sProp 𝕄 := ((SparseCore.T d : Thread nD τ).loc x) ↦{fullShare} (f : Buf (Elt F) ((SparseCore.T d : Thread nD τ).loc x))

/-- A reshape writes its operand's elements at its result's shape. -/
theorem wm_reshape (d : Dev nD) (x y : Ref sig .tc) (he : x.ty.elt = y.ty.elt) (hn : x.ty.shape.ShapeCasts y.ty.shape) (hx) (hy)
    (hxy : (x : DevRef τ sig) ≠ y) (V₀ : Valuation τ sig (Elt F)) (f : x.ty.Contents (Elt F)) (g g' : y.ty.Contents (Elt F))
    (hg : g' = fun i => he ▸ shapeCast y.ty.shape f hn i) {R : sProp 𝕄} {Q : PUnit → sProp 𝕄}
    (h : iprop(boundary (SparseCore.T d) ∗ at1 d x f ∗ at1 d y g' ∗ R) ⊢ Q ⟨⟩) :
    iprop(boundary (SparseCore.T d) ∗ at1 d x f ∗ at1 d y g ∗ R) ⊢ WM d (hlo rfl (StableHlo.reshape x y he hn hx hy) fun _ => .ret ⟨⟩) Q := by
  let V : Valuation τ sig (Elt F) := Function.update (Function.update V₀ (x : DevRef τ sig) f) (y : DevRef τ sig) g
  have hVx : V x = f := (Function.update_of_ne hxy _ _).trans (Function.update_self _ _ _)
  have hVy : V y = g := Function.update_self _ _ _
  have hbufs : ∀ W : Valuation τ sig (Elt F), (bigSep ({(x : DevRef τ sig), (y : DevRef τ sig)} : Finset _) (fun b => ((SparseCore.T d : Thread nD τ).1, b) ↦{fullShare} W b) : sProp 𝕄)
      = iprop(at1 d x (W x) ∗ at1 d y (W y)) := fun W => by
    rw [SparseCore.bigSep_insert' (by rw [Finset.mem_singleton]; exact hxy), bigSep_singleton]
  have hRx : (StableHlo.reshape x y he hn hx hy : HloOp τ sig (Elt F)).result V x = f :=
    (HloOp.result_of_not_mem _ V (show (x : DevRef τ sig) ∉ ({(y : DevRef τ sig)} : Finset _) by rw [Finset.mem_singleton]; exact hxy)).trans hVx
  have hRy : (StableHlo.reshape x y he hn hx hy : HloOp τ sig (Elt F)).result V y = g' :=
    (StableHlo.reshape_result x y he hn hx hy V).trans (by rw [hVx, hg])
  unfold WM
  iintro ⟨Hb, Hx, Hy, HR⟩
  iapply (wp_hlo 𝒱 (SparseCore.T d) none Set.univ (op := StableHlo.reshape x y he hn hx hy) (q := fun _ => fullShare) (F := V) (fun _ _ => rfl)) $$ [Hb Hx Hy]
  · isplitl [Hb]; · iexact Hb
    rw [show (StableHlo.reshape x y he hn hx hy : HloOp τ sig (Elt F)).bufs = ({(x : DevRef τ sig), (y : DevRef τ sig)} : Finset _) from rfl, hbufs, hVx, hVy]
    isplitl [Hx]; · iexact Hx
    iexact Hy
  rw [show (StableHlo.reshape x y he hn hx hy : HloOp τ sig (Elt F)).bufs = ({(x : DevRef τ sig), (y : DevRef τ sig)} : Finset _) from rfl, hbufs, hRx, hRy]
  iintro ⟨Hb, Hx, Hy⟩
  rw [wp_ret]; imodintro
  iapply h
  isplitl [Hb]; · iexact Hb
  isplitl [Hx]; · iexact Hx
  isplitl [Hy]; · iexact Hy
  iexact HR

/-! ## The regions -/

abbrev EP : Emb (URounds (GSem nD τ sig) Unit) (MT nD τ sig (HIx 1) (Elt F) ℕ UU ℕ) :=
  (Emb.inl : Emb (URounds (GSem nD τ sig) Unit) (URounds (GSem nD τ sig) Unit × Counters)).trans embR

/-- What the launch deals device `d` for region `p`. -/
def Gp (p : Fin 2) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)

theorem wm_region (p : Fin 2) (d : Dev nD) {pdats : (p : Fin 2) → (c : Dev nD) → Pipeline.Dat τ (Elt F) (HIx 1) ℕ UU ℕ (Pipeline.pin (pcfgs (F := F)) adm p) c}
    (R : Pipeline.RegionSeg (pcfgs (F := F)) adm pdats (none : HIx 1) defs₀ 𝒱₀ (K (F := F)).L (K (F := F)).lev p) {Rr : sProp 𝕄} {Q : PUnit → sProp 𝕄}
    (h : iprop(boundary (SparseCore.T d) ∗ R.post d ∗ Rr) ⊢ Q ⟨⟩) :
    iprop(boundary (SparseCore.T d) ∗ R.pre d ∗ levAts (K (F := F)).L (K (F := F)).lev ∗ Gp (F := F) p d ∗ Rr)
      ⊢ WM d (Prog.lift (.customCall (SparseCore.inner (Pipeline.entry p)) ())) Q := by
  have hr := Pipeline.RegionSeg.wp (pcfgs (F := F)) adm pdats (none : HIx 1) cellOf_inj (EP (F := F)) defs₀ 𝒱₀ (K (F := F)).L (K (F := F)).lev R d none
    (fun u hu => nomatch hu) (.ret) Q
  have hl := (K (F := F)).wp_liftProg (D (F := F)) 𝒱 (SparseCore.T d) Set.univ none (.op (.customCall (Pipeline.entry p) ()) .ret) Q
  refine BIBase.Entails.trans (BIBase.Entails.trans ?_ hr) hl
  unfold Gp
  iintro ⟨Hb, Hpre, Hl, ⟨HG, HT⟩, HR⟩
  isplitl [HR]
  · iintro ⟨Hb, Hpost⟩
    rw [wp_ret]; imodintro
    iapply h
    isplitl [Hb]; · iexact Hb
    isplitl [Hpost]; · iexact Hpost
    iexact HR
  isplitl [Hb]; · iexact Hb
  isplitl [Hpre]; · iexact Hpre
  isplitl [Hl]; · iexact Hl
  isplitl [HG]; · iexact HG
  iexact HT

theorem Bw_le (d : Dev nD) (p) (h : Bw (F := F) d p) : p ∈ Bd (F := F) d := by
  rcases h with h | h
  · exact h
  · obtain ⟨w, s, rfl⟩ := h; exact Bd_none d _
theorem Bw2_le (d : Dev nD) (p) (h : Bw2 (F := F) d p) : p ∈ Bd (F := F) d := by
  rcases h with h | h
  · exact h
  · obtain ⟨w, s, rfl⟩ := h; exact Bd_none d _

theorem owes_mono (c : Dev nD) {B B' : SemLoc sig × HIx 1 → Prop} (h : ∀ p, B p → B' p) : (owesIn (F := F) c B : sProp 𝕄) ⊢ owesIn c B' := by
  unfold owesIn
  iintro ⟨%W, %hW, HO⟩
  iexists W; isplitr
  · ipureintro; exact fun p hp => h p (hW p hp)
  · iexact HO

/-- What is left of the launch's protocol when the call is over, the core's debts aside. -/
def tcLeft (d : Dev nD) : sProp 𝕄 :=
  iprop(atPos (EH (F := F)) ((K (F := F)).doneCell d) 1 ∅ 0 ∗ reached (EH (F := F)) ((K (F := F)).doneCell d) 1
    ∗ (bigSep Finset.univ fun c : Fin τ.nSC => reached (EH (F := F)) ((K (F := F)).startCell d c) ((K (F := F)).sRank c 1))
    ∗ bigSep (SparseCore.Cfg.callsFrom (Q := 1) 1) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some (SparseCore.Cfg.Blocks.last q)) 1)))

theorem tcSt_out (d : Dev nD) : ((K (F := F)).tcSt (EH (F := F)) d 1 : sProp 𝕄) ⊢ iprop(owesIn (F := F) d (fun p => p ∈ Bd (F := F) d) ∗ tcLeft d) := by
  unfold SparseCore.Cfg.tcSt tcLeft
  rw [SparseCore.Cfg.Otc_end (K := K (F := F)) d (le_refl 1)]
  iintro ⟨⟨%W, %hW, HO⟩, H⟩
  isplitl [HO]
  · unfold owesIn
    iexists W; isplitr
    · ipureintro; exact hW
    · iexact HO
  · iexact H

theorem tcSt_in (d : Dev nD) : iprop(owesIn (F := F) d (fun p => p ∈ Bd (F := F) d) ∗ tcLeft d) ⊢ ((K (F := F)).tcSt (EH (F := F)) d 1 : sProp 𝕄) := by
  unfold SparseCore.Cfg.tcSt tcLeft
  rw [SparseCore.Cfg.Otc_end (K := K (F := F)) d (le_refl 1)]
  unfold owesIn
  iintro ⟨⟨%W, %hW, HO⟩, H⟩
  isplitl [HO]
  · iexists W; isplitr
    · ipureintro; exact hW
    · iexact HO
  · iexact H

/-- A reshape, the run after it waiting for what it leaves. -/
theorem wr (d : Dev nD) (x y : Ref sig .tc) (he : x.ty.elt = y.ty.elt) (hn : x.ty.shape.ShapeCasts y.ty.shape) (hx) (hy)
    (hxy : (x : DevRef τ sig) ≠ y) (V₀ : Valuation τ sig (Elt F)) (f : x.ty.Contents (Elt F)) (g g' : y.ty.Contents (Elt F))
    (hg : g' = fun i => he ▸ shapeCast y.ty.shape f hn i) {Q : PUnit → sProp 𝕄} :
    iprop(boundary (SparseCore.T d) ∗ at1 d x f ∗ at1 d y g)
      ⊢ iprop((iprop(boundary (SparseCore.T d) ∗ at1 d x f ∗ at1 d y g') -∗ Q ⟨⟩) -∗ WM d (hlo rfl (StableHlo.reshape x y he hn hx hy) fun _ => .ret ⟨⟩) Q) := by
  iintro ⟨Hb, Hx, Hy⟩ Hk
  iapply (wm_reshape d x y he hn hx hy hxy V₀ f g g' hg (R := iprop(iprop(boundary (SparseCore.T d) ∗ at1 d x f ∗ at1 d y g') -∗ Q ⟨⟩)) (Q := Q) ?_) $$ [Hb Hx Hy Hk]
  · iintro ⟨Hb, Hx, Hy, Hk⟩
    iapply Hk
    isplitl [Hb]; · iexact Hb
    isplitl [Hx]; · iexact Hx
    iexact Hy
  · isplitl [Hb]; · iexact Hb
    isplitl [Hx]; · iexact Hx
    isplitl [Hy]; · iexact Hy
    iexact Hk

/-- A region, the run after it waiting for what it leaves. -/
theorem wrg (p : Fin 2) (d : Dev nD) {pdats : (p : Fin 2) → (c : Dev nD) → Pipeline.Dat τ (Elt F) (HIx 1) ℕ UU ℕ (Pipeline.pin (pcfgs (F := F)) adm p) c}
    (R : Pipeline.RegionSeg (pcfgs (F := F)) adm pdats (none : HIx 1) defs₀ 𝒱₀ (K (F := F)).L (K (F := F)).lev p) {pre post : sProp 𝕄} (hpre : R.pre d = pre) (hpost : R.post d = post)
    {Q : PUnit → sProp 𝕄} :
    iprop(boundary (SparseCore.T d) ∗ pre ∗ levAts (K (F := F)).L (K (F := F)).lev ∗ Gp (F := F) p d)
      ⊢ iprop((iprop(boundary (SparseCore.T d) ∗ post) -∗ Q ⟨⟩) -∗ WM d (Prog.lift (.customCall (SparseCore.inner (Pipeline.entry p)) ())) Q) := by
  subst hpre hpost
  iintro ⟨Hb, Hp, Hl, HG⟩ Hk
  iapply (wm_region p d R (Rr := iprop(iprop(boundary (SparseCore.T d) ∗ R.post d) -∗ Q ⟨⟩)) (Q := Q) ?_) $$ [Hb Hp Hl HG Hk]
  · iintro ⟨Hb, Hp, Hk⟩
    iapply Hk
    isplitl [Hb]; · iexact Hb
    iexact Hp
  · isplitl [Hb]; · iexact Hb
    isplitl [Hp]; · iexact Hp
    isplitl [Hl]; · iexact Hl
    isplitl [HG]; · iexact HG
    iexact Hk

theorem wrg1 (d : Dev nD) (X : S4096x8192.Idx → Elt F .f32) (Tg : S32x1x128.Idx → BitVec 32) (f4 : S1x1.Idx → Elt F .f32) {Q : PUnit → sProp 𝕄} :
    iprop(boundary (SparseCore.T d) ∗ (hAt2 (F := F) Tg d ∗ hAt4 d f4 ∗ xAt1 X d ∗ owesIn d (Bw (F := F) d)) ∗ levAts (K (F := F)).L (K (F := F)).lev ∗ Gp (F := F) 0 d)
      ⊢ iprop((iprop(boundary (SparseCore.T d) ∗ hAt2 (F := F) Tg d ∗ hAt4 d (o1 X Tg) ∗ xAt1 X d ∗ owesIn d (Bw (F := F) d)) -∗ Q ⟨⟩)
          -∗ WM d (Prog.lift (.customCall (SparseCore.inner (Pipeline.entry 0)) ())) Q) :=
  wrg 0 d (reg1 X Tg f4) rfl rfl

theorem wrg2 (d : Dev nD) (Tg : S32x1x128.Idx → BitVec 32) (G : S32x128x128.Idx → Elt F .f32) (A f8 : S1x1.Idx → Elt F .f32) {Q : PUnit → sProp 𝕄} :
    iprop(boundary (SparseCore.T d) ∗ (hAt2 (F := F) Tg d ∗ hAt6 G d ∗ hAt7 A d ∗ hAt8 d f8 ∗ owesIn d (Bw2 (F := F) d)) ∗ levAts (K (F := F)).L (K (F := F)).lev ∗ Gp (F := F) 1 d)
      ⊢ iprop((iprop(boundary (SparseCore.T d) ∗ hAt2 (F := F) Tg d ∗ hAt6 G d ∗ hAt7 A d ∗ hAt8 d (o2 Tg G A) ∗ owesIn d (Bw2 (F := F) d)) -∗ Q ⟨⟩)
          -∗ WM d (Prog.lift (.customCall (SparseCore.inner (Pipeline.entry 1)) ())) Q) :=
  wrg 1 d (reg2 Tg G A f8) rfl rfl

end Cert.Proof.KernelIdeal
-- ==== Proof.KernelIdeal.Main.lean ====
module

public import proofs.«01_k».proof.Proof.KernelIdeal.Host

@[expose] public section

noncomputable section

namespace Cert.Proof.KernelIdeal

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

/-! # The whole program's run -/

variable {F : FTy → Type} [FloatOps F] [Named F]

local notation "𝕄" => MT nD τ sig (HIx 1) (Elt F) ℕ UU ℕ

/-! ## The value the program leaves -/

variable (a : S4x1024x8192.Idx → Elt F .f32) (t : S4x1024.Idx → BitVec 32)

def rA : S4096x8192.Idx → Elt F .f32 := fun i => shapeCast S4096x8192 a shapeCasts_S4x1024x8192_S4096x8192 i
def rT : S4096.Idx → BitVec 32 := fun i => shapeCast S4096 t shapeCasts_S4x1024_S4096 i
def rTg : S32x1x128.Idx → BitVec 32 := fun i => shapeCast S32x1x128 (rT t) shapeCasts_S4096_S32x1x128 i
def r4 : S1x1.Idx → Elt F .f32 := o1 (rA a) (rTg t)
def r5 : S_.Idx → Elt F .f32 := fun i => shapeCast S_ (r4 a t) shapeCasts_S1x1_S_ i
def rG : S32x128x128.Idx → Elt F .f32 := fun i => shapeCast S32x128x128 (gath (rA a) (rT t)) shapeCasts_S4096x128_S32x128x128 i
def r7 : S1x1.Idx → Elt F .f32 := fun i => shapeCast S1x1 (r5 a t) shapeCasts_S_S1x1 i
def r8 : S1x1.Idx → Elt F .f32 := o2 (rTg t) (rG a t) (r7 a t)
/-- The program's result. -/
def res : S_.Idx → Elt F .f32 := fun i => shapeCast S_ (r8 a t) shapeCasts_S1x1_S_ i

theorem rT_lt (ht : ∀ i, (t i).toNat < 8192) (i) : (rT t i).toNat < 8192 := ht _

/-! ## The launch -/

variable (m : (ℓ : Loc nD τ sig) → Buf (Elt F) ℓ) (ρ : Dev nD → PrngReg)

def arg0 (d : Dev nD) : S4x1024x8192.Idx → Elt F .f32 := m ((SparseCore.T d : Thread nD τ).loc main_arg0)
def arg1 (d : Dev nD) : S4x1024.Idx → BitVec 32 := m ((SparseCore.T d : Thread nD τ).loc main_arg1)

abbrev Pm : (K (F := F)).Pay (nD := nD) (Val := Elt F) (Name := ℕ) (U := UU) := P (fun d => rA (arg0 m d)) (fun d => rT (arg1 m d))

def u₀ : UU := (Rounds.initOf (K (F := F)).hsCells (K (F := F)).hsToks,
  (Rounds.initOf (Pipeline.cells (Pipeline.pin (pcfgs (F := F)) adm) cellOf_inj) (Pipeline.launchToks (Pipeline.pin (pcfgs (F := F)) adm) cellOf_inj), (1 : Counters)))

def G (d : Dev nD) : sProp 𝕄 := iprop(Gp (F := F) 0 d ∗ Gp (F := F) 1 d)

theorem deal : (BI.own ((EP (F := F)) (Rounds.initOf (Pipeline.cells (Pipeline.pin (pcfgs (F := F)) adm) cellOf_inj) (Pipeline.launchToks (Pipeline.pin (pcfgs (F := F)) adm) cellOf_inj))) : sProp 𝕄)
    ⊢ |==> bigSep Finset.univ fun d : Dev nD => G (F := F) d := by
  refine BIBase.Entails.trans (Pipeline.fund_ghost (Pipeline.pin (pcfgs (F := F)) adm) (EP (F := F)) cellOf_inj) (bupd_mono ?_)
  rw [← bigSep_sep']
  refine bigSep_mono fun d _ => ?_
  rw [← bigSep_sep', show (Finset.univ : Finset (Fin 2)) = {0, 1} from rfl, SparseCore.bigSep_insert' (by decide), bigSep_singleton]
  exact BI.Entails.refl _

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (Rounds.initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_pair _ _) $$ Hu
  icases H with ⟨HH, HR⟩
  ihave H := (own_pair_emb (embR (nD := nD) (τ := τ) (sig := sig)) _ _) $$ HR
  icases H with ⟨HP, -⟩
  imod (deal (F := F)) $$ HP with HG
  imodintro
  isplitl [HH]; · iexact HH
  isplitl [HG]; · iexact HG
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), emps]
  iempintro

theorem unscopedBufs_eq (d : Dev nD) (W : (b : Ref sig .tc) → Buf (Elt F) ((d.tc : Thread nD τ).loc b)) :
    (unscopedBufs d W : sProp 𝕄) = iprop(at1 d main_arg0 (W main_arg0) ∗ at1 d main_arg1 (W main_arg1) ∗ at1 d main_v0 (W main_v0) ∗ at1 d main_v1 (W main_v1)
      ∗ at1 d main_v2 (W main_v2) ∗ at1 d main_v3 (W main_v3) ∗ at1 d main_v4 (W main_v4) ∗ at1 d main_v5 (W main_v5) ∗ at1 d main_v6 (W main_v6)
      ∗ at1 d main_v7 (W main_v7) ∗ at1 d main_v8 (W main_v8) ∗ at1 d main_v9 (W main_v9)) := by
  unfold unscopedBufs
  rw [show (Finset.univ.filter fun b : Ref sig .tc => ¬ b.isScoped)
      = {main_arg0, main_arg1, main_v0, main_v1, main_v2, main_v3, main_v4, main_v5, main_v6, main_v7, main_v8, main_v9} by decide]
  repeat rw [SparseCore.bigSep_insert' (by decide)]
  rw [bigSep_singleton]

/-- What `@main` leaves: the arguments as they were, the result at its value. -/
abbrev FIN (d : Dev nD) : sProp 𝕄 :=
  iprop(at1 d main_arg0 (arg0 m d) ∗ at1 d main_arg1 (arg1 m d) ∗ at1 d main_v9 (res (arg0 m d) (arg1 m d)))

theorem hmain (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [unscopedBufs_eq]
  simp only [main, wp_bind, wp_pure]
  iintro ⟨#Hctx, Hst, ⟨Hb, ⟨Ha0, Ha1, H0, H1, H2, H3, H4, H5, H6, H7, H8, H9⟩, Hts, -⟩, ⟨HG0, HG1⟩⟩
  ihave #Hlev := (SparseCore.Cfg.ctx_levAts κ) $$ Hctx
  iapply (wr d main_arg0 main_v0 rfl shapeCasts_S4x1024x8192_S4096x8192 _ _ (by decide) (fun b => m (d, b)) (arg0 m d) _ (rA (arg0 m d)) rfl) $$ [Hb Ha0 H0]
  · isplitl [Hb]; · iexact Hb
    isplitl [Ha0]; · iexact Ha0
    iexact H0
  iintro ⟨Hb, Ha0, H0⟩
  iapply (wr d main_arg1 main_v1 rfl shapeCasts_S4x1024_S4096 _ _ (by decide) (fun b => m (d, b)) (arg1 m d) _ (rT (arg1 m d)) rfl) $$ [Hb Ha1 H1]
  · isplitl [Hb]; · iexact Hb
    isplitl [Ha1]; · iexact Ha1
    iexact H1
  iintro ⟨Hb, Ha1, H1⟩
  iapply (wr d main_v1 main_v2 rfl shapeCasts_S4096_S32x1x128 _ _ (by decide) (fun b => m (d, b)) (rT (arg1 m d)) _ (rTg (arg1 m d)) rfl) $$ [Hb H1 H2]
  · isplitl [Hb]; · iexact Hb
    isplitl [H1]; · iexact H1
    iexact H2
  iintro ⟨Hb, H1, H2⟩
  -- the SparseCore call
  ihave HS := (st_of (fun d => rA (arg0 m d)) (fun d => rT (arg1 m d)) d _) $$ [H1 H0 H3]
  · isplitl [H1]; · iexact H1
    isplitl [H0]; · iexact H0
    iexact H3
  icases HS with ⟨HS, HK⟩
  iapply ((K (F := F)).wp_run (D (F := F)) 𝒱 (EH := EH) (P := Pm m) κ d 0) $$ [Hst HS HK Hb Ha0 Ha1 H2 H4 H5 H6 H7 H8 H9 Hts HG0 HG1]
  isplitr; · iexact Hctx
  isplitl [Hst]; · iexact Hst
  isplitl [HS]; · iexact HS
  iintro ⟨Hst, Hdn⟩
  ihave HS := (of_dn (fun d => rA (arg0 m d)) (fun d => rT (arg1 m d)) d) $$ [Hdn HK]
  · isplitl [Hdn]; · iexact Hdn
    iexact HK
  icases HS with ⟨H1, H0, H3⟩
  ihave HS := (show ((K (F := F)).tcSt (EH (F := F)) d ((0 : Fin 1).val + 1) : sProp 𝕄) ⊢ _ from tcSt_out d) $$ Hst
  icases HS with ⟨HO, Hleft⟩
  -- the first region
  ihave HO := (owes_mono d (B' := Bw (F := F) d) fun _ h => Or.inl h) $$ HO
  iapply (wrg1 d (rA (arg0 m d)) (rTg (arg1 m d)) (m ((SparseCore.T d : Thread nD τ).loc main_v4))) $$ [Hb H2 H4 H0 HO HG0]
  · isplitl [Hb]; · iexact Hb
    isplitl [H2 H4 H0 HO]
    · isplitl [H2]; · iexact H2
      isplitl [H4]; · iexact H4
      isplitl [H0]; · iexact H0
      iexact HO
    isplitr; · iexact Hlev
    iexact HG0
  iintro ⟨Hb, H2, H4, H0, HO⟩
  ihave HO := (owes_mono d (B' := Bw2 (F := F) d) fun p h => Or.inl (Bw_le d p h)) $$ HO
  iapply (wr d main_v4 main_v5 rfl shapeCasts_S1x1_S_ _ _ (by decide) (fun b => m (d, b)) (r4 (arg0 m d) (arg1 m d)) _ (r5 (arg0 m d) (arg1 m d)) rfl) $$ [Hb H4 H5]
  · isplitl [Hb]; · iexact Hb
    isplitl [H4]; · iexact H4
    iexact H5
  iintro ⟨Hb, H4, H5⟩
  iapply (wr d main_v3 main_v6 rfl shapeCasts_S4096x128_S32x128x128 _ _ (by decide) (fun b => m (d, b)) (gath (rA (arg0 m d)) (rT (arg1 m d))) _ (rG (arg0 m d) (arg1 m d)) rfl) $$ [Hb H3 H6]
  · isplitl [Hb]; · iexact Hb
    isplitl [H3]; · iexact H3
    iexact H6
  iintro ⟨Hb, H3, H6⟩
  iapply (wr d main_v5 main_v7 rfl shapeCasts_S_S1x1 _ _ (by decide) (fun b => m (d, b)) (r5 (arg0 m d) (arg1 m d)) _ (r7 (arg0 m d) (arg1 m d)) rfl) $$ [Hb H5 H7]
  · isplitl [Hb]; · iexact Hb
    isplitl [H5]; · iexact H5
    iexact H7
  iintro ⟨Hb, H5, H7⟩
  -- the second region
  iapply (wrg2 d (rTg (arg1 m d)) (rG (arg0 m d) (arg1 m d)) (r7 (arg0 m d) (arg1 m d)) (m ((SparseCore.T d : Thread nD τ).loc main_v8))) $$ [Hb H2 H6 H7 H8 HO HG1]
  · isplitl [Hb]; · iexact Hb
    isplitl [H2 H6 H7 H8 HO]
    · isplitl [H2]; · iexact H2
      isplitl [H6]; · iexact H6
      isplitl [H7]; · iexact H7
      isplitl [H8]; · iexact H8
      iexact HO
    isplitr; · iexact Hlev
    iexact HG1
  iintro ⟨Hb, H2, H6, H7, H8, HO⟩
  iapply (wr d main_v8 main_v9 rfl shapeCasts_S1x1_S_ _ _ (by decide) (fun b => m (d, b)) (r8 (arg0 m d) (arg1 m d)) _ (res (arg0 m d) (arg1 m d)) rfl) $$ [Hb H8 H9]
  · isplitl [Hb]; · iexact Hb
    isplitl [H8]; · iexact H8
    iexact H9
  iintro ⟨Hb, H8, H9⟩
  imodintro
  isplitl [HO Hleft]
  · iapply (tcSt_in d)
    isplitl [HO]
    · iapply (owes_mono d fun p h => Bw2_le d p h); iexact HO
    · iexact Hleft
  isplitl [Ha0 Ha1 H9]
  · isplitl [Ha0]; · iexact Ha0
    isplitl [Ha1]; · iexact Ha1
    iexact H9
  isplitl [Hb] <;> iassumption

/-- What the claims read of device `d`'s final state. -/
def fq (d : Dev nD) (s' : Phys nD τ sig (Elt F)) : Prop :=
  s'.mem.mem ((SparseCore.T d : Thread nD τ).loc main_v9) = res (arg0 m d) (arg1 m d)
    ∧ s'.mem.mem ((SparseCore.T d : Thread nD τ).loc main_arg0) = m ((SparseCore.T d : Thread nD τ).loc main_arg0)
    ∧ s'.mem.mem ((SparseCore.T d : Thread nD τ).loc main_arg1) = m ((SparseCore.T d : Thread nD τ).loc main_arg1)

theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := (SparseCore.T d : Thread nD τ).loc main_arg0) (I := Finset.univ) (q := fullShare) (f := arg0 m d))) $$ [HSI Ha]
  · isplitl [HSI] <;> iassumption
  icases H with ⟨%ha, HSI, -⟩
  ihave H := (persistent_entails_right (SI_pointsTo_agree (st := s') (ℓ := (SparseCore.T d : Thread nD τ).loc main_arg1) (I := Finset.univ) (q := fullShare) (f := arg1 m d))) $$ [HSI Ht]
  · isplitl [HSI] <;> iassumption
  icases H with ⟨%ht, HSI, -⟩
  ihave H := (SI_pointsTo_agree (st := s') (ℓ := (SparseCore.T d : Thread nD τ).loc main_v9) (I := Finset.univ) (q := fullShare) (f := res (arg0 m d) (arg1 m d))) $$ [HSI Hr]
  · isplitl [HSI] <;> iassumption
  icases H with %hr
  ipureintro
  exact ⟨funext fun i => hr i (Finset.mem_univ i), funext fun i => ha i (Finset.mem_univ i), funext fun i => ht i (Finset.mem_univ i)⟩

def QC : PUnit × MemSt nD τ sig (Elt F) → Prop := fun r =>
  (∀ d : Dev nD, r.2.mem ((SparseCore.T d : Thread nD τ).loc main_v9) = res (arg0 m d) (arg1 m d)
    ∧ r.2.mem ((SparseCore.T d : Thread nD τ).loc main_arg0) = m ((SparseCore.T d : Thread nD τ).loc main_arg0)
    ∧ r.2.mem ((SparseCore.T d : Thread nD τ).loc main_arg1) = m ((SparseCore.T d : Thread nD τ).loc main_arg1)) ∧ r.2.sem = fun _ => 0

/-- Every weakly fair run of the program from any memory whose targets are classes ends, with the arguments as they
were, the result at `res` and every counter at zero. -/
theorem run_main (ht : ∀ d i, (arg1 m d i).toNat < 8192) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (fun d => rA (arg0 m d)) (fun d => rT (arg1 m d)) fun d => rT_lt (arg1 m d) (ht d))
    (fun q _ => match q with | 0 => SparseCore.Cfg.VecSplit.of_plain (vecSplit (fun d => rA (arg0 m d)) (fun d => rT (arg1 m d))))
    m ρ main (fun d => G (F := F) d) (FIN m) (u₀ (F := F)) (sep_elim_left.trans (hu₀ m)) (hmain m ρ) (fq m) (hfin m) (QC m) (fun _ h hz => ⟨h, hz⟩)

end Cert.Proof.KernelIdeal
-- ==== Proof.Frames.lean ====
module

public import proofs.«01_k».proof.Proof.Inputs
public import proofs.«01_k».proof.Proof.Kernel.Main
public import proofs.«01_k».proof.Proof.KernelIdeal.Main
public import proofs.«01_k».proof.Proof.Gen.ReferenceIdeal.Run
public import proofs.«01_k».proof.Proof.Gen.Pre_in_vocab
public import proofs.«01_k».proof.Proof.Gen.Pre_finite_in_vocab
public import Idealize.ShloMosaic.Lib.Quiescent

@[expose] public section

noncomputable section

namespace Cert.Proof.Frames

open Idealize.ShloMosaic Idealize.SL.Sem

/-! # Every program runs and leaves its arguments alone -/

theorem kernel : Cert.quiescent_Kernel (hKernel := Cert.Kernel.Gen.facts) (hPre_in_vocab := Cert.Pre_in_vocab.Gen.facts) := fun m g hpre =>
  (θ_run (Cert.Kernel.defs (F := Bits)) _ _).mono (fun _ h => ⟨fun c => (h.1 c).2, h.2⟩)
    (Cert.Proof.Kernel.run_main (F := Bits) m g fun d i => Inputs.in_vocab_lt (F := Bits) _ _ (hpre d) i)

theorem ideal : Cert.quiescent_KernelIdeal (hKernelIdeal := Cert.KernelIdeal.Gen.facts) (hPre_in_vocab := Cert.Pre_in_vocab.Gen.facts) := fun m g hpre =>
  (θ_run (Cert.KernelIdeal.defs (F := Ideal)) _ _).mono (fun _ h => ⟨fun c => (h.1 c).2, h.2⟩)
    (Cert.Proof.KernelIdeal.run_main (F := Ideal) m g fun d i => Inputs.in_vocab_lt (F := Ideal) _ _ (hpre d) i)

theorem ideal_finite : Cert.quiescent_KernelIdeal_pre_finite_in_vocab (hKernelIdeal := Cert.KernelIdeal.Gen.facts) (hPre_finite_in_vocab := Cert.Pre_finite_in_vocab.Gen.facts) := fun m g hpre =>
  (θ_run (Cert.KernelIdeal.defs (F := Ideal)) _ _).mono (fun _ h => ⟨fun c => (h.1 c).2, h.2⟩)
    (Cert.Proof.KernelIdeal.run_main (F := Ideal) m g fun d i => Inputs.finite_lt _ _ (hpre d) i)

theorem reference : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

theorem reference_finite : Cert.quiescent_ReferenceIdeal_pre_finite_in_vocab (hReferenceIdeal := Cert.ReferenceIdeal.Gen.facts) (hPre_finite_in_vocab := Cert.Pre_finite_in_vocab.Gen.facts) := fun m g _ =>
  reference m g trivial

theorem preserves : Cert.preserves_Kernel_KernelIdeal :=
  ⟨IdealRules.named_const.statement Cert.KernelIdeal.κ "neg_e_k" .f32 0xB74CD99A#32 ((-1 / 81900 : ℝ) : EReal) rfl,
   IdealRules.named_const.statement Cert.KernelIdeal.κ "neg_gain" .f32 0xBF66659A#32 ((-73709 / 81900 : ℝ) : EReal) rfl⟩

end Cert.Proof.Frames

end
-- ==== Proof.RefVal.lean ====
module

public import proofs.«01_k».proof.Proof.Gen.ReferenceIdeal.Run
public import Idealize.ShloMosaic.PureOps.Ideal
public import Idealize.ShloMosaic.PureOps.Ideal.Laws
public import Idealize.ShloMosaic.Lib.Pointwise
public import Idealize.ShloMosaic.Lib.IdealHost
public import Idealize.ShloMosaic.Lib.Pipeline.Value

@[expose] public section

noncomputable section

namespace Cert.Proof.RefVal

open Cert.ReferenceIdeal Cert.ReferenceIdeal.Gen
open Idealize.ShloMosaic Idealize.ShloMosaic.TcCoe Idealize.SL.Sem
open scoped BigOperators

/-! # What the reference computes, over the extended reals -/

/-- Row `r` of the targets, and its column `v` of the logits. -/
def row2 (r : Fin 4096) : S4x1024.Idx := Idealize.ShloMosaic.ix2 ⟨r.val / 1024, by have := r.isLt; omega⟩ ⟨r.val % 1024, Nat.mod_lt _ (by decide)⟩
def row3 (r : Fin 4096) (v : Fin 8192) : S4x1024x8192.Idx := Idealize.ShloMosaic.ix3 ⟨r.val / 1024, by have := r.isLt; omega⟩ ⟨r.val % 1024, Nat.mod_lt _ (by decide)⟩ v
def row3u (r : Fin 4096) : S4x1024x1.Idx := Idealize.ShloMosaic.ix3 ⟨r.val / 1024, by have := r.isLt; omega⟩ ⟨r.val % 1024, Nat.mod_lt _ (by decide)⟩ 0

variable (a : FVec Ideal S4x1024x8192 .f32) (t : IVec S4x1024 32)

/-- The rows that are padding, spread over the columns. -/
def pad : IVec S4x1024x8192 1 :=
  broadcastInDim S4x1024x8192 ![0, 1, 2] bcast_S4x1024x1_S4x1024x8192_0_1_2 (broadcastInDim S4x1024x1 ![0, 1] bcast_S4x1024_S4x1024x1_0_1 (cmpi .eq t (broadcastInDim S4x1024 ![] bcast_S_S4x1024 (constantI S_ 32 0#32))))
def zeros : FVec Ideal S4x1024x8192 .f32 := broadcastInDim S4x1024x8192 ![] bcast_S_S4x1024x8192 (constant (F := Ideal) S_ .f32 0x00000000#32)
/-- The smoothed target distribution. -/
def dist : FVec Ideal S4x1024x8192 .f32 :=
  select (cmpi .eq (broadcastInDim S4x1024x8192 ![0, 1, 2] bcast_S4x1024x1_S4x1024x8192_0_1_2 (broadcastInDim S4x1024x1 ![0, 1] bcast_S4x1024_S4x1024x1_0_1 t)) (broadcastInDim S4x1024x8192 ![0, 1, 2] bcast_S1x1x8192_S4x1024x8192_0_1_2 (iotaInDim S1x1x8192 32 2)))
    (broadcastInDim S4x1024x8192 ![] bcast_S_S4x1024x8192 (subf (constant (F := Ideal) S_ .f32 0x3F800000#32) (Host.divf (constant (F := Ideal) S_ .f32 0x3F800000#32) (constant (F := Ideal) S_ .f32 0x41200000#32))))
    (broadcastInDim S4x1024x8192 ![] bcast_S_S4x1024x8192 (Host.divf (Host.divf (constant (F := Ideal) S_ .f32 0x3F800000#32) (constant (F := Ideal) S_ .f32 0x41200000#32)) (constant (F := Ideal) S_ .f32 0x45FFF000#32)))
def prods : FVec Ideal S4096x8192 .f32 :=
  mulf (shapeCast S4096x8192 (select (pad t) zeros a) shapeCasts_S4x1024x8192_S4096x8192) (shapeCast S4096x8192 (select (pad t) zeros (dist t)) shapeCasts_S4x1024x8192_S4096x8192)
def rows : FVec Ideal S4096 .f32 :=
  mulf (broadcastInDim S4096 ![] bcast_S_S4096 (constant (F := Ideal) S_ .f32 0xBF800000#32)) (Host.reduceAdd (prods a t) (constant (F := Ideal) S_ .f32 0x00000000#32) reducesTo_S4096x8192_S4096_d1 h_S_)
def loss : S_.Idx → EReal := Host.reduceAdd (rows a t) (constant (F := Ideal) S_ .f32 0x00000000#32) reducesTo_S4096_S_d0 h_S_

theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v16) = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m g

/-! ## The constants -/

theorem one_f32 : Ideal.ofBits .f32 0x3F800000#32 = ((1 : ℝ) : EReal) := by simp [Ideal.ofBits, Ideal.ieee, -EReal.coe_mul]; norm_num
theorem ten_f32 : Ideal.ofBits .f32 0x41200000#32 = ((10 : ℝ) : EReal) := by simp [Ideal.ofBits, Ideal.ieee, -EReal.coe_mul]; norm_num
theorem big_f32 : Ideal.ofBits .f32 0x45FFF000#32 = ((8190 : ℝ) : EReal) := by simp [Ideal.ofBits, Ideal.ieee, -EReal.coe_mul]; norm_num
theorem neg_f32 : Ideal.ofBits .f32 0xBF800000#32 = ((-1 : ℝ) : EReal) := by simp [Ideal.ofBits, Ideal.ieee, -EReal.coe_mul]; norm_num

theorem tenth : Ideal.div (Ideal.ofBits .f32 0x3F800000#32) (Ideal.ofBits .f32 0x41200000#32) = ((1 / 10 : ℝ) : EReal) := by
  rw [one_f32, ten_f32, Ideal.div_coe (by norm_num), ← EReal.coe_mul]; norm_num
theorem conf : Ideal.ofBits .f32 0x3F800000#32 - Ideal.div (Ideal.ofBits .f32 0x3F800000#32) (Ideal.ofBits .f32 0x41200000#32) = ((9 / 10 : ℝ) : EReal) := by
  rw [tenth, one_f32, ← EReal.coe_sub]; norm_num
theorem eK : Ideal.div (Ideal.div (Ideal.ofBits .f32 0x3F800000#32) (Ideal.ofBits .f32 0x41200000#32)) (Ideal.ofBits .f32 0x45FFF000#32) = ((1 / 81900 : ℝ) : EReal) := by
  rw [tenth, big_f32, Ideal.div_coe (by norm_num), ← EReal.coe_mul]; norm_num

/-! ## Element by element -/

theorem eq_word (a b : BitVec 32) : IntOp.cmpi .eq a b = 1#1 ↔ a = b := by
  unfold IntOp.cmpi; by_cases h : a = b
  · subst h; simp
  · have : (a == b) = false := by simpa using h
    simp [this, h]

theorem select_eq {α : Type} (a b : BitVec 32) (x y : α) : Scalar.select (IntOp.cmpi .eq a b) x y = if a = b then x else y := by
  unfold Scalar.select; exact if_congr (eq_word a b) rfl rfl

theorem spread {α : Type} (f : S4x1024.Idx → α) (r : Fin 4096) (v : Fin 8192) :
    broadcastInDim S4x1024x8192 ![0, 1, 2] bcast_S4x1024x1_S4x1024x8192_0_1_2 (broadcastInDim S4x1024x1 ![0, 1] bcast_S4x1024_S4x1024x1_0_1 f) (row3 r v) = f (row2 r) := by
  rw [broadcastInDim_apply (k := row3u r) (hk := by intro a; fin_cases a <;> rfl), broadcastInDim_apply (k := row2 r) (hk := by intro a; fin_cases a <;> rfl)]

theorem pad_eq {α : Type} (r : Fin 4096) (v : Fin 8192) (x y : α) :
    Scalar.select (pad t (row3 r v)) x y = if t (row2 r) = 0#32 then x else y := by
  unfold pad; rw [spread]; exact select_eq _ _ _ _

theorem dist_eq (r : Fin 4096) (v : Fin 8192) :
    dist t (row3 r v) = if t (row2 r) = BitVec.ofNat 32 v.val then ((9 / 10 : ℝ) : EReal) else ((1 / 81900 : ℝ) : EReal) := by
  refine (select_eq _ _ _ _).trans ?_
  rw [spread]
  exact if_congr Iff.rfl conf eK

theorem flat {α : Type} (f : S4x1024x8192.Idx → α) (r : Fin 4096) (v : Fin 8192) :
    shapeCast S4096x8192 f shapeCasts_S4x1024x8192_S4096x8192 (Idealize.ShloMosaic.ix2 r v) = f (row3 r v) :=
  shapeCast_apply f shapeCasts_S4x1024x8192_S4096x8192 _ (row3 r v) (by
    rw [Shape.rowMajor_val_two, Shape.rowMajor_val_three]; show (r.val / 1024 * 1024 + r.val % 1024) * 8192 + v.val = r.val * 8192 + v.val; omega)

theorem prods_eq (r : Fin 4096) (v : Fin 8192) :
    prods a t (Idealize.ShloMosaic.ix2 r v) = (if t (row2 r) = 0#32 then 0 else a (row3 r v))
      * (if t (row2 r) = 0#32 then 0 else if t (row2 r) = BitVec.ofNat 32 v.val then ((9 / 10 : ℝ) : EReal) else ((1 / 81900 : ℝ) : EReal)) := by
  refine congrArg₂ (· * ·) ((flat _ r v).trans ((pad_eq t r v _ _).trans ?_)) ((flat _ r v).trans ((pad_eq t r v _ _).trans ?_))
  · exact if_congr Iff.rfl Ideal.ofBits_zero_f32 rfl
  · exact if_congr Iff.rfl Ideal.ofBits_zero_f32 (dist_eq t r v)

theorem rows_eq (r : Fin 4096) :
    rows a t (Idealize.ShloMosaic.ix1 r) = ((-1 : ℝ) : EReal) * ∑ v : Fin 8192, (if t (row2 r) = 0#32 then 0 else a (row3 r v))
      * (if t (row2 r) = 0#32 then 0 else if t (row2 r) = BitVec.ofNat 32 v.val then ((9 / 10 : ℝ) : EReal) else ((1 / 81900 : ℝ) : EReal)) := by
  refine congrArg₂ (· * ·) neg_f32 ((Ideal.hostReduceAdd_r2_a1 reducesTo_S4096x8192_S4096_d1 (prods a t) _ _).trans ?_)
  refine (congrArg₂ (· + ·) Ideal.ofBits_zero_f32 (Finset.sum_congr rfl fun v _ => ?_)).trans (zero_add _)
  exact prods_eq a t r v

theorem loss_eq (i : S_.Idx) :
    loss a t i = ∑ r : Fin 4096, ((-1 : ℝ) : EReal) * ∑ v : Fin 8192, (if t (row2 r) = 0#32 then 0 else a (row3 r v))
      * (if t (row2 r) = 0#32 then 0 else if t (row2 r) = BitVec.ofNat 32 v.val then ((9 / 10 : ℝ) : EReal) else ((1 / 81900 : ℝ) : EReal)) := by
  refine (Ideal.hostReduceAdd_r1_a0 reducesTo_S4096_S_d0 (rows a t) _ _).trans ?_
  refine (congrArg₂ (· + ·) Ideal.ofBits_zero_f32 (Finset.sum_congr rfl fun r _ => ?_)).trans (zero_add _)
  exact rows_eq a t r

end Cert.Proof.RefVal

end
-- ==== Proof.KernelIdeal.Val.lean ====
module

public import proofs.«01_k».proof.Proof.KernelIdeal.TcReg
public import Idealize.ShloMosaic.PureOps.Ideal.Laws
public import Idealize.ShloMosaic.Lib.Pointwise
public import Idealize.ShloMosaic.Lib.Pipeline.Value

@[expose] public section

noncomputable section

namespace Cert.Proof.KernelIdeal.Val

open Cert.KernelIdeal Cert.KernelIdeal.Gen
open Idealize.ShloMosaic
open scoped BigOperators

/-! # What the two kernels of the TensorCore leave, over the extended reals -/

/-- The sum of a reshaped array is the array's. -/
theorem sum_cast {s t : Shape} {M : Type} [AddCommMonoid M] (x : s.Idx → M) (h : s.ShapeCasts t) :
    ∑ i : t.Idx, shapeCast t x h i = ∑ i : s.Idx, x i := (Shape.reshapeEquiv h).sum_comp x

theorem ne_word (a b : BitVec 32) : IntOp.cmpi .ne a b = 1#1 ↔ a ≠ b := by
  unfold IntOp.cmpi; by_cases h : a = b
  · subst h; simp
  · have : (a != b) = true := by simpa using h
    simp [this, h]

theorem eq_word (a b : BitVec 32) : IntOp.cmpi .eq a b = 1#1 ↔ a = b := by
  unfold IntOp.cmpi; by_cases h : a = b
  · subst h; simp
  · have : (a == b) = false := by simpa using h
    simp [this, h]

theorem select_ne {α : Type} (a b : BitVec 32) (x y : α) : Scalar.select (IntOp.cmpi .ne a b) x y = if a ≠ b then x else y := by
  unfold Scalar.select; exact if_congr (ne_word a b) rfl rfl

theorem select_eq {α : Type} (a b : BitVec 32) (x y : α) : Scalar.select (IntOp.cmpi .eq a b) x y = if a = b then x else y := by
  unfold Scalar.select; exact if_congr (eq_word a b) rfl rfl

/-- The one index of a block of targets at lane `j`, and of a block of rows at row `j`, column `v`. -/
def lane (j : Fin 128) : S1x1x128.Idx := ValueIdx.ix3 0 0 j
def cell (j : Fin 128) (v : Fin 8192) : S1x128x8192.Idx := ValueIdx.ix3 0 j v

/-- The block's row sums, the padding rows' dropped. -/
def kept (x : S1x128x8192.Idx → EReal) (t : S1x1x128.Idx → BitVec 32) : FVec Ideal S128 .f32 :=
  select (cmpi .ne (shapeCast S128 t shapeCasts_S1x1x128_S128) (broadcast S128 0#32))
    (multiReduction (F := Ideal) (φ := .f32) .add [1] S128 (shapeCast S128x8192 x shapeCasts_S1x128x8192_S128x8192) 0x00000000#32 reduces_S128x8192_S128 (.inl rfl) rfl)
    (broadcast S128 (Scalar.ofBits (F := Ideal) .f32 0x00000000#32))

theorem kept_eq (x : S1x128x8192.Idx → EReal) (t : S1x1x128.Idx → BitVec 32) (j : Fin 128) :
    kept x t (Idealize.ShloMosaic.ix1 j) = if t (lane j) ≠ 0#32 then ∑ v : Fin 8192, x (cell j v) else 0 := by
  refine (select_ne _ _ _ _).trans ?_
  rw [shapeCast_apply t shapeCasts_S1x1x128_S128 (Idealize.ShloMosaic.ix1 j) (lane j) (by rw [Shape.rowMajor_val_one, Shape.rowMajor_val_three]; show (0 * 1 + 0) * 128 + j.val = j.val; omega)]
  refine if_congr Iff.rfl ((Ideal.multiReduction_add_single _ _ _ _ _ _).trans (Finset.sum_congr rfl fun v _ => ?_)) Ideal.ofBits_zero_f32
  exact shapeCast_apply x shapeCasts_S1x128x8192_S128x8192 _ (cell j v) (by rw [Shape.rowMajor_val_two, Shape.rowMajor_val_three]; show (0 * 128 + j.val) * 8192 + v.val = j.val * 8192 + v.val; omega)

theorem pay1_eq (acc : EReal) (x : S1x128x8192.Idx → EReal) (t : S1x1x128.Idx → BitVec 32) :
    k1_pay1 (F := Ideal) acc x t = acc + ∑ j : Fin 128, if t (lane j) ≠ 0#32 then ∑ v : Fin 8192, x (cell j v) else 0 := by
  refine congrArg (acc + ·) ((Ideal.multiReduction_add_total (shapeCast S1x128 (kept x t) shapeCasts_S128_S1x128) 0x00000000#32 reduces_S1x128_S1 (by decide) (.inl rfl) rfl _).trans ?_)
  rw [sum_cast (kept x t) shapeCasts_S128_S1x128, Idealize.ShloMosaic.sum_idx1]
  exact Finset.sum_congr rfl fun j _ => kept_eq x t j

/-- A table of targets' entry at row block `b`, lane `j`. -/
theorem acc_eq (X : S4096x8192.Idx → EReal) (Tg : S32x1x128.Idx → BitVec 32) (n : ℕ) :
    accV (F := Ideal) X Tg n = ∑ b ∈ Finset.range n, ∑ j : Fin 128, if Tg (tIx b j.val) ≠ 0#32 then ∑ v : Fin 8192, X (ix2 (128 * b + j.val) v.val) else 0 := by
  induction n with
  | zero => exact Ideal.ofBits_zero_f32
  | succ n ih => rw [Finset.sum_range_succ, ← ih]; exact pay1_eq _ _ _

theorem o1_eq (X : S4096x8192.Idx → EReal) (Tg : S32x1x128.Idx → BitVec 32) (i : S1x1.Idx) :
    o1 (F := Ideal) X Tg i = ((-1 / 81900 : ℝ) : EReal) * ∑ b ∈ Finset.range 32, ∑ j : Fin 128, if Tg (tIx b j.val) ≠ 0#32 then ∑ v : Fin 8192, X (ix2 (128 * b + j.val) v.val) else 0 := by
  rw [← acc_eq]; rfl

/-! ## The second kernel -/

def pick (b : Fin 32) (j : Fin 128) : S32x128.Idx := Idealize.ShloMosaic.ix2 b j
def cube (b : Fin 32) (j v : Fin 128) : S32x128x128.Idx := Idealize.ShloMosaic.ix3 b j v

/-- The targets as a table, and each chunk's entry in its target's lane, the padding rows' dropped. -/
def tab (Tg : S32x1x128.Idx → BitVec 32) : IVec S32x128 32 := shapeCast S32x128 Tg shapeCasts_S32x1x128_S32x128
def hit (Tg : S32x1x128.Idx → BitVec 32) (G : S32x128x128.Idx → EReal) : FVec Ideal S32x128x128 .f32 :=
  select (cmpi .eq (iota .tc S32x128x128 32 [2] iota_S32x128x128_d2_w32)
      (broadcastTo S32x128x128 (shapeCast S32x128x1 (andi (tab Tg) (broadcast S32x128 127#32)) shapeCasts_S32x128_S32x128x1) broadcasts_S32x128x1_S32x128x128))
    (shapeCast S32x128x128 G shapeCasts_S32x128x128_S32x128x128) (broadcast S32x128x128 (Scalar.ofBits (F := Ideal) .f32 0x00000000#32))
def kept2 (Tg : S32x1x128.Idx → BitVec 32) (G : S32x128x128.Idx → EReal) : FVec Ideal S32x128 .f32 :=
  select (cmpi .ne (tab Tg) (broadcast S32x128 0#32))
    (multiReduction (F := Ideal) (φ := .f32) .add [2] S32x128 (hit Tg G) 0x00000000#32 reduces_S32x128x128_S32x128 (.inl rfl) rfl)
    (broadcast S32x128 (Scalar.ofBits (F := Ideal) .f32 0x00000000#32))

theorem tab_eq (Tg : S32x1x128.Idx → BitVec 32) (b : Fin 32) (j : Fin 128) : tab Tg (pick b j) = Tg (tIx b.val j.val) :=
  shapeCast_apply Tg shapeCasts_S32x1x128_S32x128 (pick b j) (tIx b.val j.val) (by
    rw [Shape.rowMajor_val_two, Shape.rowMajor_val_three]; show (b.val % 32 * 1 + 0) * 128 + j.val % 128 = b.val * 128 + j.val
    have := b.isLt; have := j.isLt; omega)

theorem hit_eq (Tg : S32x1x128.Idx → BitVec 32) (G : S32x128x128.Idx → EReal) (b : Fin 32) (j v : Fin 128) :
    hit Tg G (cube b j v) = if v.val = (Tg (tIx b.val j.val)).toNat % 128 then G (cube b j v) else 0 := by
  refine (select_eq _ _ _ _).trans (if_congr ?_ (congrFun (shapeCast_self G _) _) Ideal.ofBits_zero_f32)
  rw [broadcastTo_apply (k := (Idealize.ShloMosaic.ix3 b j 0 : S32x128x1.Idx)) (hk := by intro a; fin_cases a <;> rfl),
    shapeCast_apply _ shapeCasts_S32x128_S32x128x1 _ (pick b j) (by rw [Shape.rowMajor_val_two, Shape.rowMajor_val_three]; show b.val * 128 + j.val = (b.val * 128 + j.val) * 1 + 0; omega)]
  show BitVec.ofNat 32 (0 * 128 + v.val) = tab Tg (pick b j) &&& 127#32 ↔ _
  rw [tab_eq, ← BitVec.toNat_inj, BitVec.toNat_ofNat, BitVec.toNat_and]
  have h : (Tg (tIx b.val j.val)).toNat &&& (127#32).toNat = (Tg (tIx b.val j.val)).toNat % 128 := Nat.and_two_pow_sub_one_eq_mod _ 7
  rw [h]; have := v.isLt; rw [Nat.mod_eq_of_lt (by omega)]; omega

theorem kept2_eq (Tg : S32x1x128.Idx → BitVec 32) (G : S32x128x128.Idx → EReal) (b : Fin 32) (j : Fin 128) :
    kept2 Tg G (pick b j) = if Tg (tIx b.val j.val) ≠ 0#32 then G (cube b j ⟨(Tg (tIx b.val j.val)).toNat % 128, Nat.mod_lt _ (by decide)⟩) else 0 := by
  refine (select_ne _ _ _ _).trans ?_
  rw [tab_eq]
  refine if_congr Iff.rfl ((Ideal.multiReduction_add_single _ _ _ _ _ _).trans ?_) Ideal.ofBits_zero_f32
  refine (Finset.sum_congr rfl fun v _ => show hit Tg G _ = if (⟨(Tg (tIx b.val j.val)).toNat % 128, Nat.mod_lt _ (by decide)⟩ : Fin 128) = v then G (cube b j v) else 0 from ?_).trans (Finset.sum_ite_eq _ _ _ |>.trans (if_pos (Finset.mem_univ _)))
  have e : reduces_S32x128x128_S32x128.lift (pick b j) v = cube b j v := by funext a; fin_cases a <;> rfl
  rw [e, hit_eq]
  exact if_congr ⟨fun h => Fin.ext h.symm, fun h => (congrArg Fin.val h).symm⟩ rfl rfl

theorem o2_eq (Tg : S32x1x128.Idx → BitVec 32) (G : S32x128x128.Idx → EReal) (A : S1x1.Idx → EReal) (i : S1x1.Idx) :
    o2 (F := Ideal) Tg G A i = A i + ((-73709 / 81900 : ℝ) : EReal) * ∑ b : Fin 32, ∑ j : Fin 128,
      if Tg (tIx b.val j.val) ≠ 0#32 then G (cube b j ⟨(Tg (tIx b.val j.val)).toNat % 128, Nat.mod_lt _ (by decide)⟩) else 0 := by
  have e : (multiReduction (F := Ideal) (φ := .f32) .add [1, 2] S1 (shapeCast S1x32x128 (kept2 Tg G) shapeCasts_S32x128_S1x32x128) 0x00000000#32 reduces_S1x32x128_S1 (.inl rfl) rfl)
      = fun _ => ∑ b : Fin 32, ∑ j : Fin 128,
      if Tg (tIx b.val j.val) ≠ 0#32 then G (cube b j ⟨(Tg (tIx b.val j.val)).toNat % 128, Nat.mod_lt _ (by decide)⟩) else 0 := by
    funext k
    refine (Ideal.multiReduction_add_total _ _ _ (by decide) _ _ _).trans ?_
    rw [sum_cast (kept2 Tg G) shapeCasts_S32x128_S1x32x128, Idealize.ShloMosaic.sum_idx2]
    exact Finset.sum_congr rfl fun b _ => Finset.sum_congr rfl fun j _ => kept2_eq Tg G b j
  have e2 : o2 (F := Ideal) Tg G A i = shapeCast S1x1 A shapeCasts_S1x1_S1x1 i + ((-73709 / 81900 : ℝ) : EReal) *
      (multiReduction (F := Ideal) (φ := .f32) .add [1, 2] S1 (shapeCast S1x32x128 (kept2 Tg G) shapeCasts_S32x128_S1x32x128) 0x00000000#32 reduces_S1x32x128_S1 (.inl rfl) rfl) (Shape.reshapeEquiv shapeCasts_S1_S1x1x1 fun a => ⟨![0, 0, 0] a, inpos_S1x1x1_p0_0_0 a⟩) := rfl
  rw [e2, e, shapeCast_self]

end Cert.Proof.KernelIdeal.Val

end
-- ==== Proof.Total.lean ====
module

public import proofs.«01_k».proof.Proof.RefVal
public import proofs.«01_k».proof.Proof.KernelIdeal.Main
public import proofs.«01_k».proof.Proof.KernelIdeal.Val

@[expose] public section

noncomputable section

namespace Cert.Proof.Total

open Cert.KernelIdeal Cert.KernelIdeal.Gen Cert.Proof.KernelIdeal Cert.Proof.KernelIdeal.Val
open Cert.Proof.RefVal (row2 row3 loss loss_eq)
open Idealize.ShloMosaic
open scoped BigOperators

/-! # The kernel's result is the reference's, when every logit is a real number -/

/-- Row `j` of block `b`. -/
def rw32 (b : Fin 32) (j : Fin 128) : Fin 4096 := ⟨128 * b.val + j.val, by have := b.isLt; have := j.isLt; omega⟩

/-- A sum over the blocks and their rows is a sum over the rows. -/
theorem sum_blocks {M : Type} [AddCommMonoid M] (f : Fin 4096 → M) : ∑ b : Fin 32, ∑ j : Fin 128, f (rw32 b j) = ∑ r : Fin 4096, f r := by
  rw [← Fintype.sum_prod_type' fun b j => f (rw32 b j)]
  exact Fintype.sum_equiv (finProdFinEquiv (m := 32) (n := 128)) _ _ fun p => congrArg f (Fin.ext (Nat.add_comm _ _))

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

section Kernel
variable (a : S4x1024x8192.Idx → EReal) (t : S4x1024.Idx → BitVec 32)

theorem rT_at (r : Fin 4096) : rT t (ix1 r.val) = t (row2 r) :=
  shapeCast_apply t shapeCasts_S4x1024_S4096 _ (row2 r) (by
    rw [Shape.rowMajor_val_two, Shape.rowMajor_val_one]; show r.val / 1024 * 1024 + r.val % 1024 = r.val % 4096
    have := r.isLt; omega)

theorem rTg_at (b : Fin 32) (j : Fin 128) : rTg t (tIx b.val j.val) = t (row2 (rw32 b j)) := by
  refine (shapeCast_apply (rT t) shapeCasts_S4096_S32x1x128 _ (ix1 (rw32 b j).val) ?_).trans (rT_at t _)
  rw [Shape.rowMajor_val_one, Shape.rowMajor_val_three]; show (128 * b.val + j.val) % 4096 = (b.val % 32 * 1 + 0) * 128 + j.val % 128
  have := b.isLt; have := j.isLt; omega

theorem rA_at (r : Fin 4096) (v : Fin 8192) : rA (F := Ideal) a (ix2 r.val v.val) = a (row3 r v) :=
  shapeCast_apply a shapeCasts_S4x1024x8192_S4096x8192 _ (row3 r v) (by
    rw [Shape.rowMajor_val_two, Shape.rowMajor_val_three]; show (r.val / 1024 * 1024 + r.val % 1024) * 8192 + v.val = r.val % 4096 * 8192 + v.val % 8192
    have := r.isLt; have := v.isLt; omega)

/-- The class of row `r`. -/
def cls (ht : ∀ i, (t i).toNat < 8192) (r : Fin 4096) : Fin 8192 := ⟨(t (row2 r)).toNat, ht _⟩

/-- The gathered chunk of row `r`, in its target's lane, is the logit of the row's class. -/
theorem rG_at (ht : ∀ i, (t i).toNat < 8192) (b : Fin 32) (j v : Fin 128) (hv : v.val = (t (row2 (rw32 b j))).toNat % 128) :
    rG (F := Ideal) a t (cube b j v) = a (row3 (rw32 b j) (cls t ht (rw32 b j))) := by
  refine (shapeCast_apply (gath (F := Ideal) (rA (F := Ideal) a) (rT t)) shapeCasts_S4096x128_S32x128x128 _ (Idealize.ShloMosaic.ix2 (rw32 b j) v) ?_).trans ?_
  · rw [Shape.rowMajor_val_two, Shape.rowMajor_val_three]; show (128 * b.val + j.val) * 128 + v.val = (b.val * 128 + j.val) * 128 + v.val; omega
  · have e : gath (F := Ideal) (rA (F := Ideal) a) (rT t) (Idealize.ShloMosaic.ix2 (rw32 b j) v)
        = rA (F := Ideal) a (ix2 (rw32 b j).val ((rT t (ix1 (rw32 b j).val)).toNat / 128 * 128 + v.val)) := rfl
    rw [e, rT_at, hv, Nat.div_add_mod']
    exact rA_at a (rw32 b j) (cls t ht (rw32 b j))

theorem r7_eq (i : S1x1.Idx) :
    r7 (F := Ideal) a t i = ((-1 / 81900 : ℝ) : EReal) * ∑ r : Fin 4096, if t (row2 r) ≠ 0#32 then ∑ v : Fin 8192, a (row3 r v) else 0 := by
  have e : r7 (F := Ideal) a t i = o1 (F := Ideal) (rA (F := Ideal) a) (rTg t) (Shape.reshapeEquiv shapeCasts_S1x1_S_ (Shape.reshapeEquiv shapeCasts_S_S1x1 i)) := rfl
  rw [e, o1_eq, Finset.sum_range, ← sum_blocks]
  refine congrArg (_ * ·) (Finset.sum_congr rfl fun b _ => Finset.sum_congr rfl fun j _ => ?_)
  rw [rTg_at]
  exact if_congr Iff.rfl (Finset.sum_congr rfl fun v _ => rA_at a (rw32 b j) v) rfl

theorem res_eq (ht : ∀ i, (t i).toNat < 8192) (i : S_.Idx) :
    res (F := Ideal) a t i = ((-1 / 81900 : ℝ) : EReal) * (∑ r : Fin 4096, if t (row2 r) ≠ 0#32 then ∑ v : Fin 8192, a (row3 r v) else 0)
      + ((-73709 / 81900 : ℝ) : EReal) * ∑ r : Fin 4096, if t (row2 r) ≠ 0#32 then a (row3 r (cls t ht r)) else 0 := by
  have e : res (F := Ideal) a t i = o2 (F := Ideal) (rTg t) (rG (F := Ideal) a t) (r7 (F := Ideal) a t) (Shape.reshapeEquiv shapeCasts_S1x1_S_ i) := rfl
  rw [e, o2_eq, r7_eq, ← sum_blocks fun r => if t (row2 r) ≠ 0#32 then a (row3 r (cls t ht r)) else 0]
  refine congrArg (_ + _ * ·) (Finset.sum_congr rfl fun b _ => Finset.sum_congr rfl fun j _ => ?_)
  exact if_congr (by rw [rTg_at]) (rG_at a t ht b j _ (by show (rTg t _).toNat % 128 = _; rw [rTg_at])) rfl

end Kernel

section Reals
variable (x : S4x1024x8192.Idx → ℝ) (t : S4x1024.Idx → BitVec 32)

/-- One row of the loss, over the reals: its smoothed target's weight is a constant plus a gain at the class. -/
theorem row_real (ht : ∀ i, (t i).toNat < 8192) (r : Fin 4096) :
    (-1 : ℝ) * ∑ v : Fin 8192, (if t (row2 r) = 0#32 then 0 else x (row3 r v))
      * (if t (row2 r) = 0#32 then 0 else if t (row2 r) = BitVec.ofNat 32 v.val then (9 / 10 : ℝ) else (1 / 81900 : ℝ))
    = (-1 / 81900 : ℝ) * (if t (row2 r) ≠ 0#32 then ∑ v : Fin 8192, x (row3 r v) else 0)
      + (-73709 / 81900 : ℝ) * (if t (row2 r) ≠ 0#32 then x (row3 r (cls t ht r)) else 0) := by
  by_cases h : t (row2 r) = 0#32
  · simp [h]
  · simp only [h, if_false, ne_eq, not_false_eq_true, if_true]
    have e : ∀ v : Fin 8192, x (row3 r v) * (if t (row2 r) = BitVec.ofNat 32 v.val then (9 / 10 : ℝ) else (1 / 81900 : ℝ))
        = 1 / 81900 * x (row3 r v) + if cls t ht r = v then 73709 / 81900 * x (row3 r v) else 0 := by
      intro v
      have hc : t (row2 r) = BitVec.ofNat 32 v.val ↔ cls t ht r = v := by
        rw [← BitVec.toNat_inj, BitVec.toNat_ofNat, Nat.mod_eq_of_lt (by have := v.isLt; omega)]
        exact ⟨fun h => Fin.ext h, fun h => congrArg Fin.val h⟩
      rw [if_congr hc rfl rfl]
      split <;> ring
    rw [Finset.sum_congr rfl fun v _ => e v, Finset.sum_add_distrib, Finset.sum_ite_eq, if_pos (Finset.mem_univ _), ← Finset.mul_sum]
    ring

theorem loss_real (a : S4x1024x8192.Idx → EReal) (ha : ∀ k, a k = (x k : EReal)) (i : S_.Idx) :
    loss a t i = ((∑ r : Fin 4096, (-1 : ℝ) * ∑ v : Fin 8192, (if t (row2 r) = 0#32 then 0 else x (row3 r v))
      * (if t (row2 r) = 0#32 then 0 else if t (row2 r) = BitVec.ofNat 32 v.val then (9 / 10 : ℝ) else (1 / 81900 : ℝ)) : ℝ) : EReal) := by
  rw [loss_eq, coe_sum]
  refine Finset.sum_congr rfl fun r _ => ?_
  rw [EReal.coe_mul, coe_sum]
  refine congrArg (_ * ·) (Finset.sum_congr rfl fun v _ => ?_)
  rw [EReal.coe_mul, ha]
  refine congrArg₂ (· * ·) ?_ ?_
  · split <;> rfl
  · split
    · rfl
    · split <;> rfl

theorem res_real (ht : ∀ i, (t i).toNat < 8192) (a : S4x1024x8192.Idx → EReal) (ha : ∀ k, a k = (x k : EReal)) (i : S_.Idx) :
    res (F := Ideal) a t i = (((-1 / 81900 : ℝ) * (∑ r : Fin 4096, if t (row2 r) ≠ 0#32 then ∑ v : Fin 8192, x (row3 r v) else 0)
      + (-73709 / 81900 : ℝ) * ∑ r : Fin 4096, (if t (row2 r) ≠ 0#32 then x (row3 r (cls t ht r)) else 0) : ℝ) : EReal) := by
  rw [res_eq a t ht, EReal.coe_add, EReal.coe_mul, EReal.coe_mul, coe_sum, coe_sum]
  refine congrArg₂ (· + ·) (congrArg (_ * ·) (Finset.sum_congr rfl fun r _ => ?_)) (congrArg (_ * ·) (Finset.sum_congr rfl fun r _ => ?_))
  · split
    · rw [coe_sum]; exact Finset.sum_congr rfl fun v _ => ha _
    · rfl
  · split
    · exact ha _
    · rfl

end Reals

/-- For real logits and targets that are classes, the kernel's result is the reference's. -/
theorem res_loss (a : S4x1024x8192.Idx → EReal) (t : S4x1024.Idx → BitVec 32) (ht : ∀ i, (t i).toNat < 8192)
    (ha : ∀ k, ∃ x : ℝ, a k = (x : EReal)) : loss a t = res (F := Ideal) a t := by
  choose x hx using ha
  funext i
  rw [loss_real x t a hx, res_real x t ht a hx]
  refine congrArg _ ?_
  rw [Finset.mul_sum, Finset.mul_sum, ← Finset.sum_add_distrib]
  exact Finset.sum_congr rfl fun r _ => row_real x t ht r

end Cert.Proof.Total

end
-- ==== Proof.Algebra.lean ====
module

public import proofs.«01_k».proof.Proof.Inputs
public import proofs.«01_k».proof.Proof.Total
public import proofs.«01_k».proof.Proof.Gen.Pre_finite_in_vocab

@[expose] public section

noncomputable section

namespace Cert.Proof.Algebra

open Idealize.ShloMosaic Idealize.SL.Sem Cert.Proof.KernelIdeal

/-! # The kernel and the reference end at the same loss -/

theorem algebraic : Cert.algebraic_KernelIdeal_ReferenceIdeal_pre_finite_in_vocab (hKernelIdeal := Cert.KernelIdeal.Gen.facts)
    (hReferenceIdeal := Cert.ReferenceIdeal.Gen.facts) (hPre_finite_in_vocab := Cert.Pre_finite_in_vocab.Gen.facts) := fun m g m' g' hpre hag =>
  ⟨fun c => res (F := Ideal) (arg0 m c) (arg1 m c),
   (θ_run (Cert.KernelIdeal.defs (F := Ideal)) _ _).mono (fun _ h c => h.1 c)
     (run_main (F := Ideal) m g fun d i => Inputs.finite_lt _ _ (hpre d) i),
   (θ_run (Cert.ReferenceIdeal.defs (F := Ideal)) _ _).mono
     (fun _ h c => ⟨(h c).1.trans ((congrArg₂ RefVal.loss (hag c).1 (hag c).2).trans
       (Total.res_loss (arg0 (F := Ideal) m c) (arg1 (F := Ideal) m c) (fun i => Inputs.finite_lt _ _ (hpre c) i) fun k => Inputs.finite_real _ _ (hpre c) k)), (h c).2⟩)
     (RefVal.run m' g')⟩

end Cert.Proof.Algebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocab
public import proofs.«01_k».proof.Proof.Gen.Pre_finite_in_vocab
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_vocab.Gen.facts, Cert.Pre_finite_in_vocab.Gen.facts,
  Frames.kernel, Frames.ideal, Frames.ideal_finite, Frames.reference, Frames.reference_finite, Frames.preserves, Algebra.algebraic⟩

end Cert.Proof

end
